-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_alpha_nonzero [hPre_alpha_nonzero : Cert.Pre_alpha_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_alpha_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_RefIdeal (m : (ℓ : Loc Cert.RefIdeal.nD Cert.RefIdeal.τ Cert.RefIdeal.sig) → Buf (Elt Ideal) ℓ) : Prop :=
  True

def Pre_RefIdeal_alpha_nonzero [hPre_alpha_nonzero : Cert.Pre_alpha_nonzero.Facts] (m : (ℓ : Loc Cert.RefIdeal.nD Cert.RefIdeal.τ Cert.RefIdeal.sig) → Buf (Elt Ideal) ℓ) : Prop :=
  ∀ c : Dev Cert.RefIdeal.nD,
    (Cert.Pre_alpha_nonzero.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4)) (m ((c.tc : Thread Cert.RefIdeal.nD Cert.RefIdeal.τ).loc Cert.RefIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_alpha_nonzero [hKernelIdeal : Cert.KernelIdeal.Facts] [hPre_alpha_nonzero : Cert.Pre_alpha_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_alpha_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_RefIdeal [hRefIdeal : Cert.RefIdeal.Facts] : Prop :=
  ∀ (m : (ℓ : Loc Cert.RefIdeal.nD Cert.RefIdeal.τ Cert.RefIdeal.sig) → Buf (Elt Ideal) ℓ) (g : Dev Cert.RefIdeal.nD → PrngReg), Pre_RefIdeal m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5))
      ∧ r.2.sem = fun _ => 0)

def quiescent_RefIdeal_pre_alpha_nonzero [hRefIdeal : Cert.RefIdeal.Facts] [hPre_alpha_nonzero : Cert.Pre_alpha_nonzero.Facts] : Prop :=
  ∀ (m : (ℓ : Loc Cert.RefIdeal.nD Cert.RefIdeal.τ Cert.RefIdeal.sig) → Buf (Elt Ideal) ℓ) (g : Dev Cert.RefIdeal.nD → PrngReg), Pre_RefIdeal_alpha_nonzero m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5))
      ∧ r.2.sem = fun _ => 0)

def preserves_Kernel_KernelIdeal : Prop :=
  IdealRules.named_const.Statement Cert.KernelIdeal.κ "inv7" .f32 0x3E124925#32 ((1 / 7 : ℝ) : EReal)

def algebraic_KernelIdeal_RefIdeal_pre_alpha_nonzero [hKernelIdeal : Cert.KernelIdeal.Facts] [hRefIdeal : Cert.RefIdeal.Facts] [hPre_alpha_nonzero : Cert.Pre_alpha_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.RefIdeal.nD Cert.RefIdeal.τ Cert.RefIdeal.sig) → Buf (Elt Ideal) ℓ) (g' : Dev Cert.RefIdeal.nD → PrngReg), Pre_KernelIdeal_alpha_nonzero m →
    (∀ c : Dev Cert.KernelIdeal.nD,
      m' ((c.tc : Thread Cert.RefIdeal.nD Cert.RefIdeal.τ).loc Cert.RefIdeal.main_arg0) = m ((c.tc : Thread Cert.KernelIdeal.nD Cert.KernelIdeal.τ).loc Cert.KernelIdeal.main_arg0)
      ∧ m' ((c.tc : Thread Cert.RefIdeal.nD Cert.RefIdeal.τ).loc Cert.RefIdeal.main_arg1) = m ((c.tc : Thread Cert.KernelIdeal.nD Cert.KernelIdeal.τ).loc Cert.KernelIdeal.main_arg1)
      ∧ m' ((c.tc : Thread Cert.RefIdeal.nD Cert.RefIdeal.τ).loc Cert.RefIdeal.main_arg2) = m ((c.tc : Thread Cert.KernelIdeal.nD Cert.KernelIdeal.τ).loc Cert.KernelIdeal.main_arg2)
      ∧ m' ((c.tc : Thread Cert.RefIdeal.nD Cert.RefIdeal.τ).loc Cert.RefIdeal.main_arg3) = m ((c.tc : Thread Cert.KernelIdeal.nD Cert.KernelIdeal.τ).loc Cert.KernelIdeal.main_arg3)
      ∧ m' ((c.tc : Thread Cert.RefIdeal.nD Cert.RefIdeal.τ).loc Cert.RefIdeal.main_arg4) = m ((c.tc : Thread Cert.KernelIdeal.nD Cert.KernelIdeal.τ).loc Cert.KernelIdeal.main_arg4)
      ∧ m' ((c.tc : Thread Cert.RefIdeal.nD Cert.RefIdeal.τ).loc Cert.RefIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v6)) (v4 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_v7) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.RefIdeal.defs (F := Ideal)) (onTc (τ := Cert.RefIdeal.τ) (Cert.RefIdeal.main (F := Ideal))) ⟨m', fun _ => 0, g'⟩ (fun r => ∀ c : Dev Cert.RefIdeal.nD,
          r.2.mem ((c.tc : Thread Cert.RefIdeal.nD Cert.RefIdeal.τ).loc Cert.RefIdeal.main_v60) = v0 c
          ∧ r.2.mem ((c.tc : Thread Cert.RefIdeal.nD Cert.RefIdeal.τ).loc Cert.RefIdeal.main_v45) = v1 c
          ∧ r.2.mem ((c.tc : Thread Cert.RefIdeal.nD Cert.RefIdeal.τ).loc Cert.RefIdeal.main_v44) = v2 c
          ∧ r.2.mem ((c.tc : Thread Cert.RefIdeal.nD Cert.RefIdeal.τ).loc Cert.RefIdeal.main_v71) = v3 c
          ∧ r.2.mem ((c.tc : Thread Cert.RefIdeal.nD Cert.RefIdeal.τ).loc Cert.RefIdeal.main_v26) = v4 c
          ∧ r.2.mem ((c.tc : Thread Cert.RefIdeal.nD Cert.RefIdeal.τ).loc Cert.RefIdeal.main_arg0) = m' ((c.tc : Thread Cert.RefIdeal.nD Cert.RefIdeal.τ).loc Cert.RefIdeal.main_arg0)
          ∧ r.2.mem ((c.tc : Thread Cert.RefIdeal.nD Cert.RefIdeal.τ).loc Cert.RefIdeal.main_arg1) = m' ((c.tc : Thread Cert.RefIdeal.nD Cert.RefIdeal.τ).loc Cert.RefIdeal.main_arg1)
          ∧ r.2.mem ((c.tc : Thread Cert.RefIdeal.nD Cert.RefIdeal.τ).loc Cert.RefIdeal.main_arg2) = m' ((c.tc : Thread Cert.RefIdeal.nD Cert.RefIdeal.τ).loc Cert.RefIdeal.main_arg2)
          ∧ r.2.mem ((c.tc : Thread Cert.RefIdeal.nD Cert.RefIdeal.τ).loc Cert.RefIdeal.main_arg3) = m' ((c.tc : Thread Cert.RefIdeal.nD Cert.RefIdeal.τ).loc Cert.RefIdeal.main_arg3)
          ∧ r.2.mem ((c.tc : Thread Cert.RefIdeal.nD Cert.RefIdeal.τ).loc Cert.RefIdeal.main_arg4) = m' ((c.tc : Thread Cert.RefIdeal.nD Cert.RefIdeal.τ).loc Cert.RefIdeal.main_arg4)
          ∧ r.2.mem ((c.tc : Thread Cert.RefIdeal.nD Cert.RefIdeal.τ).loc Cert.RefIdeal.main_arg5) = m' ((c.tc : Thread Cert.RefIdeal.nD Cert.RefIdeal.τ).loc Cert.RefIdeal.main_arg5))

def Claim : Prop :=
  ∃ (hKernel : Cert.Kernel.Facts) (hKernelIdeal : Cert.KernelIdeal.Facts) (hRefIdeal : Cert.RefIdeal.Facts) (hPre_alpha_nonzero : Cert.Pre_alpha_nonzero.Facts),
    quiescent_Kernel (hKernel := hKernel)
    ∧ quiescent_KernelIdeal (hKernelIdeal := hKernelIdeal)
    ∧ quiescent_KernelIdeal_pre_alpha_nonzero (hKernelIdeal := hKernelIdeal) (hPre_alpha_nonzero := hPre_alpha_nonzero)
    ∧ quiescent_RefIdeal (hRefIdeal := hRefIdeal)
    ∧ quiescent_RefIdeal_pre_alpha_nonzero (hRefIdeal := hRefIdeal) (hPre_alpha_nonzero := hPre_alpha_nonzero)
    ∧ preserves_Kernel_KernelIdeal
    ∧ algebraic_KernelIdeal_RefIdeal_pre_alpha_nonzero (hKernelIdeal := hKernelIdeal) (hRefIdeal := hRefIdeal) (hPre_alpha_nonzero := hPre_alpha_nonzero)
-- ==== Pre_alpha_nonzero.lean ====
abbrev S2x1024x4096 : Shape := ⟨3, ![2, 1024, 4096]⟩
abbrev S2x1024x64 : Shape := ⟨3, ![2, 1024, 64]⟩
abbrev S32 : Shape := ⟨1, ![32]⟩
abbrev S2x1024x32x128 : Shape := ⟨4, ![2, 1024, 32, 128]⟩
abbrev S2x1024x32 : Shape := ⟨3, ![2, 1024, 32]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : FVec F S2x1024x4096 .bf16) (main_arg1 : FVec F S2x1024x64 .f32) (main_arg2 : FVec F S2x1024x64 .f32) (main_arg3 : FVec F S32 .f32) (main_arg4 : IVec S2x1024x32x128 8) (main_arg5 : FVec F S2x1024x32 .f32) : IVec S_ 1 :=
  let main_cst : FVec F S_ .f32 := constant S_ .f32 0x00000000#32
  let main_v0 : FVec F S32 .f32 := broadcastInDim S32 ![] bcast_S_S32 main_cst
  let main_v1 : IVec S32 1 := cmpf .une main_arg3 main_v0
  let main_c : IVec S_ 1 := constantI S_ 1 1#1
  let main_v2 : IVec S_ 1 := (fun x v => Host.reduce IntOp.andi x v reducesTo_S32_S_d0 h_S_) main_v1 main_c
  main_v2
-- ==== Kernel.lean ====
abbrev S2x1024x4096 : Shape := ⟨3, ![2, 1024, 4096]⟩
abbrev S2x1024x64 : Shape := ⟨3, ![2, 1024, 64]⟩
abbrev S32 : Shape := ⟨1, ![32]⟩
abbrev S2x1024x32x128 : Shape := ⟨4, ![2, 1024, 32, 128]⟩
abbrev S2x1024x32 : Shape := ⟨3, ![2, 1024, 32]⟩
abbrev S2x64x1024 : Shape := ⟨3, ![2, 64, 1024]⟩
abbrev S2x32x1024 : Shape := ⟨3, ![2, 32, 1024]⟩
abbrev S1x32 : Shape := ⟨2, ![1, 32]⟩
abbrev S2x32x64x1024 : Shape := ⟨4, ![2, 32, 64, 1024]⟩
abbrev S1x128x4096 : Shape := ⟨3, ![1, 128, 4096]⟩
abbrev S1x64x128 : Shape := ⟨3, ![1, 64, 128]⟩
abbrev S1x128x32x128 : Shape := ⟨4, ![1, 128, 32, 128]⟩
abbrev S1x32x128 : Shape := ⟨3, ![1, 32, 128]⟩
abbrev S1x32x64x128 : Shape := ⟨4, ![1, 32, 64, 128]⟩
abbrev S1056x128 : Shape := ⟨2, ![1056, 128]⟩
abbrev S2x256x128 : Shape := ⟨3, ![2, 256, 128]⟩
abbrev S32x128x128 : Shape := ⟨3, ![32, 128, 128]⟩
abbrev S32x128 : Shape := ⟨2, ![32, 128]⟩
abbrev S256x256 : Shape := ⟨2, ![256, 256]⟩
abbrev S64x128 : Shape := ⟨2, ![64, 128]⟩
abbrev S1 : Shape := ⟨1, ![1]⟩
abbrev S1x1x32x128 : Shape := ⟨4, ![1, 1, 32, 128]⟩
abbrev S8x128 : Shape := ⟨2, ![8, 128]⟩
abbrev S1x128x128 : Shape := ⟨3, ![1, 128, 128]⟩
abbrev S128x128 : Shape := ⟨2, ![128, 128]⟩
abbrev S16x128 : Shape := ⟨2, ![16, 128]⟩
abbrev S1x16x128 : Shape := ⟨3, ![1, 16, 128]⟩
abbrev S128 : Shape := ⟨1, ![128]⟩
abbrev S1x128 : Shape := ⟨2, ![1, 128]⟩
abbrev S256x128 : Shape := ⟨2, ![256, 128]⟩
abbrev S1x256x128 : Shape := ⟨3, ![1, 256, 128]⟩
abbrev S1x1x128 : Shape := ⟨3, ![1, 1, 128]⟩
abbrev S1x1x64x128 : Shape := ⟨4, ![1, 1, 64, 128]⟩
abbrev S128x32 : Shape := ⟨2, ![128, 32]⟩
abbrev S2x1024x32x64 : Shape := ⟨4, ![2, 1024, 32, 64]⟩

abbrev nBuf : Space → Nat
  | .hbm => 18
  | .vmem => 29
  | .smem => 1
  | _ => 0

abbrev bufTy : (tb : Table) → Fin (tcTables nBuf tb) → BufTy
  | .hbm, ⟨0, _⟩ => ⟨S2x1024x4096, .bf16⟩
  | .hbm, ⟨1, _⟩ => ⟨S2x1024x64, .f32⟩
  | .hbm, ⟨2, _⟩ => ⟨S2x1024x64, .f32⟩
  | .hbm, ⟨3, _⟩ => ⟨S32, .f32⟩
  | .hbm, ⟨4, _⟩ => ⟨S2x1024x32x128, .i8⟩
  | .hbm, ⟨5, _⟩ => ⟨S2x1024x32, .f32⟩
  | .hbm, ⟨6, _⟩ => ⟨S2x64x1024, .f32⟩
  | .hbm, ⟨7, _⟩ => ⟨S2x64x1024, .f32⟩
  | .hbm, ⟨8, _⟩ => ⟨S2x32x1024, .f32⟩
  | .hbm, ⟨9, _⟩ => ⟨S2x1024x4096, .bf16⟩
  | .hbm, ⟨10, _⟩ => ⟨S1x32, .f32⟩
  | .hbm, ⟨11, _⟩ => ⟨S2x32x1024, .f32⟩
  | .hbm, ⟨12, _⟩ => ⟨S2x32x64x1024, .i8⟩
  | .hbm, ⟨13, _⟩ => ⟨S2x32x1024, .f32⟩
  | .hbm, ⟨14, _⟩ => ⟨S32, .f32⟩
  | .hbm, ⟨15, _⟩ => ⟨S2x1024x32, .f32⟩
  | .hbm, ⟨16, _⟩ => ⟨S2x1024x32x64, .i8⟩
  | .hbm, ⟨17, _⟩ => ⟨S2x1024x32, .f32⟩
  | .local _ .vmem, ⟨0, _⟩ => ⟨S1x128x4096, .bf16⟩
  | .local _ .vmem, ⟨1, _⟩ => ⟨S1x128x4096, .bf16⟩
  | .local _ .vmem, ⟨2, _⟩ => ⟨S1x64x128, .f32⟩
  | .local _ .vmem, ⟨3, _⟩ => ⟨S1x64x128, .f32⟩
  | .local _ .vmem, ⟨4, _⟩ => ⟨S1x64x128, .f32⟩
  | .local _ .vmem, ⟨5, _⟩ => ⟨S1x64x128, .f32⟩
  | .local _ .vmem, ⟨6, _⟩ => ⟨S1x128x32x128, .i8⟩
  | .local _ .vmem, ⟨7, _⟩ => ⟨S1x128x32x128, .i8⟩
  | .local _ .vmem, ⟨8, _⟩ => ⟨S1x32x128, .f32⟩
  | .local _ .vmem, ⟨9, _⟩ => ⟨S1x32x128, .f32⟩
  | .local _ .vmem, ⟨10, _⟩ => ⟨S1x128x4096, .bf16⟩
  | .local _ .vmem, ⟨11, _⟩ => ⟨S1x128x4096, .bf16⟩
  | .local _ .vmem, ⟨12, _⟩ => ⟨S1x32, .f32⟩
  | .local _ .vmem, ⟨13, _⟩ => ⟨S1x32x128, .f32⟩
  | .local _ .vmem, ⟨14, _⟩ => ⟨S1x32x128, .f32⟩
  | .local _ .vmem, ⟨15, _⟩ => ⟨S1x32x64x128, .i8⟩
  | .local _ .vmem, ⟨16, _⟩ => ⟨S1x32x64x128, .i8⟩
  | .local _ .vmem, ⟨17, _⟩ => ⟨S1x32x128, .f32⟩
  | .local _ .vmem, ⟨18, _⟩ => ⟨S1x32x128, .f32⟩
  | .local _ .vmem, ⟨19, _⟩ => ⟨S1056x128, .i32⟩
  | .local _ .vmem, ⟨20, _⟩ => ⟨S2x256x128, .f32⟩
  | .local _ .vmem, ⟨21, _⟩ => ⟨S32x128x128, .f32⟩
  | .local _ .vmem, ⟨22, _⟩ => ⟨S32x128, .f32⟩
  | .local _ .vmem, ⟨23, _⟩ => ⟨S32x128, .f32⟩
  | .local _ .vmem, ⟨24, _⟩ => ⟨S32x128, .f32⟩
  | .local _ .vmem, ⟨25, _⟩ => ⟨S256x256, .fp8e5m2⟩
  | .local _ .vmem, ⟨26, _⟩ => ⟨S64x128, .bf16⟩
  | .local _ .vmem, ⟨27, _⟩ => ⟨S32x128, .f32⟩
  | .local _ .vmem, ⟨28, _⟩ => ⟨S32x128, .f32⟩
  | .local _ .smem, ⟨0, _⟩ => ⟨S32, .f32⟩
  | _, _ => ⟨S2x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_scratch8 : Ref sig .tc := ⟨.vmem, 27, rfl⟩
abbrev cc0_scratch9 : Ref sig .tc := ⟨.vmem, 28, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_2 : BitVec 32 := 0#32
  let c128_i32 : BitVec 32 := 128#32
  let v8 : BitVec 32 := Scalar.addi c0_i32_2 c128_i32
  let c1_i32_3 : BitVec 32 := 1#32
  ⟨c0_i32_2, v8, c1_i32_3⟩
def k0_off1 (k0_t1 : Fin k0_t1_loop.trips) : Fin 4 → Nat :=
  let c0_35 : Index := 0#32
  let c0_i32_34 : BitVec 32 := 0#32
  let c0_i32_2 : BitVec 32 := 0#32
  let c1_i32_3 : BitVec 32 := 1#32
  let arg23 : BitVec 32 := Scf.iv c0_i32_2 c1_i32_3 k0_t1
  let c1_i32_33 : BitVec 32 := 1#32
  let v42 : BitVec 32 := Scalar.muli arg23 c1_i32_33
  let v43 : BitVec 32 := Scalar.addi c0_i32_34 v42
  let v44 : Index := Scalar.indexCast v43
  let c0_36 : Index := 0#32
  let c0_37 : Index := 0#32
  ![0, v44.toNat, 0, 0]
def k0_off2 (k0_t1 : Fin k0_t1_loop.trips) : Fin 2 → Nat :=
  let c0_i32_34 : BitVec 32 := 0#32
  let c0_i32_2 : BitVec 32 := 0#32
  let c1_i32_3 : BitVec 32 := 1#32
  let arg23 : BitVec 32 := Scf.iv c0_i32_2 c1_i32_3 k0_t1
  let c1_i32_33 : BitVec 32 := 1#32
  let v42 : BitVec 32 := Scalar.muli arg23 c1_i32_33
  let v43 : BitVec 32 := Scalar.addi c0_i32_34 v42
  let v48 : Index := Scalar.indexCast v43
  let c0_38 : Index := 0#32
  ![v48.toNat, 0]
@[reducible] def k0_t2_loop : Scf.Loop 32 :=
  let c0_i32_5 : BitVec 32 := 0#32
  let c32_i32 : BitVec 32 := 32#32
  let v9 : BitVec 32 := Scalar.addi c0_i32_5 c32_i32
  let c1_i32_6 : BitVec 32 := 1#32
  ⟨c0_i32_5, v9, c1_i32_6⟩
def k0_mult1 (k0_t2 : Fin k0_t2_loop.trips) : BitVec 32 :=
  let c0_i32_34 : BitVec 32 := 0#32
  let c0_i32_5 : BitVec 32 := 0#32
  let c1_i32_6 : BitVec 32 := 1#32
  let arg23 : BitVec 32 := Scf.iv c0_i32_5 c1_i32_6 k0_t2
  let c1_i32_33 : BitVec 32 := 1#32
  let v42 : BitVec 32 := Scalar.muli arg23 c1_i32_33
  let v43 : BitVec 32 := Scalar.addi c0_i32_34 v42
  let c128_i32_35 : BitVec 32 := 128#32
  let v44 : BitVec 32 := Scalar.muli v43 c128_i32_35
  v44
def k0_off3 (k0_t2 : Fin k0_t2_loop.trips) : Fin 3 → Nat :=
  let c0_36 : Index := 0#32
  let c0_37 : Index := 0#32
  let c0_i32_34 : BitVec 32 := 0#32
  let c0_i32_5 : BitVec 32 := 0#32
  let c1_i32_6 : BitVec 32 := 1#32
  let arg23 : BitVec 32 := Scf.iv c0_i32_5 c1_i32_6 k0_t2
  let c1_i32_33 : BitVec 32 := 1#32
  let v42 : BitVec 32 := Scalar.muli arg23 c1_i32_33
  let v43 : BitVec 32 := Scalar.addi c0_i32_34 v42
  let c128_i32_35 : BitVec 32 := 128#32
  let v44 : BitVec 32 := Scalar.muli v43 c128_i32_35
  let v45 : BitVec 32 := v44
  let v46 : Index := Scalar.indexCast v45
  ![0, 0, v46.toNat]
def k0_off4 (k0_t2 : Fin k0_t2_loop.trips) : Fin 3 → Nat :=
  let c0_i32_34 : BitVec 32 := 0#32
  let c0_i32_5 : BitVec 32 := 0#32
  let c1_i32_6 : BitVec 32 := 1#32
  let arg23 : BitVec 32 := Scf.iv c0_i32_5 c1_i32_6 k0_t2
  let c1_i32_33 : BitVec 32 := 1#32
  let v42 : BitVec 32 := Scalar.muli arg23 c1_i32_33
  let v43 : BitVec 32 := Scalar.addi c0_i32_34 v42
  let v64 : Index := Scalar.indexCast v43
  let c0_44 : Index := 0#32
  let c0_45 : Index := 0#32
  ![v64.toNat, 0, 0]
def k0_off5 (k0_t2 : Fin k0_t2_loop.trips) : Fin 3 → Nat :=
  let c0_i32_34 : BitVec 32 := 0#32
  let c0_i32_5 : BitVec 32 := 0#32
  let c1_i32_6 : BitVec 32 := 1#32
  let arg23 : BitVec 32 := Scf.iv c0_i32_5 c1_i32_6 k0_t2
  let c1_i32_33 : BitVec 32 := 1#32
  let v42 : BitVec 32 := Scalar.muli arg23 c1_i32_33
  let v43 : BitVec 32 := Scalar.addi c0_i32_34 v42
  let v68 : Index := Scalar.indexCast v43
  let c64 : Index := 64#32
  let c0_46 : Index := 0#32
  ![v68.toNat, 64, 0]
def k0_off6 (k0_t2 : Fin k0_t2_loop.trips) : Fin 3 → Nat :=
  let c0_i32_34 : BitVec 32 := 0#32
  let c0_i32_5 : BitVec 32 := 0#32
  let c1_i32_6 : BitVec 32 := 1#32
  let arg23 : BitVec 32 := Scf.iv c0_i32_5 c1_i32_6 k0_t2
  let c1_i32_33 : BitVec 32 := 1#32
  let v42 : BitVec 32 := Scalar.muli arg23 c1_i32_33
  let v43 : BitVec 32 := Scalar.addi c0_i32_34 v42
  let v92 : Index := Scalar.indexCast v43
  let c16_52 : Index := 16#32
  let c0_53 : Index := 0#32
  ![v92.toNat, 16, 0]
def k0_off7 (k0_t2 : Fin k0_t2_loop.trips) : Fin 3 → Nat :=
  let c0_i32_34 : BitVec 32 := 0#32
  let c0_i32_5 : BitVec 32 := 0#32
  let c1_i32_6 : BitVec 32 := 1#32
  let arg23 : BitVec 32 := Scf.iv c0_i32_5 c1_i32_6 k0_t2
  let c1_i32_33 : BitVec 32 := 1#32
  let v42 : BitVec 32 := Scalar.muli arg23 c1_i32_33
  let v43 : BitVec 32 := Scalar.addi c0_i32_34 v42
  let v96 : Index := Scalar.indexCast v43
  let c80 : Index := 80#32
  let c0_54 : Index := 0#32
  ![v96.toNat, 80, 0]
def k0_off8 (k0_t2 : Fin k0_t2_loop.trips) : Fin 3 → Nat :=
  let c0_i32_34 : BitVec 32 := 0#32
  let c0_i32_5 : BitVec 32 := 0#32
  let c1_i32_6 : BitVec 32 := 1#32
  let arg23 : BitVec 32 := Scf.iv c0_i32_5 c1_i32_6 k0_t2
  let c1_i32_33 : BitVec 32 := 1#32
  let v42 : BitVec 32 := Scalar.muli arg23 c1_i32_33
  let v43 : BitVec 32 := Scalar.addi c0_i32_34 v42
  let v121 : Index := Scalar.indexCast v43
  let c32_60 : Index := 32#32
  let c0_61 : Index := 0#32
  ![v121.toNat, 32, 0]
def k0_off9 (k0_t2 : Fin k0_t2_loop.trips) : Fin 3 → Nat :=
  let c0_i32_34 : BitVec 32 := 0#32
  let c0_i32_5 : BitVec 32 := 0#32
  let c1_i32_6 : BitVec 32 := 1#32
  let arg23 : BitVec 32 := Scf.iv c0_i32_5 c1_i32_6 k0_t2
  let c1_i32_33 : BitVec 32 := 1#32
  let v42 : BitVec 32 := Scalar.muli arg23 c1_i32_33
  let v43 : BitVec 32 := Scalar.addi c0_i32_34 v42
  let v125 : Index := Scalar.indexCast v43
  let c96 : Index := 96#32
  let c0_62 : Index := 0#32
  ![v125.toNat, 96, 0]
def k0_off10 (k0_t2 : Fin k0_t2_loop.trips) : Fin 3 → Nat :=
  let c0_i32_34 : BitVec 32 := 0#32
  let c0_i32_5 : BitVec 32 := 0#32
  let c1_i32_6 : BitVec 32 := 1#32
  let arg23 : BitVec 32 := Scf.iv c0_i32_5 c1_i32_6 k0_t2
  let c1_i32_33 : BitVec 32 := 1#32
  let v42 : BitVec 32 := Scalar.muli arg23 c1_i32_33
  let v43 : BitVec 32 := Scalar.addi c0_i32_34 v42
  let v150 : Index := Scalar.indexCast v43
  let c48_68 : Index := 48#32
  let c0_69 : Index := 0#32
  ![v150.toNat, 48, 0]
def k0_off11 (k0_t2 : Fin k0_t2_loop.trips) : Fin 3 → Nat :=
  let c0_i32_34 : BitVec 32 := 0#32
  let c0_i32_5 : BitVec 32 := 0#32
  let c1_i32_6 : BitVec 32 := 1#32
  let arg23 : BitVec 32 := Scf.iv c0_i32_5 c1_i32_6 k0_t2
  let c1_i32_33 : BitVec 32 := 1#32
  let v42 : BitVec 32 := Scalar.muli arg23 c1_i32_33
  let v43 : BitVec 32 := Scalar.addi c0_i32_34 v42
  let v154 : Index := Scalar.indexCast v43
  let c112 : Index := 112#32
  let c0_70 : Index := 0#32
  ![v154.toNat, 112, 0]
def k0_off12 (k0_t2 : Fin k0_t2_loop.trips) : Fin 2 → Nat :=
  let c0_i32_34 : BitVec 32 := 0#32
  let c0_i32_5 : BitVec 32 := 0#32
  let c1_i32_6 : BitVec 32 := 1#32
  let arg23 : BitVec 32 := Scf.iv c0_i32_5 c1_i32_6 k0_t2
  let c1_i32_33 : BitVec 32 := 1#32
  let v42 : BitVec 32 := Scalar.muli arg23 c1_i32_33
  let v43 : BitVec 32 := Scalar.addi c0_i32_34 v42
  let v167 : Index := Scalar.indexCast v43
  let c0_72 : Index := 0#32
  ![v167.toNat, 0]
@[reducible] def k0_t3_loop : Scf.Loop 32 :=
  let c0_i32_19 : BitVec 32 := 0#32
  let c8_i32 : BitVec 32 := 8#32
  let v27 : BitVec 32 := Scalar.addi c0_i32_19 c8_i32
  let c1_i32_20 : BitVec 32 := 1#32
  ⟨c0_i32_19, v27, c1_i32_20⟩
def k0_off13 (k0_t3 : Fin k0_t3_loop.trips) : Fin 2 → Nat :=
  let c0_i32_34 : BitVec 32 := 0#32
  let c0_i32_19 : BitVec 32 := 0#32
  let c1_i32_20 : BitVec 32 := 1#32
  let arg23 : BitVec 32 := Scf.iv c0_i32_19 c1_i32_20 k0_t3
  let c1_i32_33 : BitVec 32 := 1#32
  let v42 : BitVec 32 := Scalar.muli arg23 c1_i32_33
  let v43 : BitVec 32 := Scalar.addi c0_i32_34 v42
  let c132_i32 : BitVec 32 := 132#32
  let v44 : BitVec 32 := Scalar.muli v43 c132_i32
  let v45 : Index := Scalar.indexCast v44
  let c0_35 : Index := 0#32
  ![v45.toNat, 0]
@[reducible] def k0_t4_loop : Scf.Loop 32 :=
  let c0_i32_47 : BitVec 32 := 0#32
  let c4_i32 : BitVec 32 := 4#32
  let v62 : BitVec 32 := Scalar.addi c0_i32_47 c4_i32
  let c1_i32_48 : BitVec 32 := 1#32
  ⟨c0_i32_47, v62, c1_i32_48⟩
def k0_off14 (k0_t3 : Fin k0_t3_loop.trips) (k0_t4 : Fin k0_t4_loop.trips) : Fin 2 → Nat :=
  let c0_i32_34 : BitVec 32 := 0#32
  let c0_i32_19 : BitVec 32 := 0#32
  let c1_i32_20 : BitVec 32 := 1#32
  let arg23 : BitVec 32 := Scf.iv c0_i32_19 c1_i32_20 k0_t3
  let c1_i32_33 : BitVec 32 := 1#32
  let v42 : BitVec 32 := Scalar.muli arg23 c1_i32_33
  let v43 : BitVec 32 := Scalar.addi c0_i32_34 v42
  let c4_i32_52 : BitVec 32 := 4#32
  let v65 : BitVec 32 := Scalar.muli v43 c4_i32_52
  let c0_i32_51 : BitVec 32 := 0#32
  let c0_i32_47 : BitVec 32 := 0#32
  let c1_i32_48 : BitVec 32 := 1#32
  let arg24 : BitVec 32 := Scf.iv c0_i32_47 c1_i32_48 k0_t4
  let c1_i32_50 : BitVec 32 := 1#32
  let v63 : BitVec 32 := Scalar.muli arg24 c1_i32_50
  let v64 : BitVec 32 := Scalar.addi c0_i32_51 v63
  let v66 : BitVec 32 := Scalar.addi v65 v64
  let v67 : Index := Scalar.indexCast v66
  let c0_53 : Index := 0#32
  ![v67.toNat, 0]
def k0_off15 (k0_t3 : Fin k0_t3_loop.trips) (k0_t4 : Fin k0_t4_loop.trips) : Fin 3 → Nat :=
  let c0_54 : Index := 0#32
  let c0_i32_34 : BitVec 32 := 0#32
  let c0_i32_19 : BitVec 32 := 0#32
  let c1_i32_20 : BitVec 32 := 1#32
  let arg23 : BitVec 32 := Scf.iv c0_i32_19 c1_i32_20 k0_t3
  let c1_i32_33 : BitVec 32 := 1#32
  let v42 : BitVec 32 := Scalar.muli arg23 c1_i32_33
  let v43 : BitVec 32 := Scalar.addi c0_i32_34 v42
  let c4_i32_52 : BitVec 32 := 4#32
  let v65 : BitVec 32 := Scalar.muli v43 c4_i32_52
  let c0_i32_51 : BitVec 32 := 0#32
  let c0_i32_47 : BitVec 32 := 0#32
  let c1_i32_48 : BitVec 32 := 1#32
  let arg24 : BitVec 32 := Scf.iv c0_i32_47 c1_i32_48 k0_t4
  let c1_i32_50 : BitVec 32 := 1#32
  let v63 : BitVec 32 := Scalar.muli arg24 c1_i32_50
  let v64 : BitVec 32 := Scalar.addi c0_i32_51 v63
  let v66 : BitVec 32 := Scalar.addi v65 v64
  let v69 : Index := Scalar.indexCast v66
  let c0_55 : Index := 0#32
  ![0, v69.toNat, 0]
def k0_off16 (k0_t3 : Fin k0_t3_loop.trips) (k0_t4 : Fin k0_t4_loop.trips) : Fin 3 → Nat :=
  let c0_i32_34 : BitVec 32 := 0#32
  let c0_i32_19 : BitVec 32 := 0#32
  let c1_i32_20 : BitVec 32 := 1#32
  let arg23 : BitVec 32 := Scf.iv c0_i32_19 c1_i32_20 k0_t3
  let c1_i32_33 : BitVec 32 := 1#32
  let v42 : BitVec 32 := Scalar.muli arg23 c1_i32_33
  let v43 : BitVec 32 := Scalar.addi c0_i32_34 v42
  let c4_i32_52 : BitVec 32 := 4#32
  let v65 : BitVec 32 := Scalar.muli v43 c4_i32_52
  let c0_i32_51 : BitVec 32 := 0#32
  let c0_i32_47 : BitVec 32 := 0#32
  let c1_i32_48 : BitVec 32 := 1#32
  let arg24 : BitVec 32 := Scf.iv c0_i32_47 c1_i32_48 k0_t4
  let c1_i32_50 : BitVec 32 := 1#32
  let v63 : BitVec 32 := Scalar.muli arg24 c1_i32_50
  let v64 : BitVec 32 := Scalar.addi c0_i32_51 v63
  let v66 : BitVec 32 := Scalar.addi v65 v64
  let v77 : Index := Scalar.indexCast v66
  let c0_63 : Index := 0#32
  let c0_64 : Index := 0#32
  ![v77.toNat, 0, 0]
def k0_mult2 (k0_t4 : Fin k0_t4_loop.trips) : BitVec 32 :=
  let c0_i32_51 : BitVec 32 := 0#32
  let c0_i32_47 : BitVec 32 := 0#32
  let c1_i32_48 : BitVec 32 := 1#32
  let arg24 : BitVec 32 := Scf.iv c0_i32_47 c1_i32_48 k0_t4
  let c1_i32_50 : BitVec 32 := 1#32
  let v63 : BitVec 32 := Scalar.muli arg24 c1_i32_50
  let v64 : BitVec 32 := Scalar.addi c0_i32_51 v63
  let c64_i32 : BitVec 32 := 64#32
  let v80 : BitVec 32 := Scalar.muli v64 c64_i32
  v80
def k0_off17 (k0_t4 : Fin k0_t4_loop.trips) (c0_i32_65 : BitVec 32) : Fin 3 → Nat :=
  let c0_66 : Index := 0#32
  let c0_i32_51 : BitVec 32 := 0#32
  let c0_i32_47 : BitVec 32 := 0#32
  let c1_i32_48 : BitVec 32 := 1#32
  let arg24 : BitVec 32 := Scf.iv c0_i32_47 c1_i32_48 k0_t4
  let c1_i32_50 : BitVec 32 := 1#32
  let v63 : BitVec 32 := Scalar.muli arg24 c1_i32_50
  let v64 : BitVec 32 := Scalar.addi c0_i32_51 v63
  let c64_i32 : BitVec 32 := 64#32
  let v80 : BitVec 32 := Scalar.muli v64 c64_i32
  let v81 : BitVec 32 := v80
  let v82 : BitVec 32 := Scalar.addi v81 c0_i32_65
  let v83 : Index := Scalar.indexCast v82
  let c0_67 : Index := 0#32
  ![0, v83.toNat, 0]
def k0_off18 (k0_t3 : Fin k0_t3_loop.trips) (k0_t4 : Fin k0_t4_loop.trips) : Fin 3 → Nat :=
  let c0_i32_34 : BitVec 32 := 0#32
  let c0_i32_19 : BitVec 32 := 0#32
  let c1_i32_20 : BitVec 32 := 1#32
  let arg23 : BitVec 32 := Scf.iv c0_i32_19 c1_i32_20 k0_t3
  let c1_i32_33 : BitVec 32 := 1#32
  let v42 : BitVec 32 := Scalar.muli arg23 c1_i32_33
  let v43 : BitVec 32 := Scalar.addi c0_i32_34 v42
  let c4_i32_52 : BitVec 32 := 4#32
  let v65 : BitVec 32 := Scalar.muli v43 c4_i32_52
  let c0_i32_51 : BitVec 32 := 0#32
  let c0_i32_47 : BitVec 32 := 0#32
  let c1_i32_48 : BitVec 32 := 1#32
  let arg24 : BitVec 32 := Scf.iv c0_i32_47 c1_i32_48 k0_t4
  let c1_i32_50 : BitVec 32 := 1#32
  let v63 : BitVec 32 := Scalar.muli arg24 c1_i32_50
  let v64 : BitVec 32 := Scalar.addi c0_i32_51 v63
  let v66 : BitVec 32 := Scalar.addi v65 v64
  let v103 : Index := Scalar.indexCast v66
  let c64 : Index := 64#32
  let c0_71 : Index := 0#32
  ![v103.toNat, 64, 0]
def k0_mult3 (k0_t4 : Fin k0_t4_loop.trips) : BitVec 32 :=
  let c0_i32_51 : BitVec 32 := 0#32
  let c0_i32_47 : BitVec 32 := 0#32
  let c1_i32_48 : BitVec 32 := 1#32
  let arg24 : BitVec 32 := Scf.iv c0_i32_47 c1_i32_48 k0_t4
  let c1_i32_50 : BitVec 32 := 1#32
  let v63 : BitVec 32 := Scalar.muli arg24 c1_i32_50
  let v64 : BitVec 32 := Scalar.addi c0_i32_51 v63
  let c64_i32_72 : BitVec 32 := 64#32
  let v106 : BitVec 32 := Scalar.muli v64 c64_i32_72
  v106
def k0_off19 (k0_t4 : Fin k0_t4_loop.trips) (c0_i32_73 : BitVec 32) : Fin 3 → Nat :=
  let c1_74 : Index := 1#32
  let c0_i32_51 : BitVec 32 := 0#32
  let c0_i32_47 : BitVec 32 := 0#32
  let c1_i32_48 : BitVec 32 := 1#32
  let arg24 : BitVec 32 := Scf.iv c0_i32_47 c1_i32_48 k0_t4
  let c1_i32_50 : BitVec 32 := 1#32
  let v63 : BitVec 32 := Scalar.muli arg24 c1_i32_50
  let v64 : BitVec 32 := Scalar.addi c0_i32_51 v63
  let c64_i32_72 : BitVec 32 := 64#32
  let v106 : BitVec 32 := Scalar.muli v64 c64_i32_72
  let v107 : BitVec 32 := v106
  let v108 : BitVec 32 := Scalar.addi v107 c0_i32_73
  let v109 : Index := Scalar.indexCast v108
  let c0_75 : Index := 0#32
  ![1, v109.toNat, 0]
def k0_off20 (k0_t3 : Fin k0_t3_loop.trips) (k0_t4 : Fin k0_t4_loop.trips) : Fin 3 → Nat :=
  let c0_i32_34 : BitVec 32 := 0#32
  let c0_i32_19 : BitVec 32 := 0#32
  let c1_i32_20 : BitVec 32 := 1#32
  let arg23 : BitVec 32 := Scf.iv c0_i32_19 c1_i32_20 k0_t3
  let c1_i32_33 : BitVec 32 := 1#32
  let v42 : BitVec 32 := Scalar.muli arg23 c1_i32_33
  let v43 : BitVec 32 := Scalar.addi c0_i32_34 v42
  let c4_i32_52 : BitVec 32 := 4#32
  let v65 : BitVec 32 := Scalar.muli v43 c4_i32_52
  let c0_i32_51 : BitVec 32 := 0#32
  let c0_i32_47 : BitVec 32 := 0#32
  let c1_i32_48 : BitVec 32 := 1#32
  let arg24 : BitVec 32 := Scf.iv c0_i32_47 c1_i32_48 k0_t4
  let c1_i32_50 : BitVec 32 := 1#32
  let v63 : BitVec 32 := Scalar.muli arg24 c1_i32_50
  let v64 : BitVec 32 := Scalar.addi c0_i32_51 v63
  let v66 : BitVec 32 := Scalar.addi v65 v64
  let v141 : Index := Scalar.indexCast v66
  let c16_84 : Index := 16#32
  let c0_85 : Index := 0#32
  ![v141.toNat, 16, 0]
def k0_mult4 (k0_t4 : Fin k0_t4_loop.trips) : BitVec 32 :=
  let c0_i32_51 : BitVec 32 := 0#32
  let c0_i32_47 : BitVec 32 := 0#32
  let c1_i32_48 : BitVec 32 := 1#32
  let arg24 : BitVec 32 := Scf.iv c0_i32_47 c1_i32_48 k0_t4
  let c1_i32_50 : BitVec 32 := 1#32
  let v63 : BitVec 32 := Scalar.muli arg24 c1_i32_50
  let v64 : BitVec 32 := Scalar.addi c0_i32_51 v63
  let c64_i32_86 : BitVec 32 := 64#32
  let v144 : BitVec 32 := Scalar.muli v64 c64_i32_86
  v144
def k0_off21 (k0_t3 : Fin k0_t3_loop.trips) (k0_t4 : Fin k0_t4_loop.trips) : Fin 3 → Nat :=
  let c0_i32_34 : BitVec 32 := 0#32
  let c0_i32_19 : BitVec 32 := 0#32
  let c1_i32_20 : BitVec 32 := 1#32
  let arg23 : BitVec 32 := Scf.iv c0_i32_19 c1_i32_20 k0_t3
  let c1_i32_33 : BitVec 32 := 1#32
  let v42 : BitVec 32 := Scalar.muli arg23 c1_i32_33
  let v43 : BitVec 32 := Scalar.addi c0_i32_34 v42
  let c4_i32_52 : BitVec 32 := 4#32
  let v65 : BitVec 32 := Scalar.muli v43 c4_i32_52
  let c0_i32_51 : BitVec 32 := 0#32
  let c0_i32_47 : BitVec 32 := 0#32
  let c1_i32_48 : BitVec 32 := 1#32
  let arg24 : BitVec 32 := Scf.iv c0_i32_47 c1_i32_48 k0_t4
  let c1_i32_50 : BitVec 32 := 1#32
  let v63 : BitVec 32 := Scalar.muli arg24 c1_i32_50
  let v64 : BitVec 32 := Scalar.addi c0_i32_51 v63
  let v66 : BitVec 32 := Scalar.addi v65 v64
  let v167 : Index := Scalar.indexCast v66
  let c80 : Index := 80#32
  let c0_92 : Index := 0#32
  ![v167.toNat, 80, 0]
def k0_mult5 (k0_t4 : Fin k0_t4_loop.trips) : BitVec 32 :=
  let c0_i32_51 : BitVec 32 := 0#32
  let c0_i32_47 : BitVec 32 := 0#32
  let c1_i32_48 : BitVec 32 := 1#32
  let arg24 : BitVec 32 := Scf.iv c0_i32_47 c1_i32_48 k0_t4
  let c1_i32_50 : BitVec 32 := 1#32
  let v63 : BitVec 32 := Scalar.muli arg24 c1_i32_50
  let v64 : BitVec 32 := Scalar.addi c0_i32_51 v63
  let c64_i32_93 : BitVec 32 := 64#32
  let v170 : BitVec 32 := Scalar.muli v64 c64_i32_93
  v170
def k0_off22 (k0_t3 : Fin k0_t3_loop.trips) (k0_t4 : Fin k0_t4_loop.trips) : Fin 3 → Nat :=
  let c0_i32_34 : BitVec 32 := 0#32
  let c0_i32_19 : BitVec 32 := 0#32
  let c1_i32_20 : BitVec 32 := 1#32
  let arg23 : BitVec 32 := Scf.iv c0_i32_19 c1_i32_20 k0_t3
  let c1_i32_33 : BitVec 32 := 1#32
  let v42 : BitVec 32 := Scalar.muli arg23 c1_i32_33
  let v43 : BitVec 32 := Scalar.addi c0_i32_34 v42
  let c4_i32_52 : BitVec 32 := 4#32
  let v65 : BitVec 32 := Scalar.muli v43 c4_i32_52
  let c0_i32_51 : BitVec 32 := 0#32
  let c0_i32_47 : BitVec 32 := 0#32
  let c1_i32_48 : BitVec 32 := 1#32
  let arg24 : BitVec 32 := Scf.iv c0_i32_47 c1_i32_48 k0_t4
  let c1_i32_50 : BitVec 32 := 1#32
  let v63 : BitVec 32 := Scalar.muli arg24 c1_i32_50
  let v64 : BitVec 32 := Scalar.addi c0_i32_51 v63
  let v66 : BitVec 32 := Scalar.addi v65 v64
  let v205 : Index := Scalar.indexCast v66
  let c32_105 : Index := 32#32
  let c0_106 : Index := 0#32
  ![v205.toNat, 32, 0]
def k0_mult6 (k0_t4 : Fin k0_t4_loop.trips) : BitVec 32 :=
  let c0_i32_51 : BitVec 32 := 0#32
  let c0_i32_47 : BitVec 32 := 0#32
  let c1_i32_48 : BitVec 32 := 1#32
  let arg24 : BitVec 32 := Scf.iv c0_i32_47 c1_i32_48 k0_t4
  let c1_i32_50 : BitVec 32 := 1#32
  let v63 : BitVec 32 := Scalar.muli arg24 c1_i32_50
  let v64 : BitVec 32 := Scalar.addi c0_i32_51 v63
  let c64_i32_107 : BitVec 32 := 64#32
  let v208 : BitVec 32 := Scalar.muli v64 c64_i32_107
  v208
def k0_off23 (k0_t3 : Fin k0_t3_loop.trips) (k0_t4 : Fin k0_t4_loop.trips) : Fin 3 → Nat :=
  let c0_i32_34 : BitVec 32 := 0#32
  let c0_i32_19 : BitVec 32 := 0#32
  let c1_i32_20 : BitVec 32 := 1#32
  let arg23 : BitVec 32 := Scf.iv c0_i32_19 c1_i32_20 k0_t3
  let c1_i32_33 : BitVec 32 := 1#32
  let v42 : BitVec 32 := Scalar.muli arg23 c1_i32_33
  let v43 : BitVec 32 := Scalar.addi c0_i32_34 v42
  let c4_i32_52 : BitVec 32 := 4#32
  let v65 : BitVec 32 := Scalar.muli v43 c4_i32_52
  let c0_i32_51 : BitVec 32 := 0#32
  let c0_i32_47 : BitVec 32 := 0#32
  let c1_i32_48 : BitVec 32 := 1#32
  let arg24 : BitVec 32 := Scf.iv c0_i32_47 c1_i32_48 k0_t4
  let c1_i32_50 : BitVec 32 := 1#32
  let v63 : BitVec 32 := Scalar.muli arg24 c1_i32_50
  let v64 : BitVec 32 := Scalar.addi c0_i32_51 v63
  let v66 : BitVec 32 := Scalar.addi v65 v64
  let v231 : Index := Scalar.indexCast v66
  let c96 : Index := 96#32
  let c0_114 : Index := 0#32
  ![v231.toNat, 96, 0]
def k0_mult7 (k0_t4 : Fin k0_t4_loop.trips) : BitVec 32 :=
  let c0_i32_51 : BitVec 32 := 0#32
  let c0_i32_47 : BitVec 32 := 0#32
  let c1_i32_48 : BitVec 32 := 1#32
  let arg24 : BitVec 32 := Scf.iv c0_i32_47 c1_i32_48 k0_t4
  let c1_i32_50 : BitVec 32 := 1#32
  let v63 : BitVec 32 := Scalar.muli arg24 c1_i32_50
  let v64 : BitVec 32 := Scalar.addi c0_i32_51 v63
  let c64_i32_115 : BitVec 32 := 64#32
  let v234 : BitVec 32 := Scalar.muli v64 c64_i32_115
  v234
def k0_off24 (k0_t3 : Fin k0_t3_loop.trips) (k0_t4 : Fin k0_t4_loop.trips) : Fin 3 → Nat :=
  let c0_i32_34 : BitVec 32 := 0#32
  let c0_i32_19 : BitVec 32 := 0#32
  let c1_i32_20 : BitVec 32 := 1#32
  let arg23 : BitVec 32 := Scf.iv c0_i32_19 c1_i32_20 k0_t3
  let c1_i32_33 : BitVec 32 := 1#32
  let v42 : BitVec 32 := Scalar.muli arg23 c1_i32_33
  let v43 : BitVec 32 := Scalar.addi c0_i32_34 v42
  let c4_i32_52 : BitVec 32 := 4#32
  let v65 : BitVec 32 := Scalar.muli v43 c4_i32_52
  let c0_i32_51 : BitVec 32 := 0#32
  let c0_i32_47 : BitVec 32 := 0#32
  let c1_i32_48 : BitVec 32 := 1#32
  let arg24 : BitVec 32 := Scf.iv c0_i32_47 c1_i32_48 k0_t4
  let c1_i32_50 : BitVec 32 := 1#32
  let v63 : BitVec 32 := Scalar.muli arg24 c1_i32_50
  let v64 : BitVec 32 := Scalar.addi c0_i32_51 v63
  let v66 : BitVec 32 := Scalar.addi v65 v64
  let v269 : Index := Scalar.indexCast v66
  let c48_127 : Index := 48#32
  let c0_128 : Index := 0#32
  ![v269.toNat, 48, 0]
def k0_mult8 (k0_t4 : Fin k0_t4_loop.trips) : BitVec 32 :=
  let c0_i32_51 : BitVec 32 := 0#32
  let c0_i32_47 : BitVec 32 := 0#32
  let c1_i32_48 : BitVec 32 := 1#32
  let arg24 : BitVec 32 := Scf.iv c0_i32_47 c1_i32_48 k0_t4
  let c1_i32_50 : BitVec 32 := 1#32
  let v63 : BitVec 32 := Scalar.muli arg24 c1_i32_50
  let v64 : BitVec 32 := Scalar.addi c0_i32_51 v63
  let c64_i32_129 : BitVec 32 := 64#32
  let v272 : BitVec 32 := Scalar.muli v64 c64_i32_129
  v272
def k0_off25 (k0_t3 : Fin k0_t3_loop.trips) (k0_t4 : Fin k0_t4_loop.trips) : Fin 3 → Nat :=
  let c0_i32_34 : BitVec 32 := 0#32
  let c0_i32_19 : BitVec 32 := 0#32
  let c1_i32_20 : BitVec 32 := 1#32
  let arg23 : BitVec 32 := Scf.iv c0_i32_19 c1_i32_20 k0_t3
  let c1_i32_33 : BitVec 32 := 1#32
  let v42 : BitVec 32 := Scalar.muli arg23 c1_i32_33
  let v43 : BitVec 32 := Scalar.addi c0_i32_34 v42
  let c4_i32_52 : BitVec 32 := 4#32
  let v65 : BitVec 32 := Scalar.muli v43 c4_i32_52
  let c0_i32_51 : BitVec 32 := 0#32
  let c0_i32_47 : BitVec 32 := 0#32
  let c1_i32_48 : BitVec 32 := 1#32
  let arg24 : BitVec 32 := Scf.iv c0_i32_47 c1_i32_48 k0_t4
  let c1_i32_50 : BitVec 32 := 1#32
  let v63 : BitVec 32 := Scalar.muli arg24 c1_i32_50
  let v64 : BitVec 32 := Scalar.addi c0_i32_51 v63
  let v66 : BitVec 32 := Scalar.addi v65 v64
  let v295 : Index := Scalar.indexCast v66
  let c112 : Index := 112#32
  let c0_135 : Index := 0#32
  ![v295.toNat, 112, 0]
def k0_mult9 (k0_t4 : Fin k0_t4_loop.trips) : BitVec 32 :=
  let c0_i32_51 : BitVec 32 := 0#32
  let c0_i32_47 : BitVec 32 := 0#32
  let c1_i32_48 : BitVec 32 := 1#32
  let arg24 : BitVec 32 := Scf.iv c0_i32_47 c1_i32_48 k0_t4
  let c1_i32_50 : BitVec 32 := 1#32
  let v63 : BitVec 32 := Scalar.muli arg24 c1_i32_50
  let v64 : BitVec 32 := Scalar.addi c0_i32_51 v63
  let c64_i32_136 : BitVec 32 := 64#32
  let v298 : BitVec 32 := Scalar.muli v64 c64_i32_136
  v298
def k0_off26 (k0_t3 : Fin k0_t3_loop.trips) (k0_t4 : Fin k0_t4_loop.trips) : Fin 4 → Nat :=
  let c0_147 : Index := 0#32
  let c0_i32_34 : BitVec 32 := 0#32
  let c0_i32_19 : BitVec 32 := 0#32
  let c1_i32_20 : BitVec 32 := 1#32
  let arg23 : BitVec 32 := Scf.iv c0_i32_19 c1_i32_20 k0_t3
  let c1_i32_33 : BitVec 32 := 1#32
  let v42 : BitVec 32 := Scalar.muli arg23 c1_i32_33
  let v43 : BitVec 32 := Scalar.addi c0_i32_34 v42
  let c4_i32_52 : BitVec 32 := 4#32
  let v65 : BitVec 32 := Scalar.muli v43 c4_i32_52
  let c0_i32_51 : BitVec 32 := 0#32
  let c0_i32_47 : BitVec 32 := 0#32
  let c1_i32_48 : BitVec 32 := 1#32
  let arg24 : BitVec 32 := Scf.iv c0_i32_47 c1_i32_48 k0_t4
  let c1_i32_50 : BitVec 32 := 1#32
  let v63 : BitVec 32 := Scalar.muli arg24 c1_i32_50
  let v64 : BitVec 32 := Scalar.addi c0_i32_51 v63
  let v66 : BitVec 32 := Scalar.addi v65 v64
  let v340 : Index := Scalar.indexCast v66
  let c0_148 : Index := 0#32
  let c0_149 : Index := 0#32
  ![0, v340.toNat, 0, 0]
def k0_mult10 (k0_t3 : Fin k0_t3_loop.trips) (k0_t4 : Fin k0_t4_loop.trips) : BitVec 32 :=
  let c0_i32_34 : BitVec 32 := 0#32
  let c0_i32_19 : BitVec 32 := 0#32
  let c1_i32_20 : BitVec 32 := 1#32
  let arg23 : BitVec 32 := Scf.iv c0_i32_19 c1_i32_20 k0_t3
  let c1_i32_33 : BitVec 32 := 1#32
  let v42 : BitVec 32 := Scalar.muli arg23 c1_i32_33
  let v43 : BitVec 32 := Scalar.addi c0_i32_34 v42
  let c4_i32_52 : BitVec 32 := 4#32
  let v65 : BitVec 32 := Scalar.muli v43 c4_i32_52
  let c0_i32_51 : BitVec 32 := 0#32
  let c0_i32_47 : BitVec 32 := 0#32
  let c1_i32_48 : BitVec 32 := 1#32
  let arg24 : BitVec 32 := Scf.iv c0_i32_47 c1_i32_48 k0_t4
  let c1_i32_50 : BitVec 32 := 1#32
  let v63 : BitVec 32 := Scalar.muli arg24 c1_i32_50
  let v64 : BitVec 32 := Scalar.addi c0_i32_51 v63
  let v66 : BitVec 32 := Scalar.addi v65 v64
  let c128_i32_150 : BitVec 32 := 128#32
  let v346 : BitVec 32 := Scalar.muli v66 c128_i32_150
  v346
def k0_off27 (k0_t3 : Fin k0_t3_loop.trips) (k0_t4 : Fin k0_t4_loop.trips) : Fin 3 → Nat :=
  let c0_151 : Index := 0#32
  let c0_152 : Index := 0#32
  let c0_i32_34 : BitVec 32 := 0#32
  let c0_i32_19 : BitVec 32 := 0#32
  let c1_i32_20 : BitVec 32 := 1#32
  let arg23 : BitVec 32 := Scf.iv c0_i32_19 c1_i32_20 k0_t3
  let c1_i32_33 : BitVec 32 := 1#32
  let v42 : BitVec 32 := Scalar.muli arg23 c1_i32_33
  let v43 : BitVec 32 := Scalar.addi c0_i32_34 v42
  let c4_i32_52 : BitVec 32 := 4#32
  let v65 : BitVec 32 := Scalar.muli v43 c4_i32_52
  let c0_i32_51 : BitVec 32 := 0#32
  let c0_i32_47 : BitVec 32 := 0#32
  let c1_i32_48 : BitVec 32 := 1#32
  let arg24 : BitVec 32 := Scf.iv c0_i32_47 c1_i32_48 k0_t4
  let c1_i32_50 : BitVec 32 := 1#32
  let v63 : BitVec 32 := Scalar.muli arg24 c1_i32_50
  let v64 : BitVec 32 := Scalar.addi c0_i32_51 v63
  let v66 : BitVec 32 := Scalar.addi v65 v64
  let c128_i32_150 : BitVec 32 := 128#32
  let v346 : BitVec 32 := Scalar.muli v66 c128_i32_150
  let v347 : BitVec 32 := v346
  let v348 : Index := Scalar.indexCast v347
  ![0, 0, v348.toNat]
def k0_cond2 (i : grid0.Coords) : BitVec 1 :=
  let arg0 : BitVec 32 := BitVec.ofNat 32 (i 0).val
  let c1_i32 : BitVec 32 := 1#32
  let v3 : BitVec 1 := Scalar.cmpi .eq arg0 c1_i32
  let arg1 : BitVec 32 := BitVec.ofNat 32 (i 1).val
  let c7_i32 : BitVec 32 := 7#32
  let v4 : BitVec 1 := Scalar.cmpi .eq arg1 c7_i32
  let v5 : BitVec 1 := Scalar.andi v3 v4
  let v40 : BitVec 32 := Scalar.extui v5
  let c0_i32_32 : BitVec 32 := 0#32
  let v41 : BitVec 1 := Scalar.cmpi .ne v40 c0_i32_32
  v41

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x32x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x32x64x128 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x32x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "inv7" => some ((1 / 7 : ℝ) : EReal)
  | _ => none
-- ==== RefIdeal.lean ====
abbrev S2x1024x4096 : Shape := ⟨3, ![2, 1024, 4096]⟩
abbrev S2x1024x64 : Shape := ⟨3, ![2, 1024, 64]⟩
abbrev S32 : Shape := ⟨1, ![32]⟩
abbrev S2x1024x32x128 : Shape := ⟨4, ![2, 1024, 32, 128]⟩
abbrev S2x1024x32 : Shape := ⟨3, ![2, 1024, 32]⟩
abbrev S2x1024x1x64 : Shape := ⟨4, ![2, 1024, 1, 64]⟩
abbrev S2x1024x32x64 : Shape := ⟨4, ![2, 1024, 32, 64]⟩
abbrev S_ : Shape := ⟨0, ![]⟩
abbrev S1x1x32 : Shape := ⟨3, ![1, 1, 32]⟩
abbrev S2x1024x32x1 : Shape := ⟨4, ![2, 1024, 32, 1]⟩

abbrev nBuf : Space → Nat
  | .hbm => 96
  | .vmem => 5
  | .smem => 0
  | _ => 0

abbrev bufTy : (tb : Table) → Fin (tcTables nBuf tb) → BufTy
  | .hbm, ⟨0, _⟩ => ⟨S2x1024x4096, .bf16⟩
  | .hbm, ⟨1, _⟩ => ⟨S2x1024x64, .f32⟩
  | .hbm, ⟨2, _⟩ => ⟨S2x1024x64, .f32⟩
  | .hbm, ⟨3, _⟩ => ⟨S32, .f32⟩
  | .hbm, ⟨4, _⟩ => ⟨S2x1024x32x128, .i8⟩
  | .hbm, ⟨5, _⟩ => ⟨S2x1024x32, .f32⟩
  | .hbm, ⟨6, _⟩ => ⟨S2x1024x1x64, .f32⟩
  | .hbm, ⟨7, _⟩ => ⟨S2x1024x1x64, .f32⟩
  | .hbm, ⟨8, _⟩ => ⟨S2x1024x4096, .f32⟩
  | .hbm, ⟨9, _⟩ => ⟨S2x1024x32x128, .f32⟩
  | .hbm, ⟨10, _⟩ => ⟨S2x1024x32x64, .f32⟩
  | .hbm, ⟨11, _⟩ => ⟨S2x1024x32x64, .f32⟩
  | .hbm, ⟨12, _⟩ => ⟨S2x1024x32x64, .f32⟩
  | .hbm, ⟨13, _⟩ => ⟨S2x1024x32x64, .f32⟩
  | .hbm, ⟨14, _⟩ => ⟨S2x1024x32x64, .f32⟩
  | .hbm, ⟨15, _⟩ => ⟨S2x1024x32x64, .f32⟩
  | .hbm, ⟨16, _⟩ => ⟨S2x1024x32x64, .f32⟩
  | .hbm, ⟨17, _⟩ => ⟨S2x1024x32x64, .f32⟩
  | .hbm, ⟨18, _⟩ => ⟨S2x1024x32x64, .f32⟩
  | .hbm, ⟨19, _⟩ => ⟨S2x1024x32x64, .f32⟩
  | .hbm, ⟨20, _⟩ => ⟨S2x1024x32x64, .f32⟩
  | .hbm, ⟨21, _⟩ => ⟨S2x1024x32x64, .f32⟩
  | .hbm, ⟨22, _⟩ => ⟨S2x1024x32x128, .f32⟩
  | .hbm, ⟨23, _⟩ => ⟨S2x1024x32x128, .f32⟩
  | .hbm, ⟨24, _⟩ => ⟨S_, .f32⟩
  | .hbm, ⟨25, _⟩ => ⟨S2x1024x32, .f32⟩
  | .hbm, ⟨26, _⟩ => ⟨S_, .f32⟩
  | .hbm, ⟨27, _⟩ => ⟨S2x1024x32, .f32⟩
  | .hbm, ⟨28, _⟩ => ⟨S2x1024x32, .i1⟩
  | .hbm, ⟨29, _⟩ => ⟨S1x1x32, .f32⟩
  | .hbm, ⟨30, _⟩ => ⟨S2x1024x32, .f32⟩
  | .hbm, ⟨31, _⟩ => ⟨S2x1024x32, .f32⟩
  | .hbm, ⟨32, _⟩ => ⟨S_, .f32⟩
  | .hbm, ⟨33, _⟩ => ⟨S2x1024x32, .f32⟩
  | .hbm, ⟨34, _⟩ => ⟨S2x1024x32, .f32⟩
  | .hbm, ⟨35, _⟩ => ⟨S_, .f32⟩
  | .hbm, ⟨36, _⟩ => ⟨S_, .f32⟩
  | .hbm, ⟨37, _⟩ => ⟨S2x1024x32, .f32⟩
  | .hbm, ⟨38, _⟩ => ⟨S2x1024x32, .f32⟩
  | .hbm, ⟨39, _⟩ => ⟨S2x1024x32x1, .f32⟩
  | .hbm, ⟨40, _⟩ => ⟨S2x1024x32x128, .f32⟩
  | .hbm, ⟨41, _⟩ => ⟨S2x1024x32x128, .f32⟩
  | .hbm, ⟨42, _⟩ => ⟨S2x1024x32x128, .i8⟩
  | .hbm, ⟨43, _⟩ => ⟨S2x1024x32x128, .f32⟩
  | .hbm, ⟨44, _⟩ => ⟨S2x1024x32x128, .f32⟩
  | .hbm, ⟨45, _⟩ => ⟨S2x1024x32x1, .f32⟩
  | .hbm, ⟨46, _⟩ => ⟨S2x1024x32x128, .f32⟩
  | .hbm, ⟨47, _⟩ => ⟨S2x1024x32x128, .f32⟩
  | .hbm, ⟨48, _⟩ => ⟨S2x1024x32x128, .f32⟩
  | .hbm, ⟨49, _⟩ => ⟨S_, .f32⟩
  | .hbm, ⟨50, _⟩ => ⟨S2x1024x32x128, .f32⟩
  | .hbm, ⟨51, _⟩ => ⟨S2x1024x32x128, .i1⟩
  | .hbm, ⟨52, _⟩ => ⟨S_, .f32⟩
  | .hbm, ⟨53, _⟩ => ⟨S_, .f32⟩
  | .hbm, ⟨54, _⟩ => ⟨S2x1024x32x128, .f32⟩
  | .hbm, ⟨55, _⟩ => ⟨S2x1024x32x128, .f32⟩
  | .hbm, ⟨56, _⟩ => ⟨S2x1024x32x128, .f32⟩
  | .hbm, ⟨57, _⟩ => ⟨S2x1024x32x128, .f32⟩
  | .hbm, ⟨58, _⟩ => ⟨S2x1024x32x128, .f32⟩
  | .hbm, ⟨59, _⟩ => ⟨S_, .f32⟩
  | .hbm, ⟨60, _⟩ => ⟨S2x1024x32, .f32⟩
  | .hbm, ⟨61, _⟩ => ⟨S_, .f32⟩
  | .hbm, ⟨62, _⟩ => ⟨S2x1024x32, .f32⟩
  | .hbm, ⟨63, _⟩ => ⟨S2x1024x32, .f32⟩
  | .hbm, ⟨64, _⟩ => ⟨S2x1024x32, .f32⟩
  | .hbm, ⟨65, _⟩ => ⟨S_, .f32⟩
  | .hbm, ⟨66, _⟩ => ⟨S32, .f32⟩
  | .hbm, ⟨67, _⟩ => ⟨S2x1024x32x64, .f32⟩
  | .hbm, ⟨68, _⟩ => ⟨S2x1024x32x64, .f32⟩
  | .hbm, ⟨69, _⟩ => ⟨S2x1024x32x64, .f32⟩
  | .hbm, ⟨70, _⟩ => ⟨S2x1024x32x64, .f32⟩
  | .hbm, ⟨71, _⟩ => ⟨S2x1024x32x64, .f32⟩
  | .hbm, ⟨72, _⟩ => ⟨S2x1024x32x64, .f32⟩
  | .hbm, ⟨73, _⟩ => ⟨S2x1024x32x64, .f32⟩
  | .hbm, ⟨74, _⟩ => ⟨S2x1024x32x64, .f32⟩
  | .hbm, ⟨75, _⟩ => ⟨S2x1024x32x64, .f32⟩
  | .hbm, ⟨76, _⟩ => ⟨S2x1024x32x64, .f32⟩
  | .hbm, ⟨77, _⟩ => ⟨S2x1024x32x64, .f32⟩
  | .hbm, ⟨78, _⟩ => ⟨S2x1024x32x64, .f32⟩
  | .hbm, ⟨79, _⟩ => ⟨S2x1024x32x128, .f32⟩
  | .hbm, ⟨80, _⟩ => ⟨S2x1024x4096, .f32⟩
  | .hbm, ⟨81, _⟩ => ⟨S2x1024x4096, .bf16⟩
  | .hbm, ⟨82, _⟩ => ⟨S2x1024x32x128, .i32⟩
  | .hbm, ⟨83, _⟩ => ⟨S2x1024x32x64, .i32⟩
  | .hbm, ⟨84, _⟩ => ⟨S_, .i32⟩
  | .hbm, ⟨85, _⟩ => ⟨S2x1024x32x64, .i32⟩
  | .hbm, ⟨86, _⟩ => ⟨S2x1024x32x64, .i32⟩
  | .hbm, ⟨87, _⟩ => ⟨S2x1024x32x64, .i32⟩
  | .hbm, ⟨88, _⟩ => ⟨S_, .i32⟩
  | .hbm, ⟨89, _⟩ => ⟨S2x1024x32x64, .i32⟩
  | .hbm, ⟨90, _⟩ => ⟨S2x1024x32x64, .i32⟩
  | .hbm, ⟨91, _⟩ => ⟨S_, .i32⟩
  | .hbm, ⟨92, _⟩ => ⟨S2x1024x32x64, .i32⟩
  | .hbm, ⟨93, _⟩ => ⟨S2x1024x32x64, .i32⟩
  | .hbm, ⟨94, _⟩ => ⟨S2x1024x32x64, .i32⟩
  | .hbm, ⟨95, _⟩ => ⟨S2x1024x32x64, .i8⟩
  | .local _ .vmem, ⟨0, _⟩ => ⟨S2x1024x32x128, .f32⟩
  | .local _ .vmem, ⟨1, _⟩ => ⟨S2x1024x32x128, .i8⟩
  | .local _ .vmem, ⟨2, _⟩ => ⟨S2x1024x32x128, .i8⟩
  | .local _ .vmem, ⟨3, _⟩ => ⟨S2x1024x32x128, .f32⟩
  | .local _ .vmem, ⟨4, _⟩ => ⟨S2x1024x32x128, .f32⟩
  | _, _ => ⟨S2x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30_0 : Ref sig .tc := ⟨.hbm, 42, rfl⟩
abbrev main_v30_1 : Ref sig .tc := ⟨.hbm, 43, rfl⟩
abbrev main_v30_2 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_call1_v0 : Ref sig .tc := ⟨.hbm, 53, rfl⟩
abbrev main_call1_v1 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_8 : Ref sig .tc := ⟨.hbm, 88, rfl⟩
abbrev main_v66 : Ref sig .tc := ⟨.hbm, 89, rfl⟩
abbrev main_v67 : Ref sig .tc := ⟨.hbm, 90, rfl⟩
abbrev main_c_9 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2x1024x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x32x128 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x32x128 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024x32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.WeakKernel.lean ====
/- The run of `Kernel` with nothing said of what it leaves in its results: every execution ends, the arguments hold what
   they held at launch, and every semaphore counter is zero. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame

@[expose] public section

set_option maxRecDepth 16384

noncomputable section

namespace Cert.Kernel.Weak

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- No variants. -/
abbrev 𝒱₀ : Variants := Variants.none

/-! ## The two loops without a generated invariant -/

set_option warn.classDefReducibility false in
/-- The loop that lays out the words of the gradient codes: it reads `arg6` and leaves `arg13` at some contents. -/
@[sl_loop] def loop1 (c : Dev nD) (i : grid0.Coords) (arg2 : Memref sig .tc .smem S32 .f32) (harg2 : arg2.IsWhole) (arg3 : Memref sig .tc .vmem S1x128x4096 .bf16) (harg3 : arg3.IsWhole) (arg4 : Memref sig .tc .vmem S1x64x128 .f32) (harg4 : arg4.IsWhole) (arg5 : Memref sig .tc .vmem S1x64x128 .f32) (harg5 : arg5.IsWhole) (arg6 : Memref sig .tc .vmem S1x128x32x128 .i8) (harg6 : arg6.IsWhole) (arg7 : Memref sig .tc .vmem S1x32x128 .f32) (harg7 : arg7.IsWhole) (arg8 : Memref sig .tc .vmem S1x128x4096 .bf16) (harg8 : arg8.IsWhole) (arg9 : Memref sig .tc .vmem S1x32 .f32) (harg9 : arg9.IsWhole) (arg10 : Memref sig .tc .vmem S1x32x128 .f32) (harg10 : arg10.IsWhole) (arg11 : Memref sig .tc .vmem S1x32x64x128 .i8) (harg11 : arg11.IsWhole) (arg12 : Memref sig .tc .vmem S1x32x128 .f32) (harg12 : arg12.IsWhole) (arg13 : Memref sig .tc .vmem S1056x128 .i32) (harg13 : arg13.IsWhole) (arg14 : Memref sig .tc .vmem S2x256x128 .f32) (harg14 : arg14.IsWhole) (arg15 : Memref sig .tc .vmem S32x128x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S256x256 .fp8e5m2) (harg19 : arg19.IsWhole) (arg20 : Memref sig .tc .vmem S64x128 .bf16) (harg20 : arg20.IsWhole) (arg21 : Memref sig .tc .vmem S32x128 .f32) (harg21 : arg21.IsWhole) (arg22 : Memref sig .tc .vmem S32x128 .f32) (harg22 : arg22.IsWhole)
    (X6 : BufTy.Contents (Elt F) arg6.view.ty) :
    Gen.LoopInvTy_k0_t1 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 where
  inv := fun _ _ => iprop((arg6.view.loc (c : Thread nD τ) ↦[arg6.view.set]{fullShare} X6) ∗ (∃ f, (arg13.view.loc (c : Thread nD τ) ↦[arg13.view.set]{fullShare} f)))
  step k acc := by
    iintro ⟨H6, ⟨%f, H13⟩⟩
    unfold Gen.k0_t1_body
    sl_exec
    sl_step
    isplitl [H6]; · iexact H6
    iexists _; iexact H13

set_option warn.classDefReducibility false in
/-- The loop over the groups of four heads. -/
@[sl_loop] def loop3 (c : Dev nD) (i : grid0.Coords) (arg2 : Memref sig .tc .smem S32 .f32) (harg2 : arg2.IsWhole) (arg3 : Memref sig .tc .vmem S1x128x4096 .bf16) (harg3 : arg3.IsWhole) (arg4 : Memref sig .tc .vmem S1x64x128 .f32) (harg4 : arg4.IsWhole) (arg5 : Memref sig .tc .vmem S1x64x128 .f32) (harg5 : arg5.IsWhole) (arg6 : Memref sig .tc .vmem S1x128x32x128 .i8) (harg6 : arg6.IsWhole) (arg7 : Memref sig .tc .vmem S1x32x128 .f32) (harg7 : arg7.IsWhole) (arg8 : Memref sig .tc .vmem S1x128x4096 .bf16) (harg8 : arg8.IsWhole) (arg9 : Memref sig .tc .vmem S1x32 .f32) (harg9 : arg9.IsWhole) (arg10 : Memref sig .tc .vmem S1x32x128 .f32) (harg10 : arg10.IsWhole) (arg11 : Memref sig .tc .vmem S1x32x64x128 .i8) (harg11 : arg11.IsWhole) (arg12 : Memref sig .tc .vmem S1x32x128 .f32) (harg12 : arg12.IsWhole) (arg13 : Memref sig .tc .vmem S1056x128 .i32) (harg13 : arg13.IsWhole) (arg14 : Memref sig .tc .vmem S2x256x128 .f32) (harg14 : arg14.IsWhole) (arg15 : Memref sig .tc .vmem S32x128x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S256x256 .fp8e5m2) (harg19 : arg19.IsWhole) (arg20 : Memref sig .tc .vmem S64x128 .bf16) (harg20 : arg20.IsWhole) (arg21 : Memref sig .tc .vmem S32x128 .f32) (harg21 : arg21.IsWhole) (arg22 : Memref sig .tc .vmem S32x128 .f32) (harg22 : arg22.IsWhole)
    (X4 : BufTy.Contents (Elt F) arg4.view.ty) (X5 : BufTy.Contents (Elt F) arg5.view.ty) (X7 : BufTy.Contents (Elt F) arg7.view.ty) (X13 : BufTy.Contents (Elt F) arg13.view.ty) (X15 : BufTy.Contents (Elt F) arg15.view.ty) (X17 : BufTy.Contents (Elt F) arg17.view.ty) (X19 : BufTy.Contents (Elt F) arg19.view.ty) (X20 : BufTy.Contents (Elt F) arg20.view.ty) :
    Gen.LoopInvTy_k0_t3 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 where
  inv := fun _ _ => iprop((arg4.view.loc (c : Thread nD τ) ↦[arg4.view.set]{fullShare} X4) ∗ (arg5.view.loc (c : Thread nD τ) ↦[arg5.view.set]{fullShare} X5) ∗ (arg7.view.loc (c : Thread nD τ) ↦[arg7.view.set]{fullShare} X7) ∗ (arg13.view.loc (c : Thread nD τ) ↦[arg13.view.set]{fullShare} X13) ∗ (arg15.view.loc (c : Thread nD τ) ↦[arg15.view.set]{fullShare} X15) ∗ (arg17.view.loc (c : Thread nD τ) ↦[arg17.view.set]{fullShare} X17) ∗ (arg19.view.loc (c : Thread nD τ) ↦[arg19.view.set]{fullShare} X19) ∗ (arg20.view.loc (c : Thread nD τ) ↦[arg20.view.set]{fullShare} X20) ∗ (∃ f, (arg14.view.loc (c : Thread nD τ) ↦[arg14.view.set]{fullShare} f)) ∗ (∃ f, (arg8.view.loc (c : Thread nD τ) ↦[arg8.view.set]{fullShare} f)) ∗ (∃ f, (arg11.view.loc (c : Thread nD τ) ↦[arg11.view.set]{fullShare} f)) ∗ (∃ f, (arg18.view.loc (c : Thread nD τ) ↦[arg18.view.set]{fullShare} f)))
  step k acc := by
    iintro ⟨H4, H5, H7, H13, H15, H17, H19, H20, ⟨%f14, H14⟩, ⟨%f8, H8⟩, ⟨%f11, H11⟩, ⟨%f18, H18⟩⟩
    unfold Gen.k0_t3_body
    sl_exec
    sl_step
    isplitl [H4]; · iexact H4
    isplitl [H5]; · iexact H5
    isplitl [H7]; · iexact H7
    isplitl [H13]; · iexact H13
    isplitl [H15]; · iexact H15
    isplitl [H17]; · iexact H17
    isplitl [H19]; · iexact H19
    isplitl [H20]; · iexact H20
    isplitl [H14]; · iexists _; iexact H14
    isplitl [H8]; · iexists _; iexact H8
    isplitl [H11]; · iexists _; iexact H11
    iexists _; iexact H18

/-! ## The body, run once -/

/-- A memref held whole at some contents. -/
abbrev any (c : Dev nD) {sp : Space} {S : Shape} {e : EltTy} (M : Memref sig .tc sp S e) : sProp 𝕄 :=
  iprop(∃ d, owns (c : Thread nD τ) M fullShare d)

set_option maxHeartbeats 4000000 in
/-- The body at a grid point, from any contents of its buffers: it runs to its return, the inputs kept. -/
theorem kernelRun (c : Dev nD) (i : grid0.Coords) (arg2 : Memref sig .tc .smem S32 .f32) (harg2 : arg2.IsWhole) (arg3 : Memref sig .tc .vmem S1x128x4096 .bf16) (harg3 : arg3.IsWhole) (arg4 : Memref sig .tc .vmem S1x64x128 .f32) (harg4 : arg4.IsWhole) (arg5 : Memref sig .tc .vmem S1x64x128 .f32) (harg5 : arg5.IsWhole) (arg6 : Memref sig .tc .vmem S1x128x32x128 .i8) (harg6 : arg6.IsWhole) (arg7 : Memref sig .tc .vmem S1x32x128 .f32) (harg7 : arg7.IsWhole) (arg8 : Memref sig .tc .vmem S1x128x4096 .bf16) (harg8 : arg8.IsWhole) (arg9 : Memref sig .tc .vmem S1x32 .f32) (harg9 : arg9.IsWhole) (arg10 : Memref sig .tc .vmem S1x32x128 .f32) (harg10 : arg10.IsWhole) (arg11 : Memref sig .tc .vmem S1x32x64x128 .i8) (harg11 : arg11.IsWhole) (arg12 : Memref sig .tc .vmem S1x32x128 .f32) (harg12 : arg12.IsWhole) (arg13 : Memref sig .tc .vmem S1056x128 .i32) (harg13 : arg13.IsWhole) (arg14 : Memref sig .tc .vmem S2x256x128 .f32) (harg14 : arg14.IsWhole) (arg15 : Memref sig .tc .vmem S32x128x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S256x256 .fp8e5m2) (harg19 : arg19.IsWhole) (arg20 : Memref sig .tc .vmem S64x128 .bf16) (harg20 : arg20.IsWhole) (arg21 : Memref sig .tc .vmem S32x128 .f32) (harg21 : arg21.IsWhole) (arg22 : Memref sig .tc .vmem S32x128 .f32) (harg22 : arg22.IsWhole)
    (X2 : S32.Idx → Elt F .f32) (X3 : S1x128x4096.Idx → Elt F .bf16) (X4 X5 : S1x64x128.Idx → Elt F .f32)
    (X6 : S1x128x32x128.Idx → Elt F .i8) (X7 : S1x32x128.Idx → Elt F .f32)
    (W : Waits sig Unit) (K : PUnit → sProp 𝕄) :
    iprop(owns (c : Thread nD τ) arg2 fullShare X2 ∗ owns (c : Thread nD τ) arg3 fullShare X3 ∗ owns (c : Thread nD τ) arg4 fullShare X4
        ∗ owns (c : Thread nD τ) arg5 fullShare X5 ∗ owns (c : Thread nD τ) arg6 fullShare X6 ∗ owns (c : Thread nD τ) arg7 fullShare X7
        ∗ any c arg8 ∗ any c arg9 ∗ any c arg10 ∗ any c arg11 ∗ any c arg12
        ∗ any c arg13 ∗ any c arg14 ∗ any c arg15 ∗ any c arg16 ∗ any c arg17 ∗ any c arg18 ∗ any c arg19 ∗ any c arg20 ∗ any c arg21 ∗ any c arg22
        ∗ owes (c : Thread nD τ) 0 W
        ∗ (iprop(owns (c : Thread nD τ) arg2 fullShare X2 ∗ owns (c : Thread nD τ) arg3 fullShare X3 ∗ owns (c : Thread nD τ) arg4 fullShare X4
        ∗ owns (c : Thread nD τ) arg5 fullShare X5 ∗ owns (c : Thread nD τ) arg6 fullShare X6 ∗ owns (c : Thread nD τ) arg7 fullShare X7
        ∗ any c arg8 ∗ any c arg9 ∗ any c arg10 ∗ any c arg11 ∗ any c arg12
        ∗ any c arg13 ∗ any c arg14 ∗ any c arg15 ∗ any c arg16 ∗ any c arg17 ∗ any c arg18 ∗ any c arg19 ∗ any c arg20 ∗ any c arg21 ∗ any c arg22
        ∗ ∃ W', owes (c : Thread nD τ) 0 W') -∗ K ⟨⟩))
      ⊢ wp frame (wpE (defs₀ (F := F)) 𝒱₀ c none) Set.univ
          (cc0_rotary_key_backward (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_rotary_key_backward_eq_skeleton]; unfold cc0_rotary_key_backward_skel
  unfold any owns
  iintro ⟨⟨%f2, %h2, H2⟩, ⟨%f3, %h3, H3⟩, ⟨%f4, %h4, H4⟩, ⟨%f5, %h5, H5⟩, ⟨%f6, %h6, H6⟩, ⟨%f7, %h7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, HW, Hk⟩
  by_cases hc2 : k0_cond2 i = 1#1

  all_goals
    sl_exec
    sl_step
    iapply Hk
    isplitl [H2]
    · iexists _; isplitr; swap; · iexact H2
      ipureintro; exact h2
    isplitl [H3]
    · iexists _; isplitr; swap; · iexact H3
      ipureintro; exact h3
    isplitl [H4]
    · iexists _; isplitr; swap; · iexact H4
      ipureintro; exact h4
    isplitl [H5]
    · iexists _; isplitr; swap; · iexact H5
      ipureintro; exact h5
    isplitl [H6]
    · iexists _; isplitr; swap; · iexact H6
      ipureintro; exact h6
    isplitl [H7]
    · iexists _; isplitr; swap; · iexact H7
      ipureintro; exact h7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    iexists _; iexact HW

end Cert.Kernel.Weak

end
-- ==== Proof.WeakRunKernel.lean ====
/- The run of `Kernel` with nothing said of what it leaves in its results: every execution ends, the arguments hold what
   they held at launch, and every semaphore counter is zero. -/
module

public import proofs.«01_k».proof.Proof.WeakKernel
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame

@[expose] public section

set_option maxRecDepth 16384

noncomputable section

namespace Cert.Kernel.Weak

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The five outputs are forgotten: nothing here reads what the kernel leaves in them. -/
def forgets : Fin 11 → Bool := fun w => decide (6 ≤ w.val)

/-- The proof data on core `c`: the arrays as the region finds them, the inputs kept, the outputs unnamed. -/
def dats (_ : Fin 1) (c : Dev nD) : Dat τ (Elt F) Unit ℕ (UR sig nD τ) ℕ cfg0 c where
  A w := V m c (Pipeline.arrRef spec0 w)
  after
    | 0 => fun t => iblk m c 0 t
    | 1 => fun t => iblk m c 1 t
    | 2 => fun t => iblk m c 2 t
    | 3 => fun t => iblk m c 3 t
    | 4 => fun t => iblk m c 4 t
    | 5 => fun t => iblk m c 5 t
    | 6 => fun t => Pipeline.Dat.unnamed (cfg := cfg0) 6 t
    | 7 => fun t => Pipeline.Dat.unnamed (cfg := cfg0) 7 t
    | 8 => fun t => Pipeline.Dat.unnamed (cfg := cfg0) 8 t
    | 9 => fun t => Pipeline.Dat.unnamed (cfg := cfg0) 9 t
    | 10 => fun t => Pipeline.Dat.unnamed (cfg := cfg0) 10 t
    | ⟨_ + 11, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d
theorem before_3 (c : Dev nD) (t : Fin cfg0.N) (d) : (dats m 0 c).before 3 t d = iblk m c 3 t :=
  before0_3_of m (dats m 0 c) (A_eq m c 3) (fun _ => rfl) t d
theorem before_4 (c : Dev nD) (t : Fin cfg0.N) (d) : (dats m 0 c).before 4 t d = iblk m c 4 t :=
  before0_4_of m (dats m 0 c) (A_eq m c 4) (fun _ => rfl) t d
theorem before_5 (c : Dev nD) (t : Fin cfg0.N) (d) : (dats m 0 c).before 5 t d = iblk m c 5 t :=
  before0_5_of m (dats m 0 c) (A_eq m c 5) (fun _ => rfl) t d

theorem PhiA_eq (c : Dev nD) :
    (Pipeline.ΦA spec0 c : sProp 𝕄)
      = iprop(iprop(any c (Memref.whole cc0_scratch0) ∗ any c (Memref.whole cc0_scratch1) ∗ any c (Memref.whole cc0_scratch2) ∗ any c (Memref.whole cc0_scratch3) ∗ any c (Memref.whole cc0_scratch4) ∗ any c (Memref.whole cc0_scratch5) ∗ any c (Memref.whole cc0_scratch6) ∗ any c (Memref.whole cc0_scratch7) ∗ any c (Memref.whole cc0_scratch8) ∗ any c (Memref.whole cc0_scratch9)) ∗ (∃ r, prngReg c r)) := by
  unfold Pipeline.ΦA; rw [scopedRest0_eq]; unfold any; simp only [owns_whole]

/-- What the body is called with at point `t`. -/
def bodyPre (c : Dev nD) (t : Fin cfg0.N) : sProp 𝕄 :=
  iprop(Pipeline.ΦA spec0 c ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X) ∗ (∃ X, owns (c : Thread nD τ) (st0_10 t) fullShare X))

/-- What it returns. -/
def bodyPost (c : Dev nD) (t : Fin cfg0.N) : sProp 𝕄 :=
  iprop(Pipeline.ΦA spec0 c ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X) ∗ (∃ X, owns (c : Thread nD τ) (st0_10 t) fullShare X))

/-- The body at the point. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost
  rw [show (dats m 0 c).owesAt () t.succ = (dats m 0 c).owesAt () t.castSucc from rfl, PhiA_eq]
  unfold Dat.owesAt Pipeline.owesWithin
  rw [show (dats m 0 c).owed t.castSucc = 0 from rfl]
  simp only [before_0, before_1, before_2, before_3, before_4, before_5]
  iintro ⟨⟨⟨S0, S1, S2, S3, S4, S5, S6, S7, S8, S9⟩, Hg⟩, ⟨%W, %hW, HO⟩, ⟨%d0, H0⟩, ⟨%d1, H1⟩, ⟨%d2, H2⟩, ⟨%d3, H3⟩, ⟨%d4, H4⟩, ⟨%d5, H5⟩, H6, H7, H8, H9, H10⟩
  iapply (kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (iblk m c 0 t) (iblk m c 1 t) (iblk m c 2 t) (iblk m c 3 t) (iblk m c 4 t) (iblk m c 5 t) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [HO]; · iexact HO
  iintro ⟨H0, H1, H2, H3, H4, H5, H6, H7, H8, H9, H10, S0, S1, S2, S3, S4, S5, S6, S7, S8, S9, ⟨%W', HO⟩⟩
  isplitl [S0 S1 S2 S3 S4 S5 S6 S7 S8 S9 Hg]
  · isplitr [Hg]; swap; · iexact Hg
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation, the outputs forgotten. -/
theorem body_obligation (c : Dev nD) :
    BodyObligation (dats (F := F) m 0 c) (defs₀ (F := F)) 𝒱₀ () Set.univ forgets := fun t => by
  rw [bigSep_W0, bigSep_W0, defs₀_row]
  exact triple_restated (sound_body m c t) rfl .rfl fun _ => .rfl

/-- The arrays the host writes after the region. -/
def T : Finset (Ref sig .tc) := {main_v4, main_v5, main_v6, main_v7}

theorem writes_T : ∀ ops ∈ ([hostOps1] : List (List (HloOp τ sig (Elt F)))), ∀ op ∈ ops, ∀ b : Ref sig .tc,
    Proc.devRef .tc b ∈ op.writes → b ∈ T := by
  intro ops hops op hop b hb
  simp only [List.mem_cons, List.mem_nil_iff, or_false] at hops
  rcases hops with rfl
  simp only [hostOps1, List.mem_cons, List.mem_nil_iff, or_false] at hop
  rcases hop with rfl | rfl | rfl | rfl
  all_goals
    simp only [StableHlo.unary_writes, StableHlo.reshape_writes, Finset.mem_singleton] at hb
    have hb := Proc.devRef_injective _ hb
    subst hb; decide

set_option backward.isDefEq.respectTransparency.types false in
/-- The run: it ends, the arguments as launched, every counter at zero. -/
theorem run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  Pipeline.θ_run_frame_around_T_track_forget (Q' := _) cfgs (dats m) (0 : Fin 1) launch0 defs₀ 𝒱₀ forgets T m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := writes_T) (hmain := hmain m 𝒱₀) (hA := A_eq m) (hin := fun _ => .rfl) (hout := fun _ => .rfl)
    (hQ' := fun r h => ⟨fun c => ⟨(h.1.arr_in c 1 rfl).trans (V_main_arg0 m c),
      ((h.1 c).2 main_arg1 (by decide)).trans (V_main_arg1 m c),
      ((h.1 c).2 main_arg2 (by decide)).trans (V_main_arg2 m c),
      (h.1.arr_in c 0 rfl).trans (V_main_arg3 m c),
      (h.1.arr_in c 4 rfl).trans (V_main_arg4 m c),
      ((h.1 c).2 main_arg5 (by decide)).trans (V_main_arg5 m c)⟩, h.2⟩)

end Cert.Kernel.Weak

end
-- ==== Proof.WeakKernelIdeal.lean ====
/- The run of `KernelIdeal` with nothing said of what it leaves in its results: every execution ends, the arguments hold what
   they held at launch, and every semaphore counter is zero. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.KernelIdeal.Weak

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

/-- No variants. -/
abbrev 𝒱₀ : Variants := Variants.none

/-! ## The two loops without a generated invariant -/

set_option warn.classDefReducibility false in
/-- The loop that lays out the words of the gradient codes: it reads `arg6` and leaves `arg13` at some contents. -/
@[sl_loop] def loop1 (c : Dev nD) (i : grid0.Coords) (arg2 : Memref sig .tc .smem S32 .f32) (harg2 : arg2.IsWhole) (arg3 : Memref sig .tc .vmem S1x128x4096 .bf16) (harg3 : arg3.IsWhole) (arg4 : Memref sig .tc .vmem S1x64x128 .f32) (harg4 : arg4.IsWhole) (arg5 : Memref sig .tc .vmem S1x64x128 .f32) (harg5 : arg5.IsWhole) (arg6 : Memref sig .tc .vmem S1x128x32x128 .i8) (harg6 : arg6.IsWhole) (arg7 : Memref sig .tc .vmem S1x32x128 .f32) (harg7 : arg7.IsWhole) (arg8 : Memref sig .tc .vmem S1x128x4096 .bf16) (harg8 : arg8.IsWhole) (arg9 : Memref sig .tc .vmem S1x32 .f32) (harg9 : arg9.IsWhole) (arg10 : Memref sig .tc .vmem S1x32x128 .f32) (harg10 : arg10.IsWhole) (arg11 : Memref sig .tc .vmem S1x32x64x128 .i8) (harg11 : arg11.IsWhole) (arg12 : Memref sig .tc .vmem S1x32x128 .f32) (harg12 : arg12.IsWhole) (arg13 : Memref sig .tc .vmem S1056x128 .i32) (harg13 : arg13.IsWhole) (arg14 : Memref sig .tc .vmem S2x256x128 .f32) (harg14 : arg14.IsWhole) (arg15 : Memref sig .tc .vmem S32x128x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S256x256 .fp8e5m2) (harg19 : arg19.IsWhole) (arg20 : Memref sig .tc .vmem S64x128 .bf16) (harg20 : arg20.IsWhole) (arg21 : Memref sig .tc .vmem S32x128 .f32) (harg21 : arg21.IsWhole) (arg22 : Memref sig .tc .vmem S32x128 .f32) (harg22 : arg22.IsWhole)
    (X6 : BufTy.Contents (Elt F) arg6.view.ty) :
    Gen.LoopInvTy_k0_t1 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 where
  inv := fun _ _ => iprop((arg6.view.loc (c : Thread nD τ) ↦[arg6.view.set]{fullShare} X6) ∗ (∃ f, (arg13.view.loc (c : Thread nD τ) ↦[arg13.view.set]{fullShare} f)))
  step k acc := by
    iintro ⟨H6, ⟨%f, H13⟩⟩
    unfold Gen.k0_t1_body
    sl_exec
    sl_step
    isplitl [H6]; · iexact H6
    iexists _; iexact H13

set_option warn.classDefReducibility false in
/-- The loop over the groups of four heads. -/
@[sl_loop] def loop3 (c : Dev nD) (i : grid0.Coords) (arg2 : Memref sig .tc .smem S32 .f32) (harg2 : arg2.IsWhole) (arg3 : Memref sig .tc .vmem S1x128x4096 .bf16) (harg3 : arg3.IsWhole) (arg4 : Memref sig .tc .vmem S1x64x128 .f32) (harg4 : arg4.IsWhole) (arg5 : Memref sig .tc .vmem S1x64x128 .f32) (harg5 : arg5.IsWhole) (arg6 : Memref sig .tc .vmem S1x128x32x128 .i8) (harg6 : arg6.IsWhole) (arg7 : Memref sig .tc .vmem S1x32x128 .f32) (harg7 : arg7.IsWhole) (arg8 : Memref sig .tc .vmem S1x128x4096 .bf16) (harg8 : arg8.IsWhole) (arg9 : Memref sig .tc .vmem S1x32 .f32) (harg9 : arg9.IsWhole) (arg10 : Memref sig .tc .vmem S1x32x128 .f32) (harg10 : arg10.IsWhole) (arg11 : Memref sig .tc .vmem S1x32x64x128 .i8) (harg11 : arg11.IsWhole) (arg12 : Memref sig .tc .vmem S1x32x128 .f32) (harg12 : arg12.IsWhole) (arg13 : Memref sig .tc .vmem S1056x128 .i32) (harg13 : arg13.IsWhole) (arg14 : Memref sig .tc .vmem S2x256x128 .f32) (harg14 : arg14.IsWhole) (arg15 : Memref sig .tc .vmem S32x128x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S256x256 .fp8e5m2) (harg19 : arg19.IsWhole) (arg20 : Memref sig .tc .vmem S64x128 .bf16) (harg20 : arg20.IsWhole) (arg21 : Memref sig .tc .vmem S32x128 .f32) (harg21 : arg21.IsWhole) (arg22 : Memref sig .tc .vmem S32x128 .f32) (harg22 : arg22.IsWhole)
    (X4 : BufTy.Contents (Elt F) arg4.view.ty) (X5 : BufTy.Contents (Elt F) arg5.view.ty) (X7 : BufTy.Contents (Elt F) arg7.view.ty) (X13 : BufTy.Contents (Elt F) arg13.view.ty) (X15 : BufTy.Contents (Elt F) arg15.view.ty) (X17 : BufTy.Contents (Elt F) arg17.view.ty) (X19 : BufTy.Contents (Elt F) arg19.view.ty) (X20 : BufTy.Contents (Elt F) arg20.view.ty) :
    Gen.LoopInvTy_k0_t3 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 where
  inv := fun _ _ => iprop((arg4.view.loc (c : Thread nD τ) ↦[arg4.view.set]{fullShare} X4) ∗ (arg5.view.loc (c : Thread nD τ) ↦[arg5.view.set]{fullShare} X5) ∗ (arg7.view.loc (c : Thread nD τ) ↦[arg7.view.set]{fullShare} X7) ∗ (arg13.view.loc (c : Thread nD τ) ↦[arg13.view.set]{fullShare} X13) ∗ (arg15.view.loc (c : Thread nD τ) ↦[arg15.view.set]{fullShare} X15) ∗ (arg17.view.loc (c : Thread nD τ) ↦[arg17.view.set]{fullShare} X17) ∗ (arg19.view.loc (c : Thread nD τ) ↦[arg19.view.set]{fullShare} X19) ∗ (arg20.view.loc (c : Thread nD τ) ↦[arg20.view.set]{fullShare} X20) ∗ (∃ f, (arg14.view.loc (c : Thread nD τ) ↦[arg14.view.set]{fullShare} f)) ∗ (∃ f, (arg8.view.loc (c : Thread nD τ) ↦[arg8.view.set]{fullShare} f)) ∗ (∃ f, (arg11.view.loc (c : Thread nD τ) ↦[arg11.view.set]{fullShare} f)) ∗ (∃ f, (arg18.view.loc (c : Thread nD τ) ↦[arg18.view.set]{fullShare} f)))
  step k acc := by
    iintro ⟨H4, H5, H7, H13, H15, H17, H19, H20, ⟨%f14, H14⟩, ⟨%f8, H8⟩, ⟨%f11, H11⟩, ⟨%f18, H18⟩⟩
    unfold Gen.k0_t3_body
    sl_exec
    sl_step
    isplitl [H4]; · iexact H4
    isplitl [H5]; · iexact H5
    isplitl [H7]; · iexact H7
    isplitl [H13]; · iexact H13
    isplitl [H15]; · iexact H15
    isplitl [H17]; · iexact H17
    isplitl [H19]; · iexact H19
    isplitl [H20]; · iexact H20
    isplitl [H14]; · iexists _; iexact H14
    isplitl [H8]; · iexists _; iexact H8
    isplitl [H11]; · iexists _; iexact H11
    iexists _; iexact H18

/-! ## The body, run once -/

/-- A memref held whole at some contents. -/
abbrev any (c : Dev nD) {sp : Space} {S : Shape} {e : EltTy} (M : Memref sig .tc sp S e) : sProp 𝕄 :=
  iprop(∃ d, owns (c : Thread nD τ) M fullShare d)

set_option maxHeartbeats 4000000 in
/-- The body at a grid point, from any contents of its buffers: it runs to its return, the inputs kept. -/
theorem kernelRun (c : Dev nD) (i : grid0.Coords) (arg2 : Memref sig .tc .smem S32 .f32) (harg2 : arg2.IsWhole) (arg3 : Memref sig .tc .vmem S1x128x4096 .bf16) (harg3 : arg3.IsWhole) (arg4 : Memref sig .tc .vmem S1x64x128 .f32) (harg4 : arg4.IsWhole) (arg5 : Memref sig .tc .vmem S1x64x128 .f32) (harg5 : arg5.IsWhole) (arg6 : Memref sig .tc .vmem S1x128x32x128 .i8) (harg6 : arg6.IsWhole) (arg7 : Memref sig .tc .vmem S1x32x128 .f32) (harg7 : arg7.IsWhole) (arg8 : Memref sig .tc .vmem S1x128x4096 .bf16) (harg8 : arg8.IsWhole) (arg9 : Memref sig .tc .vmem S1x32 .f32) (harg9 : arg9.IsWhole) (arg10 : Memref sig .tc .vmem S1x32x128 .f32) (harg10 : arg10.IsWhole) (arg11 : Memref sig .tc .vmem S1x32x64x128 .i8) (harg11 : arg11.IsWhole) (arg12 : Memref sig .tc .vmem S1x32x128 .f32) (harg12 : arg12.IsWhole) (arg13 : Memref sig .tc .vmem S1056x128 .i32) (harg13 : arg13.IsWhole) (arg14 : Memref sig .tc .vmem S2x256x128 .f32) (harg14 : arg14.IsWhole) (arg15 : Memref sig .tc .vmem S32x128x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S256x256 .fp8e5m2) (harg19 : arg19.IsWhole) (arg20 : Memref sig .tc .vmem S64x128 .bf16) (harg20 : arg20.IsWhole) (arg21 : Memref sig .tc .vmem S32x128 .f32) (harg21 : arg21.IsWhole) (arg22 : Memref sig .tc .vmem S32x128 .f32) (harg22 : arg22.IsWhole)
    (X2 : S32.Idx → Elt F .f32) (X3 : S1x128x4096.Idx → Elt F .bf16) (X4 X5 : S1x64x128.Idx → Elt F .f32)
    (X6 : S1x128x32x128.Idx → Elt F .i8) (X7 : S1x32x128.Idx → Elt F .f32)
    (W : Waits sig Unit) (K : PUnit → sProp 𝕄) :
    iprop(owns (c : Thread nD τ) arg2 fullShare X2 ∗ owns (c : Thread nD τ) arg3 fullShare X3 ∗ owns (c : Thread nD τ) arg4 fullShare X4
        ∗ owns (c : Thread nD τ) arg5 fullShare X5 ∗ owns (c : Thread nD τ) arg6 fullShare X6 ∗ owns (c : Thread nD τ) arg7 fullShare X7
        ∗ any c arg8 ∗ any c arg9 ∗ any c arg10 ∗ any c arg11 ∗ any c arg12
        ∗ any c arg13 ∗ any c arg14 ∗ any c arg15 ∗ any c arg16 ∗ any c arg17 ∗ any c arg18 ∗ any c arg19 ∗ any c arg20 ∗ any c arg21 ∗ any c arg22
        ∗ owes (c : Thread nD τ) 0 W
        ∗ (iprop(owns (c : Thread nD τ) arg2 fullShare X2 ∗ owns (c : Thread nD τ) arg3 fullShare X3 ∗ owns (c : Thread nD τ) arg4 fullShare X4
        ∗ owns (c : Thread nD τ) arg5 fullShare X5 ∗ owns (c : Thread nD τ) arg6 fullShare X6 ∗ owns (c : Thread nD τ) arg7 fullShare X7
        ∗ any c arg8 ∗ any c arg9 ∗ any c arg10 ∗ any c arg11 ∗ any c arg12
        ∗ any c arg13 ∗ any c arg14 ∗ any c arg15 ∗ any c arg16 ∗ any c arg17 ∗ any c arg18 ∗ any c arg19 ∗ any c arg20 ∗ any c arg21 ∗ any c arg22
        ∗ ∃ W', owes (c : Thread nD τ) 0 W') -∗ K ⟨⟩))
      ⊢ wp frame (wpE (defs₀ (F := F)) 𝒱₀ c none) Set.univ
          (cc0_rotary_key_backward (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_rotary_key_backward_eq_skeleton]; unfold cc0_rotary_key_backward_skel
  unfold any owns
  iintro ⟨⟨%f2, %h2, H2⟩, ⟨%f3, %h3, H3⟩, ⟨%f4, %h4, H4⟩, ⟨%f5, %h5, H5⟩, ⟨%f6, %h6, H6⟩, ⟨%f7, %h7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, HW, Hk⟩
  by_cases hc2 : k0_cond2 i = 1#1

  all_goals
    sl_exec
    sl_step
    iapply Hk
    isplitl [H2]
    · iexists _; isplitr; swap; · iexact H2
      ipureintro; exact h2
    isplitl [H3]
    · iexists _; isplitr; swap; · iexact H3
      ipureintro; exact h3
    isplitl [H4]
    · iexists _; isplitr; swap; · iexact H4
      ipureintro; exact h4
    isplitl [H5]
    · iexists _; isplitr; swap; · iexact H5
      ipureintro; exact h5
    isplitl [H6]
    · iexists _; isplitr; swap; · iexact H6
      ipureintro; exact h6
    isplitl [H7]
    · iexists _; isplitr; swap; · iexact H7
      ipureintro; exact h7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    iexists _; iexact HW

end Cert.KernelIdeal.Weak

end
-- ==== Proof.WeakRunKernelIdeal.lean ====
/- The run of `KernelIdeal` with nothing said of what it leaves in its results: every execution ends, the arguments hold what
   they held at launch, and every semaphore counter is zero. -/
module

public import proofs.«01_k».proof.Proof.WeakKernelIdeal
public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.KernelIdeal.Weak

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The five outputs are forgotten: nothing here reads what the kernel leaves in them. -/
def forgets : Fin 11 → Bool := fun w => decide (6 ≤ w.val)

/-- The proof data on core `c`: the arrays as the region finds them, the inputs kept, the outputs unnamed. -/
def dats (_ : Fin 1) (c : Dev nD) : Dat τ (Elt F) Unit ℕ (UR sig nD τ) ℕ cfg0 c where
  A w := V m c (Pipeline.arrRef spec0 w)
  after
    | 0 => fun t => iblk m c 0 t
    | 1 => fun t => iblk m c 1 t
    | 2 => fun t => iblk m c 2 t
    | 3 => fun t => iblk m c 3 t
    | 4 => fun t => iblk m c 4 t
    | 5 => fun t => iblk m c 5 t
    | 6 => fun t => Pipeline.Dat.unnamed (cfg := cfg0) 6 t
    | 7 => fun t => Pipeline.Dat.unnamed (cfg := cfg0) 7 t
    | 8 => fun t => Pipeline.Dat.unnamed (cfg := cfg0) 8 t
    | 9 => fun t => Pipeline.Dat.unnamed (cfg := cfg0) 9 t
    | 10 => fun t => Pipeline.Dat.unnamed (cfg := cfg0) 10 t
    | ⟨_ + 11, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d
theorem before_3 (c : Dev nD) (t : Fin cfg0.N) (d) : (dats m 0 c).before 3 t d = iblk m c 3 t :=
  before0_3_of m (dats m 0 c) (A_eq m c 3) (fun _ => rfl) t d
theorem before_4 (c : Dev nD) (t : Fin cfg0.N) (d) : (dats m 0 c).before 4 t d = iblk m c 4 t :=
  before0_4_of m (dats m 0 c) (A_eq m c 4) (fun _ => rfl) t d
theorem before_5 (c : Dev nD) (t : Fin cfg0.N) (d) : (dats m 0 c).before 5 t d = iblk m c 5 t :=
  before0_5_of m (dats m 0 c) (A_eq m c 5) (fun _ => rfl) t d

theorem PhiA_eq (c : Dev nD) :
    (Pipeline.ΦA spec0 c : sProp 𝕄)
      = iprop(iprop(any c (Memref.whole cc0_scratch0) ∗ any c (Memref.whole cc0_scratch1) ∗ any c (Memref.whole cc0_scratch2) ∗ any c (Memref.whole cc0_scratch3) ∗ any c (Memref.whole cc0_scratch4) ∗ any c (Memref.whole cc0_scratch5) ∗ any c (Memref.whole cc0_scratch6) ∗ any c (Memref.whole cc0_scratch7) ∗ any c (Memref.whole cc0_scratch8) ∗ any c (Memref.whole cc0_scratch9)) ∗ (∃ r, prngReg c r)) := by
  unfold Pipeline.ΦA; rw [scopedRest0_eq]; unfold any; simp only [owns_whole]

/-- What the body is called with at point `t`. -/
def bodyPre (c : Dev nD) (t : Fin cfg0.N) : sProp 𝕄 :=
  iprop(Pipeline.ΦA spec0 c ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X) ∗ (∃ X, owns (c : Thread nD τ) (st0_10 t) fullShare X))

/-- What it returns. -/
def bodyPost (c : Dev nD) (t : Fin cfg0.N) : sProp 𝕄 :=
  iprop(Pipeline.ΦA spec0 c ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X) ∗ (∃ X, owns (c : Thread nD τ) (st0_10 t) fullShare X))

/-- The body at the point. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost
  rw [show (dats m 0 c).owesAt () t.succ = (dats m 0 c).owesAt () t.castSucc from rfl, PhiA_eq]
  unfold Dat.owesAt Pipeline.owesWithin
  rw [show (dats m 0 c).owed t.castSucc = 0 from rfl]
  simp only [before_0, before_1, before_2, before_3, before_4, before_5]
  iintro ⟨⟨⟨S0, S1, S2, S3, S4, S5, S6, S7, S8, S9⟩, Hg⟩, ⟨%W, %hW, HO⟩, ⟨%d0, H0⟩, ⟨%d1, H1⟩, ⟨%d2, H2⟩, ⟨%d3, H3⟩, ⟨%d4, H4⟩, ⟨%d5, H5⟩, H6, H7, H8, H9, H10⟩
  iapply (kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (iblk m c 0 t) (iblk m c 1 t) (iblk m c 2 t) (iblk m c 3 t) (iblk m c 4 t) (iblk m c 5 t) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [HO]; · iexact HO
  iintro ⟨H0, H1, H2, H3, H4, H5, H6, H7, H8, H9, H10, S0, S1, S2, S3, S4, S5, S6, S7, S8, S9, ⟨%W', HO⟩⟩
  isplitl [S0 S1 S2 S3 S4 S5 S6 S7 S8 S9 Hg]
  · isplitr [Hg]; swap; · iexact Hg
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation, the outputs forgotten. -/
theorem body_obligation (c : Dev nD) :
    BodyObligation (dats (F := F) m 0 c) (defs₀ (F := F)) 𝒱₀ () Set.univ forgets := fun t => by
  rw [bigSep_W0, bigSep_W0, defs₀_row]
  exact triple_restated (sound_body m c t) rfl .rfl fun _ => .rfl

/-- The arrays the host writes after the region. -/
def T : Finset (Ref sig .tc) := {main_v4, main_v5, main_v6, main_v7}

theorem writes_T : ∀ ops ∈ ([hostOps1] : List (List (HloOp τ sig (Elt F)))), ∀ op ∈ ops, ∀ b : Ref sig .tc,
    Proc.devRef .tc b ∈ op.writes → b ∈ T := by
  intro ops hops op hop b hb
  simp only [List.mem_cons, List.mem_nil_iff, or_false] at hops
  rcases hops with rfl
  simp only [hostOps1, List.mem_cons, List.mem_nil_iff, or_false] at hop
  rcases hop with rfl | rfl | rfl | rfl
  all_goals
    simp only [StableHlo.unary_writes, StableHlo.reshape_writes, Finset.mem_singleton] at hb
    have hb := Proc.devRef_injective _ hb
    subst hb; decide

set_option backward.isDefEq.respectTransparency.types false in
/-- The run: it ends, the arguments as launched, every counter at zero. -/
theorem run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  Pipeline.θ_run_frame_around_T_track_forget (Q' := _) cfgs (dats m) (0 : Fin 1) launch0 defs₀ 𝒱₀ forgets T m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := writes_T) (hmain := hmain m 𝒱₀) (hA := A_eq m) (hin := fun _ => .rfl) (hout := fun _ => .rfl)
    (hQ' := fun r h => ⟨fun c => ⟨(h.1.arr_in c 1 rfl).trans (V_main_arg0 m c),
      ((h.1 c).2 main_arg1 (by decide)).trans (V_main_arg1 m c),
      ((h.1 c).2 main_arg2 (by decide)).trans (V_main_arg2 m c),
      (h.1.arr_in c 0 rfl).trans (V_main_arg3 m c),
      (h.1.arr_in c 4 rfl).trans (V_main_arg4 m c),
      ((h.1 c).2 main_arg5 (by decide)).trans (V_main_arg5 m c)⟩, h.2⟩)

end Cert.KernelIdeal.Weak

end
-- ==== Proof.Spec.lean ====
/- The scalars of the rotary key backward pass as extended reals: the rotation, the quantiser and its backward
   pass, with nothing of a program. -/
module

public import Idealize.ShloMosaic.PureOps.Ideal
public import Idealize.ShloMosaic.Lib.Pointwise
public import Idealize.ShloMosaic.Lib.BitcastFour
public import Idealize.ShloMosaic.Lib.WritesUnit
public import Idealize.ShloMosaic.Lib.IdealHost

@[expose] public section

noncomputable section

namespace Cert.Rot

open Idealize.ShloMosaic

/-- The two halves of a rotated vector. -/
def rotA (x1 x2 c s : EReal) : EReal := x1 * c - x2 * s
def rotB (x1 x2 c s : EReal) : EReal := x2 * c + x1 * s
/-- The two halves of a vector rotated back. -/
def backA (d1 d2 c s : EReal) : EReal := d1 * c + d2 * s
def backB (d1 d2 c s : EReal) : EReal := d2 * c - d1 * s

/-- A quotient clipped to [-7, 7]. -/
def cl (r : EReal) : EReal := min (Ideal.ofBits .f32 0x40E00000#32) (max (Ideal.ofBits .f32 0xC0E00000#32) r)
/-- The clipped quotient's nearest integer. -/
def qq (r : EReal) : EReal := Ideal.liftRound Ideal.roundHalfEven (cl r)
/-- What the gradient of the step size is multiplied with. -/
def tm (r : EReal) : EReal := if cl r = r then qq r - r else qq r
/-- The gradient where the quotient was not clipped. -/
def dd (r g : EReal) : EReal := if cl r = r then g else 0

/-- A load at a unit-stride rectangle, read at an index. -/
theorem _root_.Idealize.ShloMosaic.View.readAt_at {sig : RefSig} {κ : Kind} {sp : Space} {s : Shape} {e : EltTy} {Val : EltTy → Type}
    (v : View sig κ sp s e) (f : v.ty.Contents Val) {off off' size : Fin s.rank → ℕ} (inb : ∀ a, off a + size a ≤ s.size a)
    (h : off = off') (x : (Rect.unit off size inb).shape.Idx) (y : s.Idx) (hy : ∀ a, (y a).val = off' a + (x a).val) :
    v.readAt Val (Rect.unit off size inb).toLoadRect f x = v.read Val f y := by
  subst h
  exact congrArg (v.read Val f) (funext fun a => Fin.ext (by
    show off a + 1 * (x a).val = (y a).val
    rw [hy a, Nat.one_mul]))

/-- A sum over 128 rows taken sixteen rows at a time, the two halves interleaved. -/
theorem sum_tiles (f : Fin 128 → EReal) :
    ∑ i : Fin 16, (((((((((0 : EReal) + f ⟨i.val, by omega⟩) + f ⟨64 + i.val, by omega⟩) + f ⟨16 + i.val, by omega⟩) + f ⟨80 + i.val, by omega⟩)
      + f ⟨32 + i.val, by omega⟩) + f ⟨96 + i.val, by omega⟩) + f ⟨48 + i.val, by omega⟩) + f ⟨112 + i.val, by omega⟩) = ∑ j, f j := by
  have h (n : ℕ) (g : Fin (n + n) → EReal) :
      ∑ j, g j = ∑ i : Fin n, g ⟨i.val, by omega⟩ + ∑ i : Fin n, g ⟨n + i.val, by omega⟩ := by
    rw [Fin.sum_univ_add]; rfl
  simp only [zero_add, Finset.sum_add_distrib]
  rw [h 64 f, h 32 (fun i => f ⟨i.val, _⟩), h 32 (fun i => f ⟨64 + i.val, _⟩), h 16 (fun i => f ⟨i.val, _⟩),
    h 16 (fun i => f ⟨32 + i.val, _⟩), h 16 (fun i => f ⟨64 + i.val, _⟩), h 16 (fun i => f ⟨64 + (32 + i.val), _⟩)]
  simp only [← Nat.add_assoc, Nat.reduceAdd]
  ac_rfl

/-- Eight-bit elements read from words: bit `q` of row `p` is bit `8 (p % 4) + q` of the word at row `p / 4`. -/
theorem bitcast_32_8_ix2 {R r n : Nat} (x : (⟨2, ![r, n]⟩ : Shape).Idx → BitVec 32)
    (h : (⟨2, ![r, n]⟩ : Shape).Bitcasts 32 ⟨2, ![R, n]⟩ 8) (p : Fin R) (l : Fin n) (a : Fin r) (b : ℕ) (hp : p.val = 4 * a.val + b) (hb : b < 4) (q : ℕ) (hq : q < 8) :
    (bitcast ⟨2, ![R, n]⟩ 8 x h (ix2 p l)).getLsbD q = (x (ix2 a l)).getLsbD (8 * b + q) := by
  rw [bitcast_getLsbD x h _ q hq (by decide)]
  have hrow : (⟨2, ![R, n]⟩ : Shape).row (ix2 p l) = p.val := rfl
  have e1 : ((⟨2, ![R, n]⟩ : Shape).row (ix2 p l) * 8 + q) % 32 = 8 * b + q := by rw [hrow]; omega
  have e2 : ((⟨2, ![R, n]⟩ : Shape).row (ix2 p l) * 8 + q) / 32 = a.val := by rw [hrow]; omega
  rw [e1]
  congr 2
  funext c
  match c with
  | ⟨0, _⟩ => exact Fin.ext ((h.srcIdx_row _ _ _ ⟨0, Nat.zero_lt_two⟩ rfl).trans e2)
  | ⟨1, _⟩ => exact Fin.ext (h.srcIdx_other _ _ _ ⟨1, Nat.one_lt_two⟩ (by show ¬ 1 + 2 = 2; omega))

/-- Bytes read as words, each word combined with one whose four bytes are `c`, and read as bytes again. -/
theorem bytes_xor {R r n : Nat} (x : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (w : BitVec 32) (c : BitVec 8) (hw : ∀ q : Fin 8, ∀ b : Fin 4, w.getLsbD (8 * b.val + q.val) = c.getLsbD q.val)
    (hR : R = 4 * r) (p : Fin R) (l : Fin n) :
    bitcast ⟨2, ![R, n]⟩ 8 (xori (bitcast ⟨2, ![r, n]⟩ 32 x h) (broadcast ⟨2, ![r, n]⟩ w)) h' (ix2 p l) = x (ix2 p l) ^^^ c := by
  apply BitVec.eq_of_getLsbD_eq
  intro q hq
  have ha : p.val / 4 < r := by have := p.isLt; omega
  rw [bitcast_32_8_ix2 _ _ p l ⟨p.val / 4, ha⟩ (p.val % 4) (by show p.val = 4 * (p.val / 4) + p.val % 4; omega) (by omega) q hq]
  show (bitcast ⟨2, ![r, n]⟩ 32 x h (ix2 _ l) ^^^ w).getLsbD _ = _
  rw [BitVec.getLsbD_xor, BitVec.getLsbD_xor]
  have e := bitcast_8_32_getLsbD_ix2 x h ⟨p.val / 4, ha⟩ l (8 * (p.val % 4) + q) (by omega) p (by show p.val = 4 * (p.val / 4) + _; omega)
  have e8 : (8 * (p.val % 4) + q) % 8 = q := by omega
  rw [e8] at e
  congr 1
  exact hw ⟨q, hq⟩ ⟨p.val % 4, by omega⟩

theorem bot_f32 : Ideal.ofBits .f32 0xFF800000#32 = ⊥ := by simp [Ideal.ofBits, Ideal.ieee]
theorem seven_f32 : Ideal.ofBits .f32 0x40E00000#32 = ((7 : ℝ) : EReal) := by
  simp [Ideal.ofBits, Ideal.ieee, -EReal.coe_mul]; norm_num
theorem negSeven_f32 : Ideal.ofBits .f32 0xC0E00000#32 = ((-7 : ℝ) : EReal) := by
  simp [Ideal.ofBits, Ideal.ieee, -EReal.coe_mul]; norm_num

/-- A supremum over 128 rows taken eight rows at a time. -/
theorem sup_tiles (f : Fin 128 → EReal) :
    (Finset.univ.sup fun x : Fin 8 => max (max (max
        (max (max (f ⟨x.val, by omega⟩) (f ⟨64 + x.val, by omega⟩)) (max (f ⟨8 + x.val, by omega⟩) (f ⟨72 + x.val, by omega⟩)))
        (max (max (f ⟨16 + x.val, by omega⟩) (f ⟨80 + x.val, by omega⟩)) (max (f ⟨24 + x.val, by omega⟩) (f ⟨88 + x.val, by omega⟩))))
        (max (max (f ⟨32 + x.val, by omega⟩) (f ⟨96 + x.val, by omega⟩)) (max (f ⟨40 + x.val, by omega⟩) (f ⟨104 + x.val, by omega⟩))))
        (max (max (f ⟨48 + x.val, by omega⟩) (f ⟨112 + x.val, by omega⟩)) (max (f ⟨56 + x.val, by omega⟩) (f ⟨120 + x.val, by omega⟩)))) = Finset.univ.sup f := by
  have h (n : ℕ) (g : Fin (n + n) → EReal) :
      Finset.univ.sup g = (Finset.univ.sup fun i : Fin n => g ⟨i.val, by omega⟩) ⊔ Finset.univ.sup fun i : Fin n => g ⟨n + i.val, by omega⟩ := by
    apply le_antisymm
    · refine Finset.sup_le fun j _ => ?_
      by_cases hj : j.val < n
      · exact le_sup_of_le_left (Finset.le_sup (f := fun i : Fin n => g ⟨i.val, by omega⟩) (Finset.mem_univ (⟨j.val, hj⟩ : Fin n)))
      · have e : g j = (fun i : Fin n => g ⟨n + i.val, by omega⟩) ⟨j.val - n, by omega⟩ :=
          congrArg g (Fin.ext (by show j.val = n + (j.val - n); omega))
        rw [e]
        exact le_sup_of_le_right (Finset.le_sup (f := fun i : Fin n => g ⟨n + i.val, by omega⟩) (Finset.mem_univ _))
    · exact sup_le (Finset.sup_le fun i _ => Finset.le_sup (Finset.mem_univ _)) (Finset.sup_le fun i _ => Finset.le_sup (Finset.mem_univ _))
  show (Finset.univ.sup fun x : Fin 8 => ((_ ⊔ _) ⊔ (_ ⊔ _)) ⊔ ((_ ⊔ _) ⊔ (_ ⊔ _)) ⊔ ((_ ⊔ _) ⊔ (_ ⊔ _)) ⊔ ((_ ⊔ _) ⊔ (_ ⊔ _))) = _
  have h' (a b : Fin 8 → EReal) : (Finset.univ.sup fun x => a x ⊔ b x) = Finset.univ.sup a ⊔ Finset.univ.sup b := Finset.sup_sup
  simp only [h']
  rw [h 64 f, h 32 (fun i => f ⟨i.val, _⟩), h 32 (fun i => f ⟨64 + i.val, _⟩), h 16 (fun i => f ⟨i.val, _⟩),
    h 16 (fun i => f ⟨32 + i.val, _⟩), h 16 (fun i => f ⟨64 + i.val, _⟩), h 16 (fun i => f ⟨64 + (32 + i.val), _⟩),
    h 8 (fun i => f ⟨i.val, _⟩), h 8 (fun i => f ⟨16 + i.val, _⟩), h 8 (fun i => f ⟨32 + i.val, _⟩), h 8 (fun i => f ⟨32 + (16 + i.val), _⟩),
    h 8 (fun i => f ⟨64 + i.val, _⟩), h 8 (fun i => f ⟨64 + (16 + i.val), _⟩), h 8 (fun i => f ⟨64 + (32 + i.val), _⟩), h 8 (fun i => f ⟨64 + (32 + (16 + i.val)), _⟩)]
  simp only [← Nat.add_assoc, Nat.reduceAdd]
  ac_rfl

end Cert.Rot

end
-- ==== Proof.Base.lean ====
/- The values the kernel keeps between its loops, each as a function of what is read from its arguments and buffers. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import Idealize.ShloMosaic.Lib.Pointwise
public import Idealize.ShloMosaic.Lib.VecWindow
public import Idealize.ShloMosaic.Lib.WritesUnit
public import proofs.«01_k».proof.Proof.Spec
@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- No variants. -/
abbrev 𝒱₀ : Variants := Variants.none
open Cert.Rot

theorem t1_trips : k0_t1_loop.trips = 128 := by decide +kernel
theorem t2_trips : k0_t2_loop.trips = 32 := by decide +kernel
theorem t3_trips : k0_t3_loop.trips = 8 := by decide +kernel
theorem t4_trips : k0_t4_loop.trips = 4 := by decide +kernel

/-- The head of trip `k` of the first loop over the heads. -/
abbrev h2 (k : Fin k0_t2_loop.trips) : Fin 32 := ⟨k.val, Nat.lt_of_lt_of_eq k.isLt t2_trips⟩
/-- The head of trip `k` of group `t3`. -/
abbrev hd (t3 : Fin k0_t3_loop.trips) (k : Fin k0_t4_loop.trips) : Fin 32 :=
  ⟨4 * t3.val + k.val, by have := Nat.lt_of_lt_of_eq t3.isLt t3_trips; have := Nat.lt_of_lt_of_eq k.isLt t4_trips; omega⟩

/-- The rotated key of a block: head `h`, lane `j`, token `t`. -/
def krA (K : S1x128x4096.Idx → EReal) (C S : S1x64x128.Idx → EReal) (h : Fin 32) (j : Fin 64) (t : Fin 128) : EReal :=
  rotA (K (ix3 0 t ⟨128 * h.val + j.val, by omega⟩)) (K (ix3 0 t ⟨128 * h.val + (64 + j.val), by omega⟩)) (C (ix3 0 j t)) (S (ix3 0 j t))
def krB (K : S1x128x4096.Idx → EReal) (C S : S1x64x128.Idx → EReal) (h : Fin 32) (j : Fin 64) (t : Fin 128) : EReal :=
  rotB (K (ix3 0 t ⟨128 * h.val + j.val, by omega⟩)) (K (ix3 0 t ⟨128 * h.val + (64 + j.val), by omega⟩)) (C (ix3 0 j t)) (S (ix3 0 j t))
def kr (K : S1x128x4096.Idx → EReal) (C S : S1x64x128.Idx → EReal) (h : Fin 32) (j : Fin 128) (t : Fin 128) : EReal :=
  if hj : j.val < 64 then krA K C S h ⟨j.val, hj⟩ t else krB K C S h ⟨j.val - 64, by omega⟩ t
/-- The magnitude of a rotated key, and the largest of a head. -/
def mag (K : S1x128x4096.Idx → EReal) (C S : S1x64x128.Idx → EReal) (h : Fin 32) (t j : Fin 128) : EReal :=
  max (kr K C S h j t) (-kr K C S h j t)
def amax (K : S1x128x4096.Idx → EReal) (C S : S1x64x128.Idx → EReal) (h : Fin 32) (t : Fin 128) : EReal :=
  Finset.univ.sup (mag K C S h t)

theorem kr_lo (K : S1x128x4096.Idx → EReal) (C S : S1x64x128.Idx → EReal) (h : Fin 32) (t : Fin 128) (n : ℕ) (hn : n < 64) :
    kr K C S h ⟨n, by omega⟩ t = krA K C S h ⟨n, hn⟩ t := dif_pos hn
theorem kr_hi (K : S1x128x4096.Idx → EReal) (C S : S1x64x128.Idx → EReal) (h : Fin 32) (t : Fin 128) (n : ℕ) (hn : 64 ≤ n) (hn' : n < 128) :
    kr K C S h ⟨n, hn'⟩ t = krB K C S h ⟨n - 64, by omega⟩ t := dif_neg (by show ¬ n < 64; omega)

/-- The quotient by the step, from the buffers of rotated keys and of reciprocals. -/
def rr (KR : S32x128x128.Idx → EReal) (INV : S32x128.Idx → EReal) (h : Fin 32) (j t : Fin 128) : EReal :=
  KR (ix3 h j t) * INV (ix2 h t)
/-- The scaled gradient of a group's head `k`. -/
def gg (G : S2x256x128.Idx → EReal) (GS : S1x32x128.Idx → EReal) (h : Fin 32) (k : Fin 4) (j t : Fin 128) : EReal :=
  G (ix3 ⟨j.val / 64, by omega⟩ ⟨64 * k.val + j.val % 64, by omega⟩ t) * GS (ix3 0 h t)

/-- One element of the key gradient. -/
def dkF (C S : S1x64x128.Idx → EReal) (r g : Fin 128 → EReal) (j t : Fin 128) : EReal :=
  if hj : j.val < 64 then
    backA (dd (r ⟨j.val, by omega⟩) (g ⟨j.val, by omega⟩)) (dd (r ⟨64 + j.val, by omega⟩) (g ⟨64 + j.val, by omega⟩)) (C (ix3 0 ⟨j.val, hj⟩ t)) (S (ix3 0 ⟨j.val, hj⟩ t))
  else
    backB (dd (r ⟨j.val - 64, by omega⟩) (g ⟨j.val - 64, by omega⟩)) (dd (r ⟨j.val, by omega⟩) (g ⟨j.val, by omega⟩)) (C (ix3 0 ⟨j.val - 64, by omega⟩ t)) (S (ix3 0 ⟨j.val - 64, by omega⟩ t))
/-- The byte of two codes whose weighted sum is `y`. -/
def kcF (y : EReal) : BitVec 8 := (BitVec.setWidth 8 (FloatOps.fptosi (F := Ideal) (φ := .f32) 32 (y + Ideal.ofBits .f32 1124597760#32))) ^^^ 0x88#8
/-- The sum the gradient of the step size starts from. -/
def smF (r g : Fin 128 → EReal) : EReal := ∑ j, g j * tm (r j)

/-- The word of token `t`'s gradient codes that holds the bytes of four heads `4 q`, …, `4 q + 3` at lane `l`. -/
def wdF (B : S1x128x32x128.Idx → BitVec 8) (t : Fin 128) (q : Fin 8) (l : Fin 128) : BitVec 32 :=
  k0_pay138 (F := Ideal) (fun p => B (ix4 0 t (p 2) (p 3))) (ix2 q l)
/-- A group's words, from the buffer that holds every group's. -/
def wd (W : S1056x128.Idx → BitVec 32) (q : Fin 8) : S128x128.Idx → BitVec 32 :=
  fun p => W (ix2 ⟨132 * q.val + (p 0).val, by have : (p 0).val < 128 := (p 0).isLt; omega⟩ (p 1))
/-- A group's gradients, both halves. -/
def gbF (W : S1056x128.Idx → BitVec 32) (PM : S256x256.Idx → EReal) (q : Fin 8) : S2x256x128.Idx → EReal :=
  fun y => if (y 0).val = 0 then k0_pay2 (F := Ideal) (wd W q) PM (ix3 0 (y 1) (y 2)) else k0_pay3 (F := Ideal) (wd W q) PM (ix3 0 (y 1) (y 2))

/-- A head's scaled gradient, its key gradient, its packed codes and its sum. -/
def GF (GS : S1x32x128.Idx → EReal) (W : S1056x128.Idx → BitVec 32) (PM : S256x256.Idx → EReal) (h : Fin 32) (j t : Fin 128) : EReal :=
  gg (gbF W PM ⟨h.val / 4, by omega⟩) GS h ⟨h.val % 4, by omega⟩ j t
def DKF (C S : S1x64x128.Idx → EReal) (GS : S1x32x128.Idx → EReal) (KR : S32x128x128.Idx → EReal) (INV : S32x128.Idx → EReal)
    (W : S1056x128.Idx → BitVec 32) (PM : S256x256.Idx → EReal) (h : Fin 32) (j t : Fin 128) : EReal :=
  dkF C S (fun j => rr KR INV h j t) (fun j => GF GS W PM h j t) j t
def KCF (KR : S32x128x128.Idx → EReal) (INV : S32x128.Idx → EReal) (NW : S64x128.Idx → EReal) (h : Fin 32) (i : Fin 64) (t : Fin 128) : BitVec 8 :=
  kcF (∑ j, NW (ix2 i j) * qq (rr KR INV h j t))
def SMF (GS : S1x32x128.Idx → EReal) (KR : S32x128x128.Idx → EReal) (INV : S32x128.Idx → EReal)
    (W : S1056x128.Idx → BitVec 32) (PM : S256x256.Idx → EReal) (h : Fin 32) (t : Fin 128) : EReal :=
  smF (fun j => rr KR INV h j t) (fun j => GF GS W PM h j t)

theorem GF_hd (GS : S1x32x128.Idx → EReal) (W : S1056x128.Idx → BitVec 32) (PM : S256x256.Idx → EReal)
    (t3 : Fin k0_t3_loop.trips) (k : Fin k0_t4_loop.trips) (j t : Fin 128) :
    GF GS W PM (hd t3 k) j t = gg (gbF W PM ⟨t3.val, Nat.lt_of_lt_of_eq t3.isLt t3_trips⟩) GS (hd t3 k) ⟨k.val, Nat.lt_of_lt_of_eq k.isLt t4_trips⟩ j t := by
  have hk := Nat.lt_of_lt_of_eq k.isLt t4_trips
  have e1 : (4 * t3.val + k.val) / 4 = t3.val := by omega
  have e2 : (4 * t3.val + k.val) % 4 = k.val := by omega
  unfold GF
  simp only [e1, e2]

end Cert.KernelIdeal.Val

end
-- ==== Proof.T2.lean ====
/- The first loop over the heads: each trip rotates one head's keys and takes their largest magnitude. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import Idealize.ShloMosaic.Lib.Pointwise
public import Idealize.ShloMosaic.Lib.VecWindow
public import Idealize.ShloMosaic.Lib.WritesUnit
public import proofs.«01_k».proof.Proof.Base
@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

open Cert.Rot Gen.trip_k0_t2

section Leaves
variable (arg3 : Memref sig .tc .vmem S1x128x4096 .bf16) (arg4 : Memref sig .tc .vmem S1x64x128 .f32) (arg5 : Memref sig .tc .vmem S1x64x128 .f32)
  (k : Fin k0_t2_loop.trips)
  (X3 : BufTy.Contents (Elt Ideal) arg3.view.ty) (X4 : BufTy.Contents (Elt Ideal) arg4.view.ty) (X5 : BufTy.Contents (Elt Ideal) arg5.view.ty)

theorem v49_at (j t : Fin 128) : sl.v49 arg3 X3 k (ix2 j t) = arg3.view.read (Elt Ideal) X3 (ix3 0 t ⟨128 * k.val + j.val, by have := Nat.lt_of_lt_of_eq k.isLt t2_trips; omega⟩) := by
  pointwise [sl.v49, sl.v48]
  exact View.readAt_at _ _ _ (k0_off3_eq k) _ _ (by intro a; fin_cases a <;> simp)

theorem v55_at (i : Fin 16) (t : Fin 128) : sl.v55 arg4 X4 (ix2 i t) = arg4.view.read (Elt Ideal) X4 (ix3 0 ⟨0 + i.val, by omega⟩ t) := by
  pointwise [sl.v55]
  exact View.readAt_at _ _ _ rfl _ _ (by intro a; fin_cases a <;> simp)

theorem v57_at (i : Fin 16) (t : Fin 128) : sl.v57 arg5 X5 (ix2 i t) = arg5.view.read (Elt Ideal) X5 (ix3 0 ⟨0 + i.val, by omega⟩ t) := by
  pointwise [sl.v57]
  exact View.readAt_at _ _ _ rfl _ _ (by intro a; fin_cases a <;> simp)

theorem v60_at (i : Fin 16) (t : Fin 128) : sl.v60 arg3 arg4 arg5 X3 X4 X5 k (ix2 i t)
    = kr (arg3.view.read (Elt Ideal) X3) (arg4.view.read (Elt Ideal) X4) (arg5.view.read (Elt Ideal) X5) (h2 k) ⟨0 + i.val, by omega⟩ t := by
  have e : 64 + (0 + i.val) = 64 + i.val := by omega
  have e' : 64 + i.val = 64 + i.val := rfl
  rw [kr_lo _ _ _ _ _ (0 + i.val) (by omega)]
  pointwise [sl.v60,sl.v50,sl.v51,sl.v52,sl.v53,sl.v58,sl.v59]
  simp only [v49_at, v55_at, v57_at, krA, rotA, e, Nat.zero_add]

theorem v63_at (i : Fin 16) (t : Fin 128) : sl.v63 arg3 arg4 arg5 X3 X4 X5 k (ix2 i t)
    = kr (arg3.view.read (Elt Ideal) X3) (arg4.view.read (Elt Ideal) X4) (arg5.view.read (Elt Ideal) X5) (h2 k) ⟨64 + i.val, by omega⟩ t := by
  have e : 64 + (0 + i.val) = 64 + i.val := by omega
  have e' : 64 + i.val = 64 + i.val := rfl
  have e2 : 64 + i.val - 64 = 0 + i.val := by omega
  rw [kr_hi _ _ _ _ _ (64 + i.val) (by omega) (by omega)]
  pointwise [sl.v63,sl.v50,sl.v51,sl.v52,sl.v53,sl.v61,sl.v62]
  simp only [v49_at, v55_at, v57_at, krB, rotB, e2, e, Nat.zero_add]

theorem v83_at (i : Fin 16) (t : Fin 128) : sl.v83 arg4 X4 (ix2 i t) = arg4.view.read (Elt Ideal) X4 (ix3 0 ⟨16 + i.val, by omega⟩ t) := by
  pointwise [sl.v83]
  exact View.readAt_at _ _ _ rfl _ _ (by intro a; fin_cases a <;> simp)

theorem v85_at (i : Fin 16) (t : Fin 128) : sl.v85 arg5 X5 (ix2 i t) = arg5.view.read (Elt Ideal) X5 (ix3 0 ⟨16 + i.val, by omega⟩ t) := by
  pointwise [sl.v85]
  exact View.readAt_at _ _ _ rfl _ _ (by intro a; fin_cases a <;> simp)

theorem v88_at (i : Fin 16) (t : Fin 128) : sl.v88 arg3 arg4 arg5 X3 X4 X5 k (ix2 i t)
    = kr (arg3.view.read (Elt Ideal) X3) (arg4.view.read (Elt Ideal) X4) (arg5.view.read (Elt Ideal) X5) (h2 k) ⟨16 + i.val, by omega⟩ t := by
  have e : 64 + (16 + i.val) = 80 + i.val := by omega
  have e' : 64 + i.val = 64 + i.val := rfl
  rw [kr_lo _ _ _ _ _ (16 + i.val) (by omega)]
  pointwise [sl.v88,sl.v78,sl.v79,sl.v80,sl.v81,sl.v86,sl.v87]
  simp only [v49_at, v83_at, v85_at, krA, rotA, e, Nat.zero_add]

theorem v91_at (i : Fin 16) (t : Fin 128) : sl.v91 arg3 arg4 arg5 X3 X4 X5 k (ix2 i t)
    = kr (arg3.view.read (Elt Ideal) X3) (arg4.view.read (Elt Ideal) X4) (arg5.view.read (Elt Ideal) X5) (h2 k) ⟨80 + i.val, by omega⟩ t := by
  have e : 64 + (16 + i.val) = 80 + i.val := by omega
  have e' : 64 + i.val = 64 + i.val := rfl
  have e2 : 80 + i.val - 64 = 16 + i.val := by omega
  rw [kr_hi _ _ _ _ _ (80 + i.val) (by omega) (by omega)]
  pointwise [sl.v91,sl.v78,sl.v79,sl.v80,sl.v81,sl.v89,sl.v90]
  simp only [v49_at, v83_at, v85_at, krB, rotB, e2, e, Nat.zero_add]

theorem v112_at (i : Fin 16) (t : Fin 128) : sl.v112 arg4 X4 (ix2 i t) = arg4.view.read (Elt Ideal) X4 (ix3 0 ⟨32 + i.val, by omega⟩ t) := by
  pointwise [sl.v112]
  exact View.readAt_at _ _ _ rfl _ _ (by intro a; fin_cases a <;> simp)

theorem v114_at (i : Fin 16) (t : Fin 128) : sl.v114 arg5 X5 (ix2 i t) = arg5.view.read (Elt Ideal) X5 (ix3 0 ⟨32 + i.val, by omega⟩ t) := by
  pointwise [sl.v114]
  exact View.readAt_at _ _ _ rfl _ _ (by intro a; fin_cases a <;> simp)

theorem v117_at (i : Fin 16) (t : Fin 128) : sl.v117 arg3 arg4 arg5 X3 X4 X5 k (ix2 i t)
    = kr (arg3.view.read (Elt Ideal) X3) (arg4.view.read (Elt Ideal) X4) (arg5.view.read (Elt Ideal) X5) (h2 k) ⟨32 + i.val, by omega⟩ t := by
  have e : 64 + (32 + i.val) = 96 + i.val := by omega
  have e' : 64 + i.val = 64 + i.val := rfl
  rw [kr_lo _ _ _ _ _ (32 + i.val) (by omega)]
  pointwise [sl.v117,sl.v107,sl.v108,sl.v109,sl.v110,sl.v115,sl.v116]
  simp only [v49_at, v112_at, v114_at, krA, rotA, e, Nat.zero_add]

theorem v120_at (i : Fin 16) (t : Fin 128) : sl.v120 arg3 arg4 arg5 X3 X4 X5 k (ix2 i t)
    = kr (arg3.view.read (Elt Ideal) X3) (arg4.view.read (Elt Ideal) X4) (arg5.view.read (Elt Ideal) X5) (h2 k) ⟨96 + i.val, by omega⟩ t := by
  have e : 64 + (32 + i.val) = 96 + i.val := by omega
  have e' : 64 + i.val = 64 + i.val := rfl
  have e2 : 96 + i.val - 64 = 32 + i.val := by omega
  rw [kr_hi _ _ _ _ _ (96 + i.val) (by omega) (by omega)]
  pointwise [sl.v120,sl.v107,sl.v108,sl.v109,sl.v110,sl.v118,sl.v119]
  simp only [v49_at, v112_at, v114_at, krB, rotB, e2, e, Nat.zero_add]

theorem v141_at (i : Fin 16) (t : Fin 128) : sl.v141 arg4 X4 (ix2 i t) = arg4.view.read (Elt Ideal) X4 (ix3 0 ⟨48 + i.val, by omega⟩ t) := by
  pointwise [sl.v141]
  exact View.readAt_at _ _ _ rfl _ _ (by intro a; fin_cases a <;> simp)

theorem v143_at (i : Fin 16) (t : Fin 128) : sl.v143 arg5 X5 (ix2 i t) = arg5.view.read (Elt Ideal) X5 (ix3 0 ⟨48 + i.val, by omega⟩ t) := by
  pointwise [sl.v143]
  exact View.readAt_at _ _ _ rfl _ _ (by intro a; fin_cases a <;> simp)

theorem v146_at (i : Fin 16) (t : Fin 128) : sl.v146 arg3 arg4 arg5 X3 X4 X5 k (ix2 i t)
    = kr (arg3.view.read (Elt Ideal) X3) (arg4.view.read (Elt Ideal) X4) (arg5.view.read (Elt Ideal) X5) (h2 k) ⟨48 + i.val, by omega⟩ t := by
  have e : 64 + (48 + i.val) = 112 + i.val := by omega
  have e' : 64 + i.val = 64 + i.val := rfl
  rw [kr_lo _ _ _ _ _ (48 + i.val) (by omega)]
  pointwise [sl.v146,sl.v136,sl.v137,sl.v138,sl.v139,sl.v144,sl.v145]
  simp only [v49_at, v141_at, v143_at, krA, rotA, e, Nat.zero_add]

theorem v149_at (i : Fin 16) (t : Fin 128) : sl.v149 arg3 arg4 arg5 X3 X4 X5 k (ix2 i t)
    = kr (arg3.view.read (Elt Ideal) X3) (arg4.view.read (Elt Ideal) X4) (arg5.view.read (Elt Ideal) X5) (h2 k) ⟨112 + i.val, by omega⟩ t := by
  have e : 64 + (48 + i.val) = 112 + i.val := by omega
  have e' : 64 + i.val = 64 + i.val := rfl
  have e2 : 112 + i.val - 64 = 48 + i.val := by omega
  rw [kr_hi _ _ _ _ _ (112 + i.val) (by omega) (by omega)]
  pointwise [sl.v149,sl.v136,sl.v137,sl.v138,sl.v139,sl.v147,sl.v148]
  simp only [v49_at, v141_at, v143_at, krB, rotB, e2, e, Nat.zero_add]

theorem v166_at (t : Fin 128) : k0_pay139 (sl.v166 arg3 arg4 arg5 X3 X4 X5 k) (ix2 0 t)
    = amax (arg3.view.read (Elt Ideal) X3) (arg4.view.read (Elt Ideal) X4) (arg5.view.read (Elt Ideal) X5) (h2 k) t := by
  unfold k0_pay139 amax
  rw [← sup_tiles]
  pointwise [sl.v166,sl.v165,sl.v164,sl.v163,sl.v162,sl.v161,sl.v160,sl.v159,sl.v158,sl.v135,sl.v134,sl.v133,sl.v132,sl.v131,sl.v130,sl.v129,sl.v106,sl.v105,sl.v104,sl.v103,sl.v102,sl.v101,sl.v100,sl.v77,sl.v76,sl.v75,sl.v74,sl.v73,sl.v72]
  rw [bot_f32]
  simp only [v60_at, v63_at, v88_at, v91_at, v117_at, v120_at, v146_at, v149_at, mag, Nat.zero_add, ← Nat.add_assoc, Nat.reduceAdd]
  rfl

end Leaves

variable (c : Dev nD) (i : grid0.Coords) (arg2 : Memref sig .tc .smem S32 .f32) (harg2 : arg2.IsWhole) (arg3 : Memref sig .tc .vmem S1x128x4096 .bf16) (harg3 : arg3.IsWhole) (arg4 : Memref sig .tc .vmem S1x64x128 .f32) (harg4 : arg4.IsWhole) (arg5 : Memref sig .tc .vmem S1x64x128 .f32) (harg5 : arg5.IsWhole) (arg6 : Memref sig .tc .vmem S1x128x32x128 .i8) (harg6 : arg6.IsWhole) (arg7 : Memref sig .tc .vmem S1x32x128 .f32) (harg7 : arg7.IsWhole) (arg8 : Memref sig .tc .vmem S1x128x4096 .bf16) (harg8 : arg8.IsWhole) (arg9 : Memref sig .tc .vmem S1x32 .f32) (harg9 : arg9.IsWhole) (arg10 : Memref sig .tc .vmem S1x32x128 .f32) (harg10 : arg10.IsWhole) (arg11 : Memref sig .tc .vmem S1x32x64x128 .i8) (harg11 : arg11.IsWhole) (arg12 : Memref sig .tc .vmem S1x32x128 .f32) (harg12 : arg12.IsWhole) (arg13 : Memref sig .tc .vmem S1056x128 .i32) (harg13 : arg13.IsWhole) (arg14 : Memref sig .tc .vmem S2x256x128 .f32) (harg14 : arg14.IsWhole) (arg15 : Memref sig .tc .vmem S32x128x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S256x256 .fp8e5m2) (harg19 : arg19.IsWhole) (arg20 : Memref sig .tc .vmem S64x128 .bf16) (harg20 : arg20.IsWhole) (arg21 : Memref sig .tc .vmem S32x128 .f32) (harg21 : arg21.IsWhole) (arg22 : Memref sig .tc .vmem S32x128 .f32) (harg22 : arg22.IsWhole)
  (X3 : BufTy.Contents (Elt Ideal) arg3.view.ty) (X4 : BufTy.Contents (Elt Ideal) arg4.view.ty) (X5 : BufTy.Contents (Elt Ideal) arg5.view.ty)
  (f15 : BufTy.Contents (Elt Ideal) arg15.view.ty) (f16 : BufTy.Contents (Elt Ideal) arg16.view.ty)

/-- What the trips before `n` leave of the rotated keys. -/
theorem pb2_kr (n : ℕ) (hn : n ≤ k0_t2_loop.trips) (h : Fin 32) (j t : Fin 128) (hh : h.val < n) :
    arg15.view.read (Elt Ideal) (arg15.view.writes (Elt Ideal) f15 (pb_k0_t2 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X3 X4 X5 n).1) (ix3 h j t)
      = kr (arg3.view.read (Elt Ideal) X3) (arg4.view.read (Elt Ideal) X4) (arg5.view.read (Elt Ideal) X5) h j t := by
  induction n with
  | zero => exact absurd hh (Nat.not_lt_zero _)
  | succ n ih =>
    rw [pb_k0_t2_succ (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X3 X4 X5 ⟨n, hn⟩]
    unfold tripL_k0_t2 trip_k0_t2
    dsimp only [List.cons_append, List.nil_append]
    by_cases he : h.val = n
    · have hk : h = h2 ⟨n, hn⟩ := Fin.ext he
      subst hk
      have hj := j.isLt
      by_cases h0 : j.val < 16
      · let i : Fin 16 := ⟨j.val - 0, by omega⟩
        have hi : j.val = 0 + i.val := by show j.val = 0 + (j.val - 0); omega
        rw [View.read_writes_cons_unit_of_not_mem _ _ _ _ _ _ (k0_off11_eq ⟨n, hn⟩) 1 (Or.inl (by simp; omega))]
        rw [View.read_writes_cons_unit_of_not_mem _ _ _ _ _ _ (k0_off10_eq ⟨n, hn⟩) 1 (Or.inl (by simp; omega))]
        rw [View.read_writes_cons_unit_of_not_mem _ _ _ _ _ _ (k0_off9_eq ⟨n, hn⟩) 1 (Or.inl (by simp; omega))]
        rw [View.read_writes_cons_unit_of_not_mem _ _ _ _ _ _ (k0_off8_eq ⟨n, hn⟩) 1 (Or.inl (by simp; omega))]
        rw [View.read_writes_cons_unit_of_not_mem _ _ _ _ _ _ (k0_off7_eq ⟨n, hn⟩) 1 (Or.inl (by simp; omega))]
        rw [View.read_writes_cons_unit_of_not_mem _ _ _ _ _ _ (k0_off6_eq ⟨n, hn⟩) 1 (Or.inl (by simp; omega))]
        rw [View.read_writes_cons_unit_of_not_mem _ _ _ _ _ _ (k0_off5_eq ⟨n, hn⟩) 1 (Or.inl (by simp; omega))]
        rw [View.read_writes_cons_unit_of_mem _ _ _ _ _ _ (ix3 0 i t) (k0_off4_eq ⟨n, hn⟩) (by intro a; fin_cases a <;> simp [hi])]
        pointwise [sl.v67]
        exact (v60_at arg3 arg4 arg5 ⟨n, hn⟩ X3 X4 X5 i t).trans (congrArg (fun j => kr (arg3.view.read (Elt Ideal) X3) (arg4.view.read (Elt Ideal) X4) (arg5.view.read (Elt Ideal) X5) (Val.h2 ⟨n, hn⟩) j t) (Fin.ext hi.symm))
      by_cases h1 : j.val < 32
      · let i : Fin 16 := ⟨j.val - 16, by omega⟩
        have hi : j.val = 16 + i.val := by show j.val = 16 + (j.val - 16); omega
        rw [View.read_writes_cons_unit_of_not_mem _ _ _ _ _ _ (k0_off11_eq ⟨n, hn⟩) 1 (Or.inl (by simp; omega))]
        rw [View.read_writes_cons_unit_of_not_mem _ _ _ _ _ _ (k0_off10_eq ⟨n, hn⟩) 1 (Or.inl (by simp; omega))]
        rw [View.read_writes_cons_unit_of_not_mem _ _ _ _ _ _ (k0_off9_eq ⟨n, hn⟩) 1 (Or.inl (by simp; omega))]
        rw [View.read_writes_cons_unit_of_not_mem _ _ _ _ _ _ (k0_off8_eq ⟨n, hn⟩) 1 (Or.inl (by simp; omega))]
        rw [View.read_writes_cons_unit_of_not_mem _ _ _ _ _ _ (k0_off7_eq ⟨n, hn⟩) 1 (Or.inl (by simp; omega))]
        rw [View.read_writes_cons_unit_of_mem _ _ _ _ _ _ (ix3 0 i t) (k0_off6_eq ⟨n, hn⟩) (by intro a; fin_cases a <;> simp [hi])]
        pointwise [sl.v95]
        exact (v88_at arg3 arg4 arg5 ⟨n, hn⟩ X3 X4 X5 i t).trans (congrArg (fun j => kr (arg3.view.read (Elt Ideal) X3) (arg4.view.read (Elt Ideal) X4) (arg5.view.read (Elt Ideal) X5) (Val.h2 ⟨n, hn⟩) j t) (Fin.ext hi.symm))
      by_cases h2 : j.val < 48
      · let i : Fin 16 := ⟨j.val - 32, by omega⟩
        have hi : j.val = 32 + i.val := by show j.val = 32 + (j.val - 32); omega
        rw [View.read_writes_cons_unit_of_not_mem _ _ _ _ _ _ (k0_off11_eq ⟨n, hn⟩) 1 (Or.inl (by simp; omega))]
        rw [View.read_writes_cons_unit_of_not_mem _ _ _ _ _ _ (k0_off10_eq ⟨n, hn⟩) 1 (Or.inl (by simp; omega))]
        rw [View.read_writes_cons_unit_of_not_mem _ _ _ _ _ _ (k0_off9_eq ⟨n, hn⟩) 1 (Or.inl (by simp; omega))]
        rw [View.read_writes_cons_unit_of_mem _ _ _ _ _ _ (ix3 0 i t) (k0_off8_eq ⟨n, hn⟩) (by intro a; fin_cases a <;> simp [hi])]
        pointwise [sl.v124]
        exact (v117_at arg3 arg4 arg5 ⟨n, hn⟩ X3 X4 X5 i t).trans (congrArg (fun j => kr (arg3.view.read (Elt Ideal) X3) (arg4.view.read (Elt Ideal) X4) (arg5.view.read (Elt Ideal) X5) (Val.h2 ⟨n, hn⟩) j t) (Fin.ext hi.symm))
      by_cases h3 : j.val < 64
      · let i : Fin 16 := ⟨j.val - 48, by omega⟩
        have hi : j.val = 48 + i.val := by show j.val = 48 + (j.val - 48); omega
        rw [View.read_writes_cons_unit_of_not_mem _ _ _ _ _ _ (k0_off11_eq ⟨n, hn⟩) 1 (Or.inl (by simp; omega))]
        rw [View.read_writes_cons_unit_of_mem _ _ _ _ _ _ (ix3 0 i t) (k0_off10_eq ⟨n, hn⟩) (by intro a; fin_cases a <;> simp [hi])]
        pointwise [sl.v153]
        exact (v146_at arg3 arg4 arg5 ⟨n, hn⟩ X3 X4 X5 i t).trans (congrArg (fun j => kr (arg3.view.read (Elt Ideal) X3) (arg4.view.read (Elt Ideal) X4) (arg5.view.read (Elt Ideal) X5) (Val.h2 ⟨n, hn⟩) j t) (Fin.ext hi.symm))
      by_cases h4 : j.val < 80
      · let i : Fin 16 := ⟨j.val - 64, by omega⟩
        have hi : j.val = 64 + i.val := by show j.val = 64 + (j.val - 64); omega
        rw [View.read_writes_cons_unit_of_not_mem _ _ _ _ _ _ (k0_off11_eq ⟨n, hn⟩) 1 (Or.inl (by simp; omega))]
        rw [View.read_writes_cons_unit_of_not_mem _ _ _ _ _ _ (k0_off10_eq ⟨n, hn⟩) 1 (Or.inr (by simp; omega))]
        rw [View.read_writes_cons_unit_of_not_mem _ _ _ _ _ _ (k0_off9_eq ⟨n, hn⟩) 1 (Or.inl (by simp; omega))]
        rw [View.read_writes_cons_unit_of_not_mem _ _ _ _ _ _ (k0_off8_eq ⟨n, hn⟩) 1 (Or.inr (by simp; omega))]
        rw [View.read_writes_cons_unit_of_not_mem _ _ _ _ _ _ (k0_off7_eq ⟨n, hn⟩) 1 (Or.inl (by simp; omega))]
        rw [View.read_writes_cons_unit_of_not_mem _ _ _ _ _ _ (k0_off6_eq ⟨n, hn⟩) 1 (Or.inr (by simp; omega))]
        rw [View.read_writes_cons_unit_of_mem _ _ _ _ _ _ (ix3 0 i t) (k0_off5_eq ⟨n, hn⟩) (by intro a; fin_cases a <;> simp [hi])]
        pointwise [sl.v71]
        exact (v63_at arg3 arg4 arg5 ⟨n, hn⟩ X3 X4 X5 i t).trans (congrArg (fun j => kr (arg3.view.read (Elt Ideal) X3) (arg4.view.read (Elt Ideal) X4) (arg5.view.read (Elt Ideal) X5) (Val.h2 ⟨n, hn⟩) j t) (Fin.ext hi.symm))
      by_cases h5 : j.val < 96
      · let i : Fin 16 := ⟨j.val - 80, by omega⟩
        have hi : j.val = 80 + i.val := by show j.val = 80 + (j.val - 80); omega
        rw [View.read_writes_cons_unit_of_not_mem _ _ _ _ _ _ (k0_off11_eq ⟨n, hn⟩) 1 (Or.inl (by simp; omega))]
        rw [View.read_writes_cons_unit_of_not_mem _ _ _ _ _ _ (k0_off10_eq ⟨n, hn⟩) 1 (Or.inr (by simp; omega))]
        rw [View.read_writes_cons_unit_of_not_mem _ _ _ _ _ _ (k0_off9_eq ⟨n, hn⟩) 1 (Or.inl (by simp; omega))]
        rw [View.read_writes_cons_unit_of_not_mem _ _ _ _ _ _ (k0_off8_eq ⟨n, hn⟩) 1 (Or.inr (by simp; omega))]
        rw [View.read_writes_cons_unit_of_mem _ _ _ _ _ _ (ix3 0 i t) (k0_off7_eq ⟨n, hn⟩) (by intro a; fin_cases a <;> simp [hi])]
        pointwise [sl.v99]
        exact (v91_at arg3 arg4 arg5 ⟨n, hn⟩ X3 X4 X5 i t).trans (congrArg (fun j => kr (arg3.view.read (Elt Ideal) X3) (arg4.view.read (Elt Ideal) X4) (arg5.view.read (Elt Ideal) X5) (Val.h2 ⟨n, hn⟩) j t) (Fin.ext hi.symm))
      by_cases h6 : j.val < 112
      · let i : Fin 16 := ⟨j.val - 96, by omega⟩
        have hi : j.val = 96 + i.val := by show j.val = 96 + (j.val - 96); omega
        rw [View.read_writes_cons_unit_of_not_mem _ _ _ _ _ _ (k0_off11_eq ⟨n, hn⟩) 1 (Or.inl (by simp; omega))]
        rw [View.read_writes_cons_unit_of_not_mem _ _ _ _ _ _ (k0_off10_eq ⟨n, hn⟩) 1 (Or.inr (by simp; omega))]
        rw [View.read_writes_cons_unit_of_mem _ _ _ _ _ _ (ix3 0 i t) (k0_off9_eq ⟨n, hn⟩) (by intro a; fin_cases a <;> simp [hi])]
        pointwise [sl.v128]
        exact (v120_at arg3 arg4 arg5 ⟨n, hn⟩ X3 X4 X5 i t).trans (congrArg (fun j => kr (arg3.view.read (Elt Ideal) X3) (arg4.view.read (Elt Ideal) X4) (arg5.view.read (Elt Ideal) X5) (Val.h2 ⟨n, hn⟩) j t) (Fin.ext hi.symm))
      by_cases h7 : j.val < 128
      · let i : Fin 16 := ⟨j.val - 112, by omega⟩
        have hi : j.val = 112 + i.val := by show j.val = 112 + (j.val - 112); omega
        rw [View.read_writes_cons_unit_of_mem _ _ _ _ _ _ (ix3 0 i t) (k0_off11_eq ⟨n, hn⟩) (by intro a; fin_cases a <;> simp [hi])]
        pointwise [sl.v157]
        exact (v149_at arg3 arg4 arg5 ⟨n, hn⟩ X3 X4 X5 i t).trans (congrArg (fun j => kr (arg3.view.read (Elt Ideal) X3) (arg4.view.read (Elt Ideal) X4) (arg5.view.read (Elt Ideal) X5) (Val.h2 ⟨n, hn⟩) j t) (Fin.ext hi.symm))
      exact absurd hj h7
    · have hlt : h.val < n := by omega
      rw [View.read_writes_cons_unit_of_not_mem _ _ _ _ _ _ (k0_off11_eq ⟨n, hn⟩) 0 (Or.inl (by simpa using hlt))]
      rw [View.read_writes_cons_unit_of_not_mem _ _ _ _ _ _ (k0_off10_eq ⟨n, hn⟩) 0 (Or.inl (by simpa using hlt))]
      rw [View.read_writes_cons_unit_of_not_mem _ _ _ _ _ _ (k0_off9_eq ⟨n, hn⟩) 0 (Or.inl (by simpa using hlt))]
      rw [View.read_writes_cons_unit_of_not_mem _ _ _ _ _ _ (k0_off8_eq ⟨n, hn⟩) 0 (Or.inl (by simpa using hlt))]
      rw [View.read_writes_cons_unit_of_not_mem _ _ _ _ _ _ (k0_off7_eq ⟨n, hn⟩) 0 (Or.inl (by simpa using hlt))]
      rw [View.read_writes_cons_unit_of_not_mem _ _ _ _ _ _ (k0_off6_eq ⟨n, hn⟩) 0 (Or.inl (by simpa using hlt))]
      rw [View.read_writes_cons_unit_of_not_mem _ _ _ _ _ _ (k0_off5_eq ⟨n, hn⟩) 0 (Or.inl (by simpa using hlt))]
      rw [View.read_writes_cons_unit_of_not_mem _ _ _ _ _ _ (k0_off4_eq ⟨n, hn⟩) 0 (Or.inl (by simpa using hlt))]
      exact ih (by omega) hlt

/-- What the trips before `n` leave of the largest magnitudes. -/
theorem pb2_amax (n : ℕ) (hn : n ≤ k0_t2_loop.trips) (h : Fin 32) (t : Fin 128) (hh : h.val < n) :
    arg16.view.read (Elt Ideal) (arg16.view.writes (Elt Ideal) f16 (pb_k0_t2 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X3 X4 X5 n).2) (ix2 h t)
      = amax (arg3.view.read (Elt Ideal) X3) (arg4.view.read (Elt Ideal) X4) (arg5.view.read (Elt Ideal) X5) h t := by
  induction n with
  | zero => exact absurd hh (Nat.not_lt_zero _)
  | succ n ih =>
    rw [pb_k0_t2_succ (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X3 X4 X5 ⟨n, hn⟩]
    unfold tripL_k0_t2 trip_k0_t2
    dsimp only [List.cons_append, List.nil_append]
    by_cases he : h.val = n
    · have hk : h = h2 ⟨n, hn⟩ := Fin.ext he
      subst hk
      rw [View.read_writes_cons_unit_of_mem _ _ _ _ _ _ (ix2 0 t) (k0_off12_eq ⟨n, hn⟩) (by intro a; fin_cases a <;> simp)]
      exact v166_at arg3 arg4 arg5 ⟨n, hn⟩ X3 X4 X5 t
    · have hlt : h.val < n := by omega
      rw [View.read_writes_cons_unit_of_not_mem _ _ _ _ _ _ (k0_off12_eq ⟨n, hn⟩) 0 (Or.inl (by simpa using hlt))]
      exact ih (by omega) hlt

end Cert.KernelIdeal.Val

end
-- ==== Proof.L1.lean ====
/- The loop that lays the gradient codes' words out, with what it leaves. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import Idealize.ShloMosaic.Lib.Pointwise
public import Idealize.ShloMosaic.Lib.VecWindow
public import Idealize.ShloMosaic.Lib.WritesUnit
public import proofs.«01_k».proof.Proof.Base
@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

open Cert.Rot

theorem read_writes_not_mem {sig : RefSig} {κ : Kind} {sp : Space} {s : Shape} {e : EltTy} {Val : EltTy → Type}
    (v : View sig κ sp s e) (f : v.ty.Contents Val) (R : Rect s) (w : R.shape.Idx → Val e) (L : List (View.Piece Val s e)) (y : s.Idx)
    (h : ∀ x, R.emb x ≠ y) : v.read Val (v.writes Val f ((⟨R, w⟩ : View.Piece Val s e) :: L)) y = v.read Val (v.writes Val f L) y := by
  rw [View.writes_cons]
  exact View.read_slice_write_of_not_mem _ _ _ _ (by simpa using h)

/-- What the trips before `n` leave of the words. -/
def fact1 (B : S1x128x32x128.Idx → BitVec 8) (W : S1056x128.Idx → BitVec 32) (n : ℕ) : Prop :=
  ∀ t : Fin 128, t.val < n → ∀ (q : Fin 8) (l : Fin 128), W (ix2 ⟨132 * q.val + t.val, by omega⟩ l) = wdF B t q l
@[simp ↓] theorem fact1_zero (B : S1x128x32x128.Idx → BitVec 8) (W : S1056x128.Idx → BitVec 32) : fact1 B W 0 = True :=
  eq_true fun t ht => absurd ht (Nat.not_lt_zero _)

set_option warn.classDefReducibility false in
/-- The loop that lays out the words of the gradient codes. -/
@[sl_loop] def loop1 (c : Dev nD) (i : grid0.Coords) (arg2 : Memref sig .tc .smem S32 .f32) (harg2 : arg2.IsWhole) (arg3 : Memref sig .tc .vmem S1x128x4096 .bf16) (harg3 : arg3.IsWhole) (arg4 : Memref sig .tc .vmem S1x64x128 .f32) (harg4 : arg4.IsWhole) (arg5 : Memref sig .tc .vmem S1x64x128 .f32) (harg5 : arg5.IsWhole) (arg6 : Memref sig .tc .vmem S1x128x32x128 .i8) (harg6 : arg6.IsWhole) (arg7 : Memref sig .tc .vmem S1x32x128 .f32) (harg7 : arg7.IsWhole) (arg8 : Memref sig .tc .vmem S1x128x4096 .bf16) (harg8 : arg8.IsWhole) (arg9 : Memref sig .tc .vmem S1x32 .f32) (harg9 : arg9.IsWhole) (arg10 : Memref sig .tc .vmem S1x32x128 .f32) (harg10 : arg10.IsWhole) (arg11 : Memref sig .tc .vmem S1x32x64x128 .i8) (harg11 : arg11.IsWhole) (arg12 : Memref sig .tc .vmem S1x32x128 .f32) (harg12 : arg12.IsWhole) (arg13 : Memref sig .tc .vmem S1056x128 .i32) (harg13 : arg13.IsWhole) (arg14 : Memref sig .tc .vmem S2x256x128 .f32) (harg14 : arg14.IsWhole) (arg15 : Memref sig .tc .vmem S32x128x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S256x256 .fp8e5m2) (harg19 : arg19.IsWhole) (arg20 : Memref sig .tc .vmem S64x128 .bf16) (harg20 : arg20.IsWhole) (arg21 : Memref sig .tc .vmem S32x128 .f32) (harg21 : arg21.IsWhole) (arg22 : Memref sig .tc .vmem S32x128 .f32) (harg22 : arg22.IsWhole)
    (X6 : BufTy.Contents (Elt Ideal) arg6.view.ty) :
    Gen.LoopInvTy_k0_t1 (F := Ideal) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 where
  inv := fun n _ => iprop((arg6.view.loc (c : Thread nD τ) ↦[arg6.view.set]{fullShare} X6) ∗ (∃ f, (arg13.view.loc (c : Thread nD τ) ↦[arg13.view.set]{fullShare} f) ∗ ⌜fact1 (arg6.view.read (Elt Ideal) X6) (arg13.view.read (Elt Ideal) f) n⌝))
  step k acc := by
    iintro ⟨H6, ⟨%f, H13, %hf⟩⟩
    unfold Gen.k0_t1_body
    sl_exec
    sl_step
    isplitl [H6]; · iexact H6
    iexists _
    isplitl [H13]; · iexact H13
    ipureintro
    intro t ht q l
    have hk : k.val < 128 := Nat.lt_of_lt_of_eq k.isLt t1_trips
    by_cases he : t.val = k.val
    · have hy : (ix2 ⟨132 * q.val + t.val, by omega⟩ l : S1056x128.Idx) = (⟨(⟨k0_off2 k, S8x128.size, ![132, 1], k0_off2_inb k⟩ : LoadRect S1056x128), spos_132_1⟩ : Rect S1056x128).emb (ix2 q l) := by
        funext a
        apply Fin.ext
        show _ = k0_off2 k a + ![132, 1] a * _
        rw [show k0_off2 k a = ![k.val, 0] a from congrFun (k0_off2_eq k) a]
        fin_cases a
        · show 132 * q.val + t.val = k.val + 132 * q.val; omega
        · show l.val = 0 + 1 * l.val; omega
      rw [hy]
      refine (View.read_writes_cons_emb _ _ _ _ _ _).trans ?_
      unfold wdF
      have e : View.readAt (Elt Ideal) arg6.view (Rect.unit (s := S1x128x32x128) (k0_off1 k) S1x1x32x128.size (k0_off1_inb k)).toLoadRect X6
          = fun p => arg6.view.read (Elt Ideal) X6 (ix4 0 t (p 2) (p 3)) := by
        funext p
        refine View.readAt_at _ _ _ (k0_off1_eq k) p _ ?_
        have h0 : (p 0).val < 1 := (p 0).isLt
        have h1 : (p 1).val < 1 := (p 1).isLt
        intro a
        fin_cases a
        · show 0 = 0 + (p 0).val; omega
        · show t.val = k.val + (p 1).val; omega
        · show (p 2).val = 0 + (p 2).val; omega
        · show (p 3).val = 0 + (p 3).val; omega
      exact congrArg (fun v => k0_pay138 (F := Ideal) v (ix2 q l)) e
    · have hlt : t.val < k.val := by have : t.val < k.val + 1 := ht; omega
      rw [read_writes_not_mem]
      · exact hf t hlt q l
      · intro x hx
        have := congrArg (fun y : S1056x128.Idx => (y 0).val) hx
        have h2 : k0_off2 k 0 + 132 * (x 0).val = 132 * q.val + t.val := this
        rw [show k0_off2 k 0 = ![k.val, 0] 0 from congrFun (k0_off2_eq k) 0] at h2
        have h3 : k.val + 132 * (x 0).val = 132 * q.val + t.val := h2
        omega

end Cert.KernelIdeal.Val

end
-- ==== Proof.T4.lean ====
/- One trip of the loop over the heads of a group, element by element. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import Idealize.ShloMosaic.Lib.Pointwise
public import Idealize.ShloMosaic.Lib.VecWindow
public import Idealize.ShloMosaic.Lib.WritesUnit
public import proofs.«01_k».proof.Proof.Base
@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

open Cert.Rot Gen.trip_k0_t4

abbrev k4 (k : Fin k0_t4_loop.trips) : Fin 4 := ⟨k.val, Nat.lt_of_lt_of_eq k.isLt t4_trips⟩

theorem gg_lo (G : S2x256x128.Idx → EReal) (GS : S1x32x128.Idx → EReal) (h : Fin 32) (k : Fin 4) (t : Fin 128) (n : ℕ) (hn : n < 64) :
    gg G GS h k ⟨n, by omega⟩ t = G (ix3 0 ⟨64 * k.val + n, by omega⟩ t) * GS (ix3 0 h t) := by
  have e1 : n / 64 = 0 := by omega
  have e2 : n % 64 = n := by omega
  unfold gg; simp only [e1, e2]; rfl
theorem gg_hi (G : S2x256x128.Idx → EReal) (GS : S1x32x128.Idx → EReal) (h : Fin 32) (k : Fin 4) (t : Fin 128) (n : ℕ) (hn : n < 64) :
    gg G GS h k ⟨64 + n, by omega⟩ t = G (ix3 1 ⟨64 * k.val + n, by omega⟩ t) * GS (ix3 0 h t) := by
  have e1 : (64 + n) / 64 = 1 := by omega
  have e2 : (64 + n) % 64 = n := by omega
  unfold gg; simp only [e1, e2]; rfl

section Leaves
variable (arg4 : Memref sig .tc .vmem S1x64x128 .f32) (arg5 : Memref sig .tc .vmem S1x64x128 .f32) (arg7 : Memref sig .tc .vmem S1x32x128 .f32)
  (arg14 : Memref sig .tc .vmem S2x256x128 .f32) (arg15 : Memref sig .tc .vmem S32x128x128 .f32) (arg17 : Memref sig .tc .vmem S32x128 .f32)
  (arg20 : Memref sig .tc .vmem S64x128 .bf16) (t3 : Fin k0_t3_loop.trips) (k : Fin k0_t4_loop.trips)
  (X4 : BufTy.Contents (Elt Ideal) arg4.view.ty) (X5 : BufTy.Contents (Elt Ideal) arg5.view.ty) (X7 : BufTy.Contents (Elt Ideal) arg7.view.ty)
  (X14 : BufTy.Contents (Elt Ideal) arg14.view.ty) (X15 : BufTy.Contents (Elt Ideal) arg15.view.ty) (X17 : BufTy.Contents (Elt Ideal) arg17.view.ty)
  (X20 : BufTy.Contents (Elt Ideal) arg20.view.ty)

theorem v88_at4 (i : Fin 16) (t : Fin 128) : sl.v88 arg17 t3 X17 k (ix2 i t) = arg17.view.read (Elt Ideal) X17 (ix2 (hd t3 k) t) := by
  pointwise [sl.v88]
  exact View.readAt_at _ _ _ (k0_off14_eq t3 k) _ _ (by intro a; fin_cases a <;> simp)
theorem v114_at4 (i : Fin 16) (t : Fin 128) : sl.v114 arg17 t3 X17 k (ix2 i t) = arg17.view.read (Elt Ideal) X17 (ix2 (hd t3 k) t) := by
  pointwise [sl.v114, sl.r]
  exact View.readAt_at _ _ _ (k0_off14_eq t3 k) _ _ (by intro a; fin_cases a <;> simp)
theorem v86_at4 (i : Fin 16) (t : Fin 128) : sl.v86 arg7 t3 X7 k (ix2 i t) = arg7.view.read (Elt Ideal) X7 (ix3 0 (hd t3 k) t) := by
  pointwise [sl.v86, sl.v71]
  exact View.readAt_at _ _ _ (k0_off15_eq t3 k) _ _ (by intro a; fin_cases a <;> simp)
theorem v72_at4 (i : Fin 16) (t : Fin 128) : (sl.v72 : _ → Ideal .f32) (ix2 i t) = Ideal.ofBits .f32 0x00000000#32 := by
  pointwise [sl.v72, sl.cst_56]

theorem v79_at4 (i : Fin 16) (t : Fin 128) : sl.v79 arg15 t3 X15 k (ix2 i t) = arg15.view.read (Elt Ideal) X15 (ix3 (hd t3 k) ⟨i.val, by omega⟩ t) := by
  pointwise [sl.v79]
  exact View.readAt_at _ _ _ (k0_off16_eq t3 k) _ _ (by intro a; fin_cases a <;> simp)
theorem v85_at4 (i : Fin 16) (t : Fin 128) : sl.v85 arg14 X14 k (ix2 i t) = arg14.view.read (Elt Ideal) X14 (ix3 0 ⟨64 * k.val + (i.val), by have := Nat.lt_of_lt_of_eq k.isLt t4_trips; omega⟩ t) := by
  have e : k0_off17 k 0#32 = ![0, 64 * k.val + 0, 0] := k0_off17_eq k 0
  pointwise [sl.v85]
  exact View.readAt_at _ _ _ e _ _ (by intro a; fin_cases a <;> simp [Nat.add_assoc])
theorem v89_at4 (i : Fin 16) (t : Fin 128) : sl.v89 arg15 arg17 t3 X15 X17 k (ix2 i t) = rr (arg15.view.read (Elt Ideal) X15) (arg17.view.read (Elt Ideal) X17) (hd t3 k) ⟨i.val, by omega⟩ t := by
  pointwise [sl.v89]
  rw [v79_at4, v88_at4]; rfl
theorem v87_at4 (i : Fin 16) (t : Fin 128) : sl.v87 arg7 arg14 t3 X7 X14 k (ix2 i t) = gg (arg14.view.read (Elt Ideal) X14) (arg7.view.read (Elt Ideal) X7) (hd t3 k) (k4 k) ⟨i.val, by omega⟩ t := by
  have e : gg (arg14.view.read (Elt Ideal) X14) (arg7.view.read (Elt Ideal) X7) (hd t3 k) (k4 k) ⟨i.val, by omega⟩ t = _ := gg_lo _ _ _ _ _ (i.val) (by omega)
  rw [e]
  pointwise [sl.v87]
  rw [v85_at4, v86_at4]
theorem v95_at4 (i : Fin 16) (t : Fin 128) : sl.v95 arg15 arg17 t3 X15 X17 k (ix2 i t) = qq (rr (arg15.view.read (Elt Ideal) X15) (arg17.view.read (Elt Ideal) X17) (hd t3 k) ⟨i.val, by omega⟩ t) := by
  pointwise [sl.v95, sl.v93, sl.v91, sl.v90, sl.v92, sl.cst_68, sl.cst_69]
  rw [v89_at4]; rfl
theorem v97_at4 (i : Fin 16) (t : Fin 128) : sl.v97 arg15 arg17 t3 X15 X17 k (ix2 i t) = tm (rr (arg15.view.read (Elt Ideal) X15) (arg17.view.read (Elt Ideal) X17) (hd t3 k) ⟨i.val, by omega⟩ t) := by
  pointwise [sl.v97, sl.v96, sl.v94, sl.v93, sl.v91, sl.v90, sl.v92, sl.cst_68, sl.cst_69]
  rw [v89_at4, v95_at4]; rfl
theorem v101_at4 (i : Fin 16) (t : Fin 128) : sl.v101 arg7 arg14 arg15 arg17 t3 X7 X14 X15 X17 k (ix2 i t) = dd (rr (arg15.view.read (Elt Ideal) X15) (arg17.view.read (Elt Ideal) X17) (hd t3 k) ⟨i.val, by omega⟩ t) (gg (arg14.view.read (Elt Ideal) X14) (arg7.view.read (Elt Ideal) X7) (hd t3 k) (k4 k) ⟨i.val, by omega⟩ t) := by
  pointwise [sl.v101, sl.v94, sl.v93, sl.v91, sl.v90, sl.v92, sl.cst_68, sl.cst_69, sl.v72, sl.cst_56]
  rw [v89_at4, v87_at4]; rfl
theorem v102_at4 (i : Fin 16) (t : Fin 128) : sl.v102 arg15 arg17 t3 X15 X17 k (ix2 i t) = qq (rr (arg15.view.read (Elt Ideal) X15) (arg17.view.read (Elt Ideal) X17) (hd t3 k) ⟨i.val, by omega⟩ t) := by
  pointwise [sl.v102]
  exact v95_at4 arg15 arg17 t3 k X15 X17 i t

theorem v105_at4 (i : Fin 16) (t : Fin 128) : sl.v105 arg15 t3 X15 k (ix2 i t) = arg15.view.read (Elt Ideal) X15 (ix3 (hd t3 k) ⟨64 + i.val, by omega⟩ t) := by
  pointwise [sl.v105]
  exact View.readAt_at _ _ _ (k0_off18_eq t3 k) _ _ (by intro a; fin_cases a <;> simp)
theorem v111_at4 (i : Fin 16) (t : Fin 128) : sl.v111 arg14 X14 k (ix2 i t) = arg14.view.read (Elt Ideal) X14 (ix3 1 ⟨64 * k.val + (i.val), by have := Nat.lt_of_lt_of_eq k.isLt t4_trips; omega⟩ t) := by
  have e : k0_off19 k 0#32 = ![1, 64 * k.val + 0, 0] := k0_off19_eq k 0
  pointwise [sl.v111]
  exact View.readAt_at _ _ _ e _ _ (by intro a; fin_cases a <;> simp [Nat.add_assoc])
theorem v115_at4 (i : Fin 16) (t : Fin 128) : sl.v115 arg15 arg17 t3 X15 X17 k (ix2 i t) = rr (arg15.view.read (Elt Ideal) X15) (arg17.view.read (Elt Ideal) X17) (hd t3 k) ⟨64 + i.val, by omega⟩ t := by
  pointwise [sl.v115]
  rw [v105_at4, v114_at4]; rfl
theorem v113_at4 (i : Fin 16) (t : Fin 128) : sl.v113 arg7 arg14 t3 X7 X14 k (ix2 i t) = gg (arg14.view.read (Elt Ideal) X14) (arg7.view.read (Elt Ideal) X7) (hd t3 k) (k4 k) ⟨64 + i.val, by omega⟩ t := by
  have e : gg (arg14.view.read (Elt Ideal) X14) (arg7.view.read (Elt Ideal) X7) (hd t3 k) (k4 k) ⟨64 + i.val, by omega⟩ t = _ := (congrArg (fun j => gg (arg14.view.read (Elt Ideal) X14) (arg7.view.read (Elt Ideal) X7) (hd t3 k) (k4 k) j t) (Fin.ext (by show 64 + i.val = 64 + (i.val); omega))).trans (gg_hi _ _ _ _ _ (i.val) (by omega))
  rw [e]
  pointwise [sl.v113]
  rw [v111_at4, v86_at4]
theorem v121_at4 (i : Fin 16) (t : Fin 128) : sl.v121 arg15 arg17 t3 X15 X17 k (ix2 i t) = qq (rr (arg15.view.read (Elt Ideal) X15) (arg17.view.read (Elt Ideal) X17) (hd t3 k) ⟨64 + i.val, by omega⟩ t) := by
  pointwise [sl.v121, sl.v119, sl.v117, sl.v90, sl.v92, sl.cst_68, sl.cst_69]
  rw [v115_at4]; rfl
theorem v123_at4 (i : Fin 16) (t : Fin 128) : sl.v123 arg15 arg17 t3 X15 X17 k (ix2 i t) = tm (rr (arg15.view.read (Elt Ideal) X15) (arg17.view.read (Elt Ideal) X17) (hd t3 k) ⟨64 + i.val, by omega⟩ t) := by
  pointwise [sl.v123, sl.v122, sl.v120, sl.v119, sl.v117, sl.v90, sl.v92, sl.cst_68, sl.cst_69]
  rw [v115_at4, v121_at4]; rfl
theorem v127_at4 (i : Fin 16) (t : Fin 128) : sl.v127 arg7 arg14 arg15 arg17 t3 X7 X14 X15 X17 k (ix2 i t) = dd (rr (arg15.view.read (Elt Ideal) X15) (arg17.view.read (Elt Ideal) X17) (hd t3 k) ⟨64 + i.val, by omega⟩ t) (gg (arg14.view.read (Elt Ideal) X14) (arg7.view.read (Elt Ideal) X7) (hd t3 k) (k4 k) ⟨64 + i.val, by omega⟩ t) := by
  pointwise [sl.v127, sl.v120, sl.v119, sl.v117, sl.v90, sl.v92, sl.cst_68, sl.cst_69, sl.v72, sl.cst_56]
  rw [v115_at4, v113_at4]; rfl
theorem v128_at4 (i : Fin 16) (t : Fin 128) : sl.v128 arg15 arg17 t3 X15 X17 k (ix2 i t) = qq (rr (arg15.view.read (Elt Ideal) X15) (arg17.view.read (Elt Ideal) X17) (hd t3 k) ⟨64 + i.val, by omega⟩ t) := by
  pointwise [sl.v128]
  exact v121_at4 arg15 arg17 t3 k X15 X17 i t

theorem v143_at4 (i : Fin 16) (t : Fin 128) : sl.v143 arg15 t3 X15 k (ix2 i t) = arg15.view.read (Elt Ideal) X15 (ix3 (hd t3 k) ⟨16 + i.val, by omega⟩ t) := by
  pointwise [sl.v143, sl.r_1]
  exact View.readAt_at _ _ _ (k0_off20_eq t3 k) _ _ (by intro a; fin_cases a <;> simp)
theorem v149_at4 (i : Fin 16) (t : Fin 128) : sl.v149 arg14 X14 k (ix2 i t) = arg14.view.read (Elt Ideal) X14 (ix3 0 ⟨64 * k.val + (16 + i.val), by have := Nat.lt_of_lt_of_eq k.isLt t4_trips; omega⟩ t) := by
  have e : k0_off17 k 16#32 = ![0, 64 * k.val + 16, 0] := k0_off17_eq k 1
  pointwise [sl.v149]
  exact View.readAt_at _ _ _ e _ _ (by intro a; fin_cases a <;> simp [Nat.add_assoc])
theorem v153_at4 (i : Fin 16) (t : Fin 128) : sl.v153 arg15 arg17 t3 X15 X17 k (ix2 i t) = rr (arg15.view.read (Elt Ideal) X15) (arg17.view.read (Elt Ideal) X17) (hd t3 k) ⟨16 + i.val, by omega⟩ t := by
  pointwise [sl.v153]
  rw [v143_at4, v114_at4]; rfl
theorem v151_at4 (i : Fin 16) (t : Fin 128) : sl.v151 arg7 arg14 t3 X7 X14 k (ix2 i t) = gg (arg14.view.read (Elt Ideal) X14) (arg7.view.read (Elt Ideal) X7) (hd t3 k) (k4 k) ⟨16 + i.val, by omega⟩ t := by
  have e : gg (arg14.view.read (Elt Ideal) X14) (arg7.view.read (Elt Ideal) X7) (hd t3 k) (k4 k) ⟨16 + i.val, by omega⟩ t = _ := gg_lo _ _ _ _ _ (16 + i.val) (by omega)
  rw [e]
  pointwise [sl.v151]
  rw [v149_at4, v86_at4]
theorem v159_at4 (i : Fin 16) (t : Fin 128) : sl.v159 arg15 arg17 t3 X15 X17 k (ix2 i t) = qq (rr (arg15.view.read (Elt Ideal) X15) (arg17.view.read (Elt Ideal) X17) (hd t3 k) ⟨16 + i.val, by omega⟩ t) := by
  pointwise [sl.v159, sl.v157, sl.v155, sl.v90, sl.v92, sl.cst_68, sl.cst_69]
  rw [v153_at4]; rfl
theorem v161_at4 (i : Fin 16) (t : Fin 128) : sl.v161 arg15 arg17 t3 X15 X17 k (ix2 i t) = tm (rr (arg15.view.read (Elt Ideal) X15) (arg17.view.read (Elt Ideal) X17) (hd t3 k) ⟨16 + i.val, by omega⟩ t) := by
  pointwise [sl.v161, sl.v160, sl.v158, sl.v157, sl.v155, sl.v90, sl.v92, sl.cst_68, sl.cst_69]
  rw [v153_at4, v159_at4]; rfl
theorem v165_at4 (i : Fin 16) (t : Fin 128) : sl.v165 arg7 arg14 arg15 arg17 t3 X7 X14 X15 X17 k (ix2 i t) = dd (rr (arg15.view.read (Elt Ideal) X15) (arg17.view.read (Elt Ideal) X17) (hd t3 k) ⟨16 + i.val, by omega⟩ t) (gg (arg14.view.read (Elt Ideal) X14) (arg7.view.read (Elt Ideal) X7) (hd t3 k) (k4 k) ⟨16 + i.val, by omega⟩ t) := by
  pointwise [sl.v165, sl.v158, sl.v157, sl.v155, sl.v90, sl.v92, sl.cst_68, sl.cst_69, sl.v72, sl.cst_56]
  rw [v153_at4, v151_at4]; rfl
theorem v166_at4 (i : Fin 16) (t : Fin 128) : sl.v166 arg15 arg17 t3 X15 X17 k (ix2 i t) = qq (rr (arg15.view.read (Elt Ideal) X15) (arg17.view.read (Elt Ideal) X17) (hd t3 k) ⟨16 + i.val, by omega⟩ t) := by
  pointwise [sl.v166]
  exact v159_at4 arg15 arg17 t3 k X15 X17 i t

theorem v169_at4 (i : Fin 16) (t : Fin 128) : sl.v169 arg15 t3 X15 k (ix2 i t) = arg15.view.read (Elt Ideal) X15 (ix3 (hd t3 k) ⟨80 + i.val, by omega⟩ t) := by
  pointwise [sl.v169]
  exact View.readAt_at _ _ _ (k0_off21_eq t3 k) _ _ (by intro a; fin_cases a <;> simp)
theorem v175_at4 (i : Fin 16) (t : Fin 128) : sl.v175 arg14 X14 k (ix2 i t) = arg14.view.read (Elt Ideal) X14 (ix3 1 ⟨64 * k.val + (16 + i.val), by have := Nat.lt_of_lt_of_eq k.isLt t4_trips; omega⟩ t) := by
  have e : k0_off19 k 16#32 = ![1, 64 * k.val + 16, 0] := k0_off19_eq k 1
  pointwise [sl.v175]
  exact View.readAt_at _ _ _ e _ _ (by intro a; fin_cases a <;> simp [Nat.add_assoc])
theorem v179_at4 (i : Fin 16) (t : Fin 128) : sl.v179 arg15 arg17 t3 X15 X17 k (ix2 i t) = rr (arg15.view.read (Elt Ideal) X15) (arg17.view.read (Elt Ideal) X17) (hd t3 k) ⟨80 + i.val, by omega⟩ t := by
  pointwise [sl.v179]
  rw [v169_at4, v114_at4]; rfl
theorem v177_at4 (i : Fin 16) (t : Fin 128) : sl.v177 arg7 arg14 t3 X7 X14 k (ix2 i t) = gg (arg14.view.read (Elt Ideal) X14) (arg7.view.read (Elt Ideal) X7) (hd t3 k) (k4 k) ⟨80 + i.val, by omega⟩ t := by
  have e : gg (arg14.view.read (Elt Ideal) X14) (arg7.view.read (Elt Ideal) X7) (hd t3 k) (k4 k) ⟨80 + i.val, by omega⟩ t = _ := (congrArg (fun j => gg (arg14.view.read (Elt Ideal) X14) (arg7.view.read (Elt Ideal) X7) (hd t3 k) (k4 k) j t) (Fin.ext (by show 80 + i.val = 64 + (16 + i.val); omega))).trans (gg_hi _ _ _ _ _ (16 + i.val) (by omega))
  rw [e]
  pointwise [sl.v177]
  rw [v175_at4, v86_at4]
theorem v185_at4 (i : Fin 16) (t : Fin 128) : sl.v185 arg15 arg17 t3 X15 X17 k (ix2 i t) = qq (rr (arg15.view.read (Elt Ideal) X15) (arg17.view.read (Elt Ideal) X17) (hd t3 k) ⟨80 + i.val, by omega⟩ t) := by
  pointwise [sl.v185, sl.v183, sl.v181, sl.v90, sl.v92, sl.cst_68, sl.cst_69]
  rw [v179_at4]; rfl
theorem v187_at4 (i : Fin 16) (t : Fin 128) : sl.v187 arg15 arg17 t3 X15 X17 k (ix2 i t) = tm (rr (arg15.view.read (Elt Ideal) X15) (arg17.view.read (Elt Ideal) X17) (hd t3 k) ⟨80 + i.val, by omega⟩ t) := by
  pointwise [sl.v187, sl.v186, sl.v184, sl.v183, sl.v181, sl.v90, sl.v92, sl.cst_68, sl.cst_69]
  rw [v179_at4, v185_at4]; rfl
theorem v191_at4 (i : Fin 16) (t : Fin 128) : sl.v191 arg7 arg14 arg15 arg17 t3 X7 X14 X15 X17 k (ix2 i t) = dd (rr (arg15.view.read (Elt Ideal) X15) (arg17.view.read (Elt Ideal) X17) (hd t3 k) ⟨80 + i.val, by omega⟩ t) (gg (arg14.view.read (Elt Ideal) X14) (arg7.view.read (Elt Ideal) X7) (hd t3 k) (k4 k) ⟨80 + i.val, by omega⟩ t) := by
  pointwise [sl.v191, sl.v184, sl.v183, sl.v181, sl.v90, sl.v92, sl.cst_68, sl.cst_69, sl.v72, sl.cst_56]
  rw [v179_at4, v177_at4]; rfl
theorem v192_at4 (i : Fin 16) (t : Fin 128) : sl.v192 arg15 arg17 t3 X15 X17 k (ix2 i t) = qq (rr (arg15.view.read (Elt Ideal) X15) (arg17.view.read (Elt Ideal) X17) (hd t3 k) ⟨80 + i.val, by omega⟩ t) := by
  pointwise [sl.v192]
  exact v185_at4 arg15 arg17 t3 k X15 X17 i t

theorem v207_at4 (i : Fin 16) (t : Fin 128) : sl.v207 arg15 t3 X15 k (ix2 i t) = arg15.view.read (Elt Ideal) X15 (ix3 (hd t3 k) ⟨32 + i.val, by omega⟩ t) := by
  pointwise [sl.v207]
  exact View.readAt_at _ _ _ (k0_off22_eq t3 k) _ _ (by intro a; fin_cases a <;> simp)
theorem v213_at4 (i : Fin 16) (t : Fin 128) : sl.v213 arg14 X14 k (ix2 i t) = arg14.view.read (Elt Ideal) X14 (ix3 0 ⟨64 * k.val + (32 + i.val), by have := Nat.lt_of_lt_of_eq k.isLt t4_trips; omega⟩ t) := by
  have e : k0_off17 k 32#32 = ![0, 64 * k.val + 32, 0] := k0_off17_eq k 2
  pointwise [sl.v213]
  exact View.readAt_at _ _ _ e _ _ (by intro a; fin_cases a <;> simp [Nat.add_assoc])
theorem v217_at4 (i : Fin 16) (t : Fin 128) : sl.v217 arg15 arg17 t3 X15 X17 k (ix2 i t) = rr (arg15.view.read (Elt Ideal) X15) (arg17.view.read (Elt Ideal) X17) (hd t3 k) ⟨32 + i.val, by omega⟩ t := by
  pointwise [sl.v217]
  rw [v207_at4, v114_at4]; rfl
theorem v215_at4 (i : Fin 16) (t : Fin 128) : sl.v215 arg7 arg14 t3 X7 X14 k (ix2 i t) = gg (arg14.view.read (Elt Ideal) X14) (arg7.view.read (Elt Ideal) X7) (hd t3 k) (k4 k) ⟨32 + i.val, by omega⟩ t := by
  have e : gg (arg14.view.read (Elt Ideal) X14) (arg7.view.read (Elt Ideal) X7) (hd t3 k) (k4 k) ⟨32 + i.val, by omega⟩ t = _ := gg_lo _ _ _ _ _ (32 + i.val) (by omega)
  rw [e]
  pointwise [sl.v215]
  rw [v213_at4, v86_at4]
theorem v223_at4 (i : Fin 16) (t : Fin 128) : sl.v223 arg15 arg17 t3 X15 X17 k (ix2 i t) = qq (rr (arg15.view.read (Elt Ideal) X15) (arg17.view.read (Elt Ideal) X17) (hd t3 k) ⟨32 + i.val, by omega⟩ t) := by
  pointwise [sl.v223, sl.v221, sl.v219, sl.v90, sl.v92, sl.cst_68, sl.cst_69]
  rw [v217_at4]; rfl
theorem v225_at4 (i : Fin 16) (t : Fin 128) : sl.v225 arg15 arg17 t3 X15 X17 k (ix2 i t) = tm (rr (arg15.view.read (Elt Ideal) X15) (arg17.view.read (Elt Ideal) X17) (hd t3 k) ⟨32 + i.val, by omega⟩ t) := by
  pointwise [sl.v225, sl.v224, sl.v222, sl.v221, sl.v219, sl.v90, sl.v92, sl.cst_68, sl.cst_69]
  rw [v217_at4, v223_at4]; rfl
theorem v229_at4 (i : Fin 16) (t : Fin 128) : sl.v229 arg7 arg14 arg15 arg17 t3 X7 X14 X15 X17 k (ix2 i t) = dd (rr (arg15.view.read (Elt Ideal) X15) (arg17.view.read (Elt Ideal) X17) (hd t3 k) ⟨32 + i.val, by omega⟩ t) (gg (arg14.view.read (Elt Ideal) X14) (arg7.view.read (Elt Ideal) X7) (hd t3 k) (k4 k) ⟨32 + i.val, by omega⟩ t) := by
  pointwise [sl.v229, sl.v222, sl.v221, sl.v219, sl.v90, sl.v92, sl.cst_68, sl.cst_69, sl.v72, sl.cst_56]
  rw [v217_at4, v215_at4]; rfl
theorem v230_at4 (i : Fin 16) (t : Fin 128) : sl.v230 arg15 arg17 t3 X15 X17 k (ix2 i t) = qq (rr (arg15.view.read (Elt Ideal) X15) (arg17.view.read (Elt Ideal) X17) (hd t3 k) ⟨32 + i.val, by omega⟩ t) := by
  pointwise [sl.v230]
  exact v223_at4 arg15 arg17 t3 k X15 X17 i t

theorem v233_at4 (i : Fin 16) (t : Fin 128) : sl.v233 arg15 t3 X15 k (ix2 i t) = arg15.view.read (Elt Ideal) X15 (ix3 (hd t3 k) ⟨96 + i.val, by omega⟩ t) := by
  pointwise [sl.v233]
  exact View.readAt_at _ _ _ (k0_off23_eq t3 k) _ _ (by intro a; fin_cases a <;> simp)
theorem v239_at4 (i : Fin 16) (t : Fin 128) : sl.v239 arg14 X14 k (ix2 i t) = arg14.view.read (Elt Ideal) X14 (ix3 1 ⟨64 * k.val + (32 + i.val), by have := Nat.lt_of_lt_of_eq k.isLt t4_trips; omega⟩ t) := by
  have e : k0_off19 k 32#32 = ![1, 64 * k.val + 32, 0] := k0_off19_eq k 2
  pointwise [sl.v239]
  exact View.readAt_at _ _ _ e _ _ (by intro a; fin_cases a <;> simp [Nat.add_assoc])
theorem v243_at4 (i : Fin 16) (t : Fin 128) : sl.v243 arg15 arg17 t3 X15 X17 k (ix2 i t) = rr (arg15.view.read (Elt Ideal) X15) (arg17.view.read (Elt Ideal) X17) (hd t3 k) ⟨96 + i.val, by omega⟩ t := by
  pointwise [sl.v243]
  rw [v233_at4, v114_at4]; rfl
theorem v241_at4 (i : Fin 16) (t : Fin 128) : sl.v241 arg7 arg14 t3 X7 X14 k (ix2 i t) = gg (arg14.view.read (Elt Ideal) X14) (arg7.view.read (Elt Ideal) X7) (hd t3 k) (k4 k) ⟨96 + i.val, by omega⟩ t := by
  have e : gg (arg14.view.read (Elt Ideal) X14) (arg7.view.read (Elt Ideal) X7) (hd t3 k) (k4 k) ⟨96 + i.val, by omega⟩ t = _ := (congrArg (fun j => gg (arg14.view.read (Elt Ideal) X14) (arg7.view.read (Elt Ideal) X7) (hd t3 k) (k4 k) j t) (Fin.ext (by show 96 + i.val = 64 + (32 + i.val); omega))).trans (gg_hi _ _ _ _ _ (32 + i.val) (by omega))
  rw [e]
  pointwise [sl.v241]
  rw [v239_at4, v86_at4]
theorem v249_at4 (i : Fin 16) (t : Fin 128) : sl.v249 arg15 arg17 t3 X15 X17 k (ix2 i t) = qq (rr (arg15.view.read (Elt Ideal) X15) (arg17.view.read (Elt Ideal) X17) (hd t3 k) ⟨96 + i.val, by omega⟩ t) := by
  pointwise [sl.v249, sl.v247, sl.v245, sl.v90, sl.v92, sl.cst_68, sl.cst_69]
  rw [v243_at4]; rfl
theorem v251_at4 (i : Fin 16) (t : Fin 128) : sl.v251 arg15 arg17 t3 X15 X17 k (ix2 i t) = tm (rr (arg15.view.read (Elt Ideal) X15) (arg17.view.read (Elt Ideal) X17) (hd t3 k) ⟨96 + i.val, by omega⟩ t) := by
  pointwise [sl.v251, sl.v250, sl.v248, sl.v247, sl.v245, sl.v90, sl.v92, sl.cst_68, sl.cst_69]
  rw [v243_at4, v249_at4]; rfl
theorem v255_at4 (i : Fin 16) (t : Fin 128) : sl.v255 arg7 arg14 arg15 arg17 t3 X7 X14 X15 X17 k (ix2 i t) = dd (rr (arg15.view.read (Elt Ideal) X15) (arg17.view.read (Elt Ideal) X17) (hd t3 k) ⟨96 + i.val, by omega⟩ t) (gg (arg14.view.read (Elt Ideal) X14) (arg7.view.read (Elt Ideal) X7) (hd t3 k) (k4 k) ⟨96 + i.val, by omega⟩ t) := by
  pointwise [sl.v255, sl.v248, sl.v247, sl.v245, sl.v90, sl.v92, sl.cst_68, sl.cst_69, sl.v72, sl.cst_56]
  rw [v243_at4, v241_at4]; rfl
theorem v256_at4 (i : Fin 16) (t : Fin 128) : sl.v256 arg15 arg17 t3 X15 X17 k (ix2 i t) = qq (rr (arg15.view.read (Elt Ideal) X15) (arg17.view.read (Elt Ideal) X17) (hd t3 k) ⟨96 + i.val, by omega⟩ t) := by
  pointwise [sl.v256]
  exact v249_at4 arg15 arg17 t3 k X15 X17 i t

theorem v271_at4 (i : Fin 16) (t : Fin 128) : sl.v271 arg15 t3 X15 k (ix2 i t) = arg15.view.read (Elt Ideal) X15 (ix3 (hd t3 k) ⟨48 + i.val, by omega⟩ t) := by
  pointwise [sl.v271]
  exact View.readAt_at _ _ _ (k0_off24_eq t3 k) _ _ (by intro a; fin_cases a <;> simp)
theorem v277_at4 (i : Fin 16) (t : Fin 128) : sl.v277 arg14 X14 k (ix2 i t) = arg14.view.read (Elt Ideal) X14 (ix3 0 ⟨64 * k.val + (48 + i.val), by have := Nat.lt_of_lt_of_eq k.isLt t4_trips; omega⟩ t) := by
  have e : k0_off17 k 48#32 = ![0, 64 * k.val + 48, 0] := k0_off17_eq k 3
  pointwise [sl.v277]
  exact View.readAt_at _ _ _ e _ _ (by intro a; fin_cases a <;> simp [Nat.add_assoc])
theorem v281_at4 (i : Fin 16) (t : Fin 128) : sl.v281 arg15 arg17 t3 X15 X17 k (ix2 i t) = rr (arg15.view.read (Elt Ideal) X15) (arg17.view.read (Elt Ideal) X17) (hd t3 k) ⟨48 + i.val, by omega⟩ t := by
  pointwise [sl.v281]
  rw [v271_at4, v114_at4]; rfl
theorem v279_at4 (i : Fin 16) (t : Fin 128) : sl.v279 arg7 arg14 t3 X7 X14 k (ix2 i t) = gg (arg14.view.read (Elt Ideal) X14) (arg7.view.read (Elt Ideal) X7) (hd t3 k) (k4 k) ⟨48 + i.val, by omega⟩ t := by
  have e : gg (arg14.view.read (Elt Ideal) X14) (arg7.view.read (Elt Ideal) X7) (hd t3 k) (k4 k) ⟨48 + i.val, by omega⟩ t = _ := gg_lo _ _ _ _ _ (48 + i.val) (by omega)
  rw [e]
  pointwise [sl.v279]
  rw [v277_at4, v86_at4]
theorem v287_at4 (i : Fin 16) (t : Fin 128) : sl.v287 arg15 arg17 t3 X15 X17 k (ix2 i t) = qq (rr (arg15.view.read (Elt Ideal) X15) (arg17.view.read (Elt Ideal) X17) (hd t3 k) ⟨48 + i.val, by omega⟩ t) := by
  pointwise [sl.v287, sl.v285, sl.v283, sl.v90, sl.v92, sl.cst_68, sl.cst_69]
  rw [v281_at4]; rfl
theorem v289_at4 (i : Fin 16) (t : Fin 128) : sl.v289 arg15 arg17 t3 X15 X17 k (ix2 i t) = tm (rr (arg15.view.read (Elt Ideal) X15) (arg17.view.read (Elt Ideal) X17) (hd t3 k) ⟨48 + i.val, by omega⟩ t) := by
  pointwise [sl.v289, sl.v288, sl.v286, sl.v285, sl.v283, sl.v90, sl.v92, sl.cst_68, sl.cst_69]
  rw [v281_at4, v287_at4]; rfl
theorem v293_at4 (i : Fin 16) (t : Fin 128) : sl.v293 arg7 arg14 arg15 arg17 t3 X7 X14 X15 X17 k (ix2 i t) = dd (rr (arg15.view.read (Elt Ideal) X15) (arg17.view.read (Elt Ideal) X17) (hd t3 k) ⟨48 + i.val, by omega⟩ t) (gg (arg14.view.read (Elt Ideal) X14) (arg7.view.read (Elt Ideal) X7) (hd t3 k) (k4 k) ⟨48 + i.val, by omega⟩ t) := by
  pointwise [sl.v293, sl.v286, sl.v285, sl.v283, sl.v90, sl.v92, sl.cst_68, sl.cst_69, sl.v72, sl.cst_56]
  rw [v281_at4, v279_at4]; rfl
theorem v294_at4 (i : Fin 16) (t : Fin 128) : sl.v294 arg15 arg17 t3 X15 X17 k (ix2 i t) = qq (rr (arg15.view.read (Elt Ideal) X15) (arg17.view.read (Elt Ideal) X17) (hd t3 k) ⟨48 + i.val, by omega⟩ t) := by
  pointwise [sl.v294]
  exact v287_at4 arg15 arg17 t3 k X15 X17 i t

theorem v297_at4 (i : Fin 16) (t : Fin 128) : sl.v297 arg15 t3 X15 k (ix2 i t) = arg15.view.read (Elt Ideal) X15 (ix3 (hd t3 k) ⟨112 + i.val, by omega⟩ t) := by
  pointwise [sl.v297]
  exact View.readAt_at _ _ _ (k0_off25_eq t3 k) _ _ (by intro a; fin_cases a <;> simp)
theorem v303_at4 (i : Fin 16) (t : Fin 128) : sl.v303 arg14 X14 k (ix2 i t) = arg14.view.read (Elt Ideal) X14 (ix3 1 ⟨64 * k.val + (48 + i.val), by have := Nat.lt_of_lt_of_eq k.isLt t4_trips; omega⟩ t) := by
  have e : k0_off19 k 48#32 = ![1, 64 * k.val + 48, 0] := k0_off19_eq k 3
  pointwise [sl.v303]
  exact View.readAt_at _ _ _ e _ _ (by intro a; fin_cases a <;> simp [Nat.add_assoc])
theorem v307_at4 (i : Fin 16) (t : Fin 128) : sl.v307 arg15 arg17 t3 X15 X17 k (ix2 i t) = rr (arg15.view.read (Elt Ideal) X15) (arg17.view.read (Elt Ideal) X17) (hd t3 k) ⟨112 + i.val, by omega⟩ t := by
  pointwise [sl.v307]
  rw [v297_at4, v114_at4]; rfl
theorem v305_at4 (i : Fin 16) (t : Fin 128) : sl.v305 arg7 arg14 t3 X7 X14 k (ix2 i t) = gg (arg14.view.read (Elt Ideal) X14) (arg7.view.read (Elt Ideal) X7) (hd t3 k) (k4 k) ⟨112 + i.val, by omega⟩ t := by
  have e : gg (arg14.view.read (Elt Ideal) X14) (arg7.view.read (Elt Ideal) X7) (hd t3 k) (k4 k) ⟨112 + i.val, by omega⟩ t = _ := (congrArg (fun j => gg (arg14.view.read (Elt Ideal) X14) (arg7.view.read (Elt Ideal) X7) (hd t3 k) (k4 k) j t) (Fin.ext (by show 112 + i.val = 64 + (48 + i.val); omega))).trans (gg_hi _ _ _ _ _ (48 + i.val) (by omega))
  rw [e]
  pointwise [sl.v305]
  rw [v303_at4, v86_at4]
theorem v313_at4 (i : Fin 16) (t : Fin 128) : sl.v313 arg15 arg17 t3 X15 X17 k (ix2 i t) = qq (rr (arg15.view.read (Elt Ideal) X15) (arg17.view.read (Elt Ideal) X17) (hd t3 k) ⟨112 + i.val, by omega⟩ t) := by
  pointwise [sl.v313, sl.v311, sl.v309, sl.v90, sl.v92, sl.cst_68, sl.cst_69]
  rw [v307_at4]; rfl
theorem v315_at4 (i : Fin 16) (t : Fin 128) : sl.v315 arg15 arg17 t3 X15 X17 k (ix2 i t) = tm (rr (arg15.view.read (Elt Ideal) X15) (arg17.view.read (Elt Ideal) X17) (hd t3 k) ⟨112 + i.val, by omega⟩ t) := by
  pointwise [sl.v315, sl.v314, sl.v312, sl.v311, sl.v309, sl.v90, sl.v92, sl.cst_68, sl.cst_69]
  rw [v307_at4, v313_at4]; rfl
theorem v319_at4 (i : Fin 16) (t : Fin 128) : sl.v319 arg7 arg14 arg15 arg17 t3 X7 X14 X15 X17 k (ix2 i t) = dd (rr (arg15.view.read (Elt Ideal) X15) (arg17.view.read (Elt Ideal) X17) (hd t3 k) ⟨112 + i.val, by omega⟩ t) (gg (arg14.view.read (Elt Ideal) X14) (arg7.view.read (Elt Ideal) X7) (hd t3 k) (k4 k) ⟨112 + i.val, by omega⟩ t) := by
  pointwise [sl.v319, sl.v312, sl.v311, sl.v309, sl.v90, sl.v92, sl.cst_68, sl.cst_69, sl.v72, sl.cst_56]
  rw [v307_at4, v305_at4]; rfl
theorem v320_at4 (i : Fin 16) (t : Fin 128) : sl.v320 arg15 arg17 t3 X15 X17 k (ix2 i t) = qq (rr (arg15.view.read (Elt Ideal) X15) (arg17.view.read (Elt Ideal) X17) (hd t3 k) ⟨112 + i.val, by omega⟩ t) := by
  pointwise [sl.v320]
  exact v313_at4 arg15 arg17 t3 k X15 X17 i t

theorem v74_at4 (i : Fin 16) (t : Fin 128) : sl.v74 arg4 X4 (ix2 i t) = arg4.view.read (Elt Ideal) X4 (ix3 0 ⟨i.val, by omega⟩ t) := by
  pointwise [sl.v74]
  exact View.readAt_at _ _ _ rfl _ _ (by intro a; fin_cases a <;> simp)

theorem v76_at4 (i : Fin 16) (t : Fin 128) : sl.v76 arg5 X5 (ix2 i t) = arg5.view.read (Elt Ideal) X5 (ix3 0 ⟨i.val, by omega⟩ t) := by
  pointwise [sl.v76]
  exact View.readAt_at _ _ _ rfl _ _ (by intro a; fin_cases a <;> simp)

theorem v132_at4 (i : Fin 16) (t : Fin 128) : sl.v132 arg4 arg5 arg7 arg14 arg15 arg17 t3 X4 X5 X7 X14 X15 X17 k (ix2 i t) = dkF (arg4.view.read (Elt Ideal) X4) (arg5.view.read (Elt Ideal) X5) (fun j => rr (arg15.view.read (Elt Ideal) X15) (arg17.view.read (Elt Ideal) X17) (hd t3 k) j t) (fun j => gg (arg14.view.read (Elt Ideal) X14) (arg7.view.read (Elt Ideal) X7) (hd t3 k) (k4 k) j t) ⟨i.val, by omega⟩ t := by
  have e : 64 + (i.val) = 64 + i.val := by omega
  pointwise [sl.v132,sl.v131,sl.v130,sl.v129]
  rw [v101_at4, v127_at4, v74_at4, v76_at4]
  unfold dkF
  rw [dif_pos (by show i.val < 64; omega)]
  simp only [backA]

theorem v136_at4 (i : Fin 16) (t : Fin 128) : sl.v136 arg4 arg5 arg7 arg14 arg15 arg17 t3 X4 X5 X7 X14 X15 X17 k (ix2 i t) = dkF (arg4.view.read (Elt Ideal) X4) (arg5.view.read (Elt Ideal) X5) (fun j => rr (arg15.view.read (Elt Ideal) X15) (arg17.view.read (Elt Ideal) X17) (hd t3 k) j t) (fun j => gg (arg14.view.read (Elt Ideal) X14) (arg7.view.read (Elt Ideal) X7) (hd t3 k) (k4 k) j t) ⟨64 + i.val, by omega⟩ t := by
  have e : 64 + (i.val) = 64 + i.val := by omega
  have e2 : 64 + i.val - 64 = i.val := by omega
  pointwise [sl.v136,sl.v135,sl.v134,sl.v133]
  rw [v101_at4, v127_at4, v74_at4, v76_at4]
  unfold dkF
  rw [dif_neg (by show ¬ 64 + i.val < 64; omega)]
  simp only [backB, e2]

theorem v138_at4 (i : Fin 16) (t : Fin 128) : sl.v138 arg4 X4 (ix2 i t) = arg4.view.read (Elt Ideal) X4 (ix3 0 ⟨16 + i.val, by omega⟩ t) := by
  pointwise [sl.v138]
  exact View.readAt_at _ _ _ rfl _ _ (by intro a; fin_cases a <;> simp)

theorem v140_at4 (i : Fin 16) (t : Fin 128) : sl.v140 arg5 X5 (ix2 i t) = arg5.view.read (Elt Ideal) X5 (ix3 0 ⟨16 + i.val, by omega⟩ t) := by
  pointwise [sl.v140]
  exact View.readAt_at _ _ _ rfl _ _ (by intro a; fin_cases a <;> simp)

theorem v196_at4 (i : Fin 16) (t : Fin 128) : sl.v196 arg4 arg5 arg7 arg14 arg15 arg17 t3 X4 X5 X7 X14 X15 X17 k (ix2 i t) = dkF (arg4.view.read (Elt Ideal) X4) (arg5.view.read (Elt Ideal) X5) (fun j => rr (arg15.view.read (Elt Ideal) X15) (arg17.view.read (Elt Ideal) X17) (hd t3 k) j t) (fun j => gg (arg14.view.read (Elt Ideal) X14) (arg7.view.read (Elt Ideal) X7) (hd t3 k) (k4 k) j t) ⟨16 + i.val, by omega⟩ t := by
  have e : 64 + (16 + i.val) = 80 + i.val := by omega
  pointwise [sl.v196,sl.v195,sl.v194,sl.v193]
  rw [v165_at4, v191_at4, v138_at4, v140_at4]
  unfold dkF
  rw [dif_pos (by show 16 + i.val < 64; omega)]
  simp only [backA, e]

theorem v200_at4 (i : Fin 16) (t : Fin 128) : sl.v200 arg4 arg5 arg7 arg14 arg15 arg17 t3 X4 X5 X7 X14 X15 X17 k (ix2 i t) = dkF (arg4.view.read (Elt Ideal) X4) (arg5.view.read (Elt Ideal) X5) (fun j => rr (arg15.view.read (Elt Ideal) X15) (arg17.view.read (Elt Ideal) X17) (hd t3 k) j t) (fun j => gg (arg14.view.read (Elt Ideal) X14) (arg7.view.read (Elt Ideal) X7) (hd t3 k) (k4 k) j t) ⟨80 + i.val, by omega⟩ t := by
  have e : 64 + (16 + i.val) = 80 + i.val := by omega
  have e2 : 80 + i.val - 64 = 16 + i.val := by omega
  pointwise [sl.v200,sl.v199,sl.v198,sl.v197]
  rw [v165_at4, v191_at4, v138_at4, v140_at4]
  unfold dkF
  rw [dif_neg (by show ¬ 80 + i.val < 64; omega)]
  simp only [backB, e2]

theorem v202_at4 (i : Fin 16) (t : Fin 128) : sl.v202 arg4 X4 (ix2 i t) = arg4.view.read (Elt Ideal) X4 (ix3 0 ⟨32 + i.val, by omega⟩ t) := by
  pointwise [sl.v202]
  exact View.readAt_at _ _ _ rfl _ _ (by intro a; fin_cases a <;> simp)

theorem v204_at4 (i : Fin 16) (t : Fin 128) : sl.v204 arg5 X5 (ix2 i t) = arg5.view.read (Elt Ideal) X5 (ix3 0 ⟨32 + i.val, by omega⟩ t) := by
  pointwise [sl.v204]
  exact View.readAt_at _ _ _ rfl _ _ (by intro a; fin_cases a <;> simp)

theorem v260_at4 (i : Fin 16) (t : Fin 128) : sl.v260 arg4 arg5 arg7 arg14 arg15 arg17 t3 X4 X5 X7 X14 X15 X17 k (ix2 i t) = dkF (arg4.view.read (Elt Ideal) X4) (arg5.view.read (Elt Ideal) X5) (fun j => rr (arg15.view.read (Elt Ideal) X15) (arg17.view.read (Elt Ideal) X17) (hd t3 k) j t) (fun j => gg (arg14.view.read (Elt Ideal) X14) (arg7.view.read (Elt Ideal) X7) (hd t3 k) (k4 k) j t) ⟨32 + i.val, by omega⟩ t := by
  have e : 64 + (32 + i.val) = 96 + i.val := by omega
  pointwise [sl.v260,sl.v259,sl.v258,sl.v257]
  rw [v229_at4, v255_at4, v202_at4, v204_at4]
  unfold dkF
  rw [dif_pos (by show 32 + i.val < 64; omega)]
  simp only [backA, e]

theorem v264_at4 (i : Fin 16) (t : Fin 128) : sl.v264 arg4 arg5 arg7 arg14 arg15 arg17 t3 X4 X5 X7 X14 X15 X17 k (ix2 i t) = dkF (arg4.view.read (Elt Ideal) X4) (arg5.view.read (Elt Ideal) X5) (fun j => rr (arg15.view.read (Elt Ideal) X15) (arg17.view.read (Elt Ideal) X17) (hd t3 k) j t) (fun j => gg (arg14.view.read (Elt Ideal) X14) (arg7.view.read (Elt Ideal) X7) (hd t3 k) (k4 k) j t) ⟨96 + i.val, by omega⟩ t := by
  have e : 64 + (32 + i.val) = 96 + i.val := by omega
  have e2 : 96 + i.val - 64 = 32 + i.val := by omega
  pointwise [sl.v264,sl.v263,sl.v262,sl.v261]
  rw [v229_at4, v255_at4, v202_at4, v204_at4]
  unfold dkF
  rw [dif_neg (by show ¬ 96 + i.val < 64; omega)]
  simp only [backB, e2]

theorem v266_at4 (i : Fin 16) (t : Fin 128) : sl.v266 arg4 X4 (ix2 i t) = arg4.view.read (Elt Ideal) X4 (ix3 0 ⟨48 + i.val, by omega⟩ t) := by
  pointwise [sl.v266]
  exact View.readAt_at _ _ _ rfl _ _ (by intro a; fin_cases a <;> simp)

theorem v268_at4 (i : Fin 16) (t : Fin 128) : sl.v268 arg5 X5 (ix2 i t) = arg5.view.read (Elt Ideal) X5 (ix3 0 ⟨48 + i.val, by omega⟩ t) := by
  pointwise [sl.v268]
  exact View.readAt_at _ _ _ rfl _ _ (by intro a; fin_cases a <;> simp)

theorem v324_at4 (i : Fin 16) (t : Fin 128) : sl.v324 arg4 arg5 arg7 arg14 arg15 arg17 t3 X4 X5 X7 X14 X15 X17 k (ix2 i t) = dkF (arg4.view.read (Elt Ideal) X4) (arg5.view.read (Elt Ideal) X5) (fun j => rr (arg15.view.read (Elt Ideal) X15) (arg17.view.read (Elt Ideal) X17) (hd t3 k) j t) (fun j => gg (arg14.view.read (Elt Ideal) X14) (arg7.view.read (Elt Ideal) X7) (hd t3 k) (k4 k) j t) ⟨48 + i.val, by omega⟩ t := by
  have e : 64 + (48 + i.val) = 112 + i.val := by omega
  pointwise [sl.v324,sl.v323,sl.v322,sl.v321]
  rw [v293_at4, v319_at4, v266_at4, v268_at4]
  unfold dkF
  rw [dif_pos (by show 48 + i.val < 64; omega)]
  simp only [backA, e]

theorem v328_at4 (i : Fin 16) (t : Fin 128) : sl.v328 arg4 arg5 arg7 arg14 arg15 arg17 t3 X4 X5 X7 X14 X15 X17 k (ix2 i t) = dkF (arg4.view.read (Elt Ideal) X4) (arg5.view.read (Elt Ideal) X5) (fun j => rr (arg15.view.read (Elt Ideal) X15) (arg17.view.read (Elt Ideal) X17) (hd t3 k) j t) (fun j => gg (arg14.view.read (Elt Ideal) X14) (arg7.view.read (Elt Ideal) X7) (hd t3 k) (k4 k) j t) ⟨112 + i.val, by omega⟩ t := by
  have e : 64 + (48 + i.val) = 112 + i.val := by omega
  have e2 : 112 + i.val - 64 = 48 + i.val := by omega
  pointwise [sl.v328,sl.v327,sl.v326,sl.v325]
  rw [v293_at4, v319_at4, v266_at4, v268_at4]
  unfold dkF
  rw [dif_neg (by show ¬ 112 + i.val < 64; omega)]
  simp only [backB, e2]

end Leaves

end Cert.KernelIdeal.Val

end
-- ==== Proof.T4b.lean ====
/- One trip of the loop over the heads of a group: what it stores. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import Idealize.ShloMosaic.Lib.Pointwise
public import Idealize.ShloMosaic.Lib.VecWindow
public import Idealize.ShloMosaic.Lib.WritesUnit
public import proofs.«01_k».proof.Proof.T4
@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

open Cert.Rot Gen.trip_k0_t4

theorem fin_val {α : Type} (f : Fin 128 → α) (a b : Fin 128) (h : a.val = b.val) : f a = f b := congrArg f (Fin.ext h)

section Leaves
variable (arg4 : Memref sig .tc .vmem S1x64x128 .f32) (arg5 : Memref sig .tc .vmem S1x64x128 .f32) (arg7 : Memref sig .tc .vmem S1x32x128 .f32)
  (arg14 : Memref sig .tc .vmem S2x256x128 .f32) (arg15 : Memref sig .tc .vmem S32x128x128 .f32) (arg17 : Memref sig .tc .vmem S32x128 .f32)
  (arg20 : Memref sig .tc .vmem S64x128 .bf16) (t3 : Fin k0_t3_loop.trips) (k : Fin k0_t4_loop.trips)
  (X4 : BufTy.Contents (Elt Ideal) arg4.view.ty) (X5 : BufTy.Contents (Elt Ideal) arg5.view.ty) (X7 : BufTy.Contents (Elt Ideal) arg7.view.ty)
  (X14 : BufTy.Contents (Elt Ideal) arg14.view.ty) (X15 : BufTy.Contents (Elt Ideal) arg15.view.ty) (X17 : BufTy.Contents (Elt Ideal) arg17.view.ty)
  (X20 : BufTy.Contents (Elt Ideal) arg20.view.ty)

theorem v344_at4 (j t : Fin 128) : sl.v344 arg4 arg5 arg7 arg14 arg15 arg17 t3 X4 X5 X7 X14 X15 X17 k (ix2 j t) = dkF (arg4.view.read (Elt Ideal) X4) (arg5.view.read (Elt Ideal) X5) (fun j => rr (arg15.view.read (Elt Ideal) X15) (arg17.view.read (Elt Ideal) X17) (hd t3 k) j t) (fun j => gg (arg14.view.read (Elt Ideal) X14) (arg7.view.read (Elt Ideal) X7) (hd t3 k) (k4 k) j t) j t := by
  pointwise [sl.v344]
  by_cases h0 : j.val < 16
  · rw [dif_pos h0]
    rw [v132_at4]
  rw [dif_neg h0]
  by_cases h1 : j.val - 16 < 16
  · rw [dif_pos h1]
    rw [v196_at4]
    exact fin_val (fun j => dkF (arg4.view.read (Elt Ideal) X4) (arg5.view.read (Elt Ideal) X5) (fun j => rr (arg15.view.read (Elt Ideal) X15) (arg17.view.read (Elt Ideal) X17) (hd t3 k) j t) (fun j => gg (arg14.view.read (Elt Ideal) X14) (arg7.view.read (Elt Ideal) X7) (hd t3 k) (k4 k) j t) j t) _ _ (by show 16 + (j.val - 16) = j.val; omega)
  rw [dif_neg h1]
  by_cases h2 : j.val - 16 - 16 < 16
  · rw [dif_pos h2]
    rw [v260_at4]
    exact fin_val (fun j => dkF (arg4.view.read (Elt Ideal) X4) (arg5.view.read (Elt Ideal) X5) (fun j => rr (arg15.view.read (Elt Ideal) X15) (arg17.view.read (Elt Ideal) X17) (hd t3 k) j t) (fun j => gg (arg14.view.read (Elt Ideal) X14) (arg7.view.read (Elt Ideal) X7) (hd t3 k) (k4 k) j t) j t) _ _ (by show 32 + (j.val - 16 - 16) = j.val; omega)
  rw [dif_neg h2]
  by_cases h3 : j.val - 16 - 16 - 16 < 16
  · rw [dif_pos h3]
    rw [v324_at4]
    exact fin_val (fun j => dkF (arg4.view.read (Elt Ideal) X4) (arg5.view.read (Elt Ideal) X5) (fun j => rr (arg15.view.read (Elt Ideal) X15) (arg17.view.read (Elt Ideal) X17) (hd t3 k) j t) (fun j => gg (arg14.view.read (Elt Ideal) X14) (arg7.view.read (Elt Ideal) X7) (hd t3 k) (k4 k) j t) j t) _ _ (by show 48 + (j.val - 16 - 16 - 16) = j.val; omega)
  rw [dif_neg h3]
  by_cases h4 : j.val - 16 - 16 - 16 - 16 < 16
  · rw [dif_pos h4]
    rw [v136_at4]
    exact fin_val (fun j => dkF (arg4.view.read (Elt Ideal) X4) (arg5.view.read (Elt Ideal) X5) (fun j => rr (arg15.view.read (Elt Ideal) X15) (arg17.view.read (Elt Ideal) X17) (hd t3 k) j t) (fun j => gg (arg14.view.read (Elt Ideal) X14) (arg7.view.read (Elt Ideal) X7) (hd t3 k) (k4 k) j t) j t) _ _ (by show 64 + (j.val - 16 - 16 - 16 - 16) = j.val; omega)
  rw [dif_neg h4]
  by_cases h5 : j.val - 16 - 16 - 16 - 16 - 16 < 16
  · rw [dif_pos h5]
    rw [v200_at4]
    exact fin_val (fun j => dkF (arg4.view.read (Elt Ideal) X4) (arg5.view.read (Elt Ideal) X5) (fun j => rr (arg15.view.read (Elt Ideal) X15) (arg17.view.read (Elt Ideal) X17) (hd t3 k) j t) (fun j => gg (arg14.view.read (Elt Ideal) X14) (arg7.view.read (Elt Ideal) X7) (hd t3 k) (k4 k) j t) j t) _ _ (by show 80 + (j.val - 16 - 16 - 16 - 16 - 16) = j.val; omega)
  rw [dif_neg h5]
  by_cases h6 : j.val - 16 - 16 - 16 - 16 - 16 - 16 < 16
  · rw [dif_pos h6]
    rw [v264_at4]
    exact fin_val (fun j => dkF (arg4.view.read (Elt Ideal) X4) (arg5.view.read (Elt Ideal) X5) (fun j => rr (arg15.view.read (Elt Ideal) X15) (arg17.view.read (Elt Ideal) X17) (hd t3 k) j t) (fun j => gg (arg14.view.read (Elt Ideal) X14) (arg7.view.read (Elt Ideal) X7) (hd t3 k) (k4 k) j t) j t) _ _ (by show 96 + (j.val - 16 - 16 - 16 - 16 - 16 - 16) = j.val; omega)
  rw [dif_neg h6]
  rw [v328_at4]
  exact fin_val (fun j => dkF (arg4.view.read (Elt Ideal) X4) (arg5.view.read (Elt Ideal) X5) (fun j => rr (arg15.view.read (Elt Ideal) X15) (arg17.view.read (Elt Ideal) X17) (hd t3 k) j t) (fun j => gg (arg14.view.read (Elt Ideal) X14) (arg7.view.read (Elt Ideal) X7) (hd t3 k) (k4 k) j t) j t) _ _ (by show 112 + (j.val - 16 - 16 - 16 - 16 - 16 - 16 - 16) = j.val; omega)
theorem v329_at4 (j t : Fin 128) : sl.v329 arg15 arg17 t3 X15 X17 k (ix2 j t) = qq (rr (arg15.view.read (Elt Ideal) X15) (arg17.view.read (Elt Ideal) X17) (hd t3 k) j t) := by
  pointwise [sl.v329]
  by_cases h0 : j.val < 16
  · rw [dif_pos h0]
    rw [v102_at4]
  rw [dif_neg h0]
  by_cases h1 : j.val - 16 < 16
  · rw [dif_pos h1]
    rw [v166_at4]
    exact fin_val (fun j => qq (rr (arg15.view.read (Elt Ideal) X15) (arg17.view.read (Elt Ideal) X17) (hd t3 k) j t)) _ _ (by show 16 + (j.val - 16) = j.val; omega)
  rw [dif_neg h1]
  by_cases h2 : j.val - 16 - 16 < 16
  · rw [dif_pos h2]
    rw [v230_at4]
    exact fin_val (fun j => qq (rr (arg15.view.read (Elt Ideal) X15) (arg17.view.read (Elt Ideal) X17) (hd t3 k) j t)) _ _ (by show 32 + (j.val - 16 - 16) = j.val; omega)
  rw [dif_neg h2]
  by_cases h3 : j.val - 16 - 16 - 16 < 16
  · rw [dif_pos h3]
    rw [v294_at4]
    exact fin_val (fun j => qq (rr (arg15.view.read (Elt Ideal) X15) (arg17.view.read (Elt Ideal) X17) (hd t3 k) j t)) _ _ (by show 48 + (j.val - 16 - 16 - 16) = j.val; omega)
  rw [dif_neg h3]
  by_cases h4 : j.val - 16 - 16 - 16 - 16 < 16
  · rw [dif_pos h4]
    rw [v128_at4]
    exact fin_val (fun j => qq (rr (arg15.view.read (Elt Ideal) X15) (arg17.view.read (Elt Ideal) X17) (hd t3 k) j t)) _ _ (by show 64 + (j.val - 16 - 16 - 16 - 16) = j.val; omega)
  rw [dif_neg h4]
  by_cases h5 : j.val - 16 - 16 - 16 - 16 - 16 < 16
  · rw [dif_pos h5]
    rw [v192_at4]
    exact fin_val (fun j => qq (rr (arg15.view.read (Elt Ideal) X15) (arg17.view.read (Elt Ideal) X17) (hd t3 k) j t)) _ _ (by show 80 + (j.val - 16 - 16 - 16 - 16 - 16) = j.val; omega)
  rw [dif_neg h5]
  by_cases h6 : j.val - 16 - 16 - 16 - 16 - 16 - 16 < 16
  · rw [dif_pos h6]
    rw [v256_at4]
    exact fin_val (fun j => qq (rr (arg15.view.read (Elt Ideal) X15) (arg17.view.read (Elt Ideal) X17) (hd t3 k) j t)) _ _ (by show 96 + (j.val - 16 - 16 - 16 - 16 - 16 - 16) = j.val; omega)
  rw [dif_neg h6]
  rw [v320_at4]
  exact fin_val (fun j => qq (rr (arg15.view.read (Elt Ideal) X15) (arg17.view.read (Elt Ideal) X17) (hd t3 k) j t)) _ _ (by show 112 + (j.val - 16 - 16 - 16 - 16 - 16 - 16 - 16) = j.val; omega)
theorem v351_at4 (j t : Fin 128) : sl.v351 arg4 arg5 arg7 arg14 arg15 arg17 t3 X4 X5 X7 X14 X15 X17 k (ix3 0 t j) = dkF (arg4.view.read (Elt Ideal) X4) (arg5.view.read (Elt Ideal) X5) (fun j => rr (arg15.view.read (Elt Ideal) X15) (arg17.view.read (Elt Ideal) X17) (hd t3 k) j t) (fun j => gg (arg14.view.read (Elt Ideal) X14) (arg7.view.read (Elt Ideal) X7) (hd t3 k) (k4 k) j t) j t := by
  pointwise [sl.v351, sl.v345]
  exact v344_at4 arg4 arg5 arg7 arg14 arg15 arg17 t3 k X4 X5 X7 X14 X15 X17 j t
theorem v357_at4 (t : Fin 128) : sl.v357 arg7 arg14 arg15 arg17 t3 X7 X14 X15 X17 k (ix2 0 t) = smF (fun j => rr (arg15.view.read (Elt Ideal) X15) (arg17.view.read (Elt Ideal) X17) (hd t3 k) j t) (fun j => gg (arg14.view.read (Elt Ideal) X14) (arg7.view.read (Elt Ideal) X7) (hd t3 k) (k4 k) j t) := by
  unfold smF
  rw [← sum_tiles]
  pointwise [sl.v357, sl.v353, sl.v352, sl.v99, sl.v125, sl.v163, sl.v189, sl.v227, sl.v253, sl.v291, sl.v317, sl.v98, sl.v124, sl.v162, sl.v188, sl.v226, sl.v252, sl.v290, sl.v316, sl.v72, sl.cst_56]
  simp only [v87_at4, v113_at4, v151_at4, v177_at4, v215_at4, v241_at4, v279_at4, v305_at4, v97_at4, v123_at4, v161_at4, v187_at4, v225_at4, v251_at4, v289_at4, v315_at4, Nat.zero_add, zero_add]
theorem v343_at4 (i : Fin 64) (t : Fin 128) : sl.v343 arg15 arg17 arg20 t3 X15 X17 X20 k (ix4 0 0 i t)
    = kcF (∑ j, arg20.view.read (Elt Ideal) X20 (ix2 i j) * qq (rr (arg15.view.read (Elt Ideal) X15) (arg17.view.read (Elt Ideal) X17) (hd t3 k) j t)) := by
  pointwise [sl.v343]
  unfold sl.v339 sl.v338 sl.v337 sl.v336
  refine (bytes_xor (R := 64) (r := 16) (n := 128) _ _ _ _ 0x88#8 (by decide) rfl i t).trans ?_
  pointwise [sl.v335, sl.v334, sl.v333, sl.v332, sl.v331, sl.cst_146, sl.cst_145]
  unfold kcF
  have e (x : Fin 128) : View.readAt (Elt Ideal) arg20.view (Rect.unit (s := S64x128) ![0, 0] ![64, 128] (by intro a; fin_cases a <;> decide)).toLoadRect X20 (ix2 i x) = arg20.view.read (Elt Ideal) X20 (ix2 i x) :=
    View.readAt_at _ _ _ rfl _ _ (by intro a; fin_cases a <;> simp)
  simp only [v329_at4, e]
end Leaves

end Cert.KernelIdeal.Val

end
-- ==== Proof.T4c.lean ====
/- The trips of the loop over the heads of a group: what they leave of the key gradient, the packed codes and the sums. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import Idealize.ShloMosaic.Lib.Pointwise
public import Idealize.ShloMosaic.Lib.VecWindow
public import Idealize.ShloMosaic.Lib.WritesUnit
public import proofs.«01_k».proof.Proof.T4b
@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

open Cert.Rot Gen.trip_k0_t4

variable (c : Dev nD) (i : grid0.Coords) (arg2 : Memref sig .tc .smem S32 .f32) (harg2 : arg2.IsWhole) (arg3 : Memref sig .tc .vmem S1x128x4096 .bf16) (harg3 : arg3.IsWhole) (arg4 : Memref sig .tc .vmem S1x64x128 .f32) (harg4 : arg4.IsWhole) (arg5 : Memref sig .tc .vmem S1x64x128 .f32) (harg5 : arg5.IsWhole) (arg6 : Memref sig .tc .vmem S1x128x32x128 .i8) (harg6 : arg6.IsWhole) (arg7 : Memref sig .tc .vmem S1x32x128 .f32) (harg7 : arg7.IsWhole) (arg8 : Memref sig .tc .vmem S1x128x4096 .bf16) (harg8 : arg8.IsWhole) (arg9 : Memref sig .tc .vmem S1x32 .f32) (harg9 : arg9.IsWhole) (arg10 : Memref sig .tc .vmem S1x32x128 .f32) (harg10 : arg10.IsWhole) (arg11 : Memref sig .tc .vmem S1x32x64x128 .i8) (harg11 : arg11.IsWhole) (arg12 : Memref sig .tc .vmem S1x32x128 .f32) (harg12 : arg12.IsWhole) (arg13 : Memref sig .tc .vmem S1056x128 .i32) (harg13 : arg13.IsWhole) (arg14 : Memref sig .tc .vmem S2x256x128 .f32) (harg14 : arg14.IsWhole) (arg15 : Memref sig .tc .vmem S32x128x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S256x256 .fp8e5m2) (harg19 : arg19.IsWhole) (arg20 : Memref sig .tc .vmem S64x128 .bf16) (harg20 : arg20.IsWhole) (arg21 : Memref sig .tc .vmem S32x128 .f32) (harg21 : arg21.IsWhole) (arg22 : Memref sig .tc .vmem S32x128 .f32) (harg22 : arg22.IsWhole) (t3 : Fin k0_t3_loop.trips) (v43 : BitVec 32)
  (X4 : BufTy.Contents (Elt Ideal) arg4.view.ty) (X5 : BufTy.Contents (Elt Ideal) arg5.view.ty) (X7 : BufTy.Contents (Elt Ideal) arg7.view.ty)
  (X14 : BufTy.Contents (Elt Ideal) arg14.view.ty) (X15 : BufTy.Contents (Elt Ideal) arg15.view.ty) (X17 : BufTy.Contents (Elt Ideal) arg17.view.ty)
  (X20 : BufTy.Contents (Elt Ideal) arg20.view.ty)
  (f8 : BufTy.Contents (Elt Ideal) arg8.view.ty) (f11 : BufTy.Contents (Elt Ideal) arg11.view.ty) (f18 : BufTy.Contents (Elt Ideal) arg18.view.ty)

/-- What the trips before `n` leave of the key gradient. -/
theorem pb4_dk_hit (n : ℕ) (hn : n ≤ k0_t4_loop.trips) (k : Fin k0_t4_loop.trips) (hk : k.val < n) (j t : Fin 128) :
    arg8.view.read (Elt Ideal) (arg8.view.writes (Elt Ideal) f8 (pb_k0_t4 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 t3 v43 X4 X5 X7 X14 X15 X17 X20 n).1) (ix3 0 t ⟨128 * (hd t3 k).val + j.val, by have := (hd t3 k).isLt; omega⟩) = dkF (arg4.view.read (Elt Ideal) X4) (arg5.view.read (Elt Ideal) X5) (fun j => rr (arg15.view.read (Elt Ideal) X15) (arg17.view.read (Elt Ideal) X17) (hd t3 k) j t) (fun j => gg (arg14.view.read (Elt Ideal) X14) (arg7.view.read (Elt Ideal) X7) (hd t3 k) (k4 k) j t) j t := by
  induction n with
  | zero => exact absurd hk (Nat.not_lt_zero _)
  | succ n ih =>
    rw [pb_k0_t4_succ (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 t3 v43 X4 X5 X7 X14 X15 X17 X20 ⟨n, hn⟩]
    unfold tripL_k0_t4 trip_k0_t4
    dsimp only [List.cons_append, List.nil_append]
    by_cases he : k.val = n
    · have hk' : k = ⟨n, hn⟩ := Fin.ext he
      subst hk'
      rw [View.read_writes_cons_unit_of_mem _ _ _ _ _ _ (ix3 0 t j) (k0_off27_eq t3 ⟨n, hn⟩) (by intro a; fin_cases a <;> simp <;> omega)]
      exact v351_at4 arg4 arg5 arg7 arg14 arg15 arg17 t3 ⟨n, hn⟩ X4 X5 X7 X14 X15 X17 j t
    · rw [View.read_writes_cons_unit_of_not_mem _ _ _ _ _ _ (k0_off27_eq t3 ⟨n, hn⟩) 2 (Or.inl (by simp; omega))]
      exact ih (by omega) (by omega)
theorem pb4_dk_miss (n : ℕ) (hn : n ≤ k0_t4_loop.trips) (y : _) (hy : (y 2).val < 512 * t3.val) :
    arg8.view.read (Elt Ideal) (arg8.view.writes (Elt Ideal) f8 (pb_k0_t4 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 t3 v43 X4 X5 X7 X14 X15 X17 X20 n).1) y = arg8.view.read (Elt Ideal) f8 y := by
  induction n with
  | zero => rfl
  | succ n ih =>
    rw [pb_k0_t4_succ (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 t3 v43 X4 X5 X7 X14 X15 X17 X20 ⟨n, hn⟩]
    unfold tripL_k0_t4 trip_k0_t4
    dsimp only [List.cons_append, List.nil_append]
    rw [View.read_writes_cons_unit_of_not_mem _ _ _ _ _ _ (k0_off27_eq t3 ⟨n, hn⟩) 2 (Or.inl (by simp; omega))]
    exact ih (by omega)

/-- What the trips before `n` leave of the packed codes. -/
theorem pb4_kc_hit (n : ℕ) (hn : n ≤ k0_t4_loop.trips) (k : Fin k0_t4_loop.trips) (hk : k.val < n) (i0 : Fin 64) (t : Fin 128) :
    arg11.view.read (Elt Ideal) (arg11.view.writes (Elt Ideal) f11 (pb_k0_t4 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 t3 v43 X4 X5 X7 X14 X15 X17 X20 n).2.1) (ix4 0 (hd t3 k) i0 t) = kcF (∑ j, arg20.view.read (Elt Ideal) X20 (ix2 i0 j) * qq (rr (arg15.view.read (Elt Ideal) X15) (arg17.view.read (Elt Ideal) X17) (hd t3 k) j t)) := by
  induction n with
  | zero => exact absurd hk (Nat.not_lt_zero _)
  | succ n ih =>
    rw [pb_k0_t4_succ (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 t3 v43 X4 X5 X7 X14 X15 X17 X20 ⟨n, hn⟩]
    unfold tripL_k0_t4 trip_k0_t4
    dsimp only [List.cons_append, List.nil_append]
    by_cases he : k.val = n
    · have hk' : k = ⟨n, hn⟩ := Fin.ext he
      subst hk'
      rw [View.read_writes_cons_unit_of_mem _ _ _ _ _ _ (ix4 0 0 i0 t) (k0_off26_eq t3 ⟨n, hn⟩) (by intro a; fin_cases a <;> simp <;> omega)]
      exact v343_at4 arg15 arg17 arg20 t3 ⟨n, hn⟩ X15 X17 X20 i0 t
    · rw [View.read_writes_cons_unit_of_not_mem _ _ _ _ _ _ (k0_off26_eq t3 ⟨n, hn⟩) 1 (Or.inl (by simp; omega))]
      exact ih (by omega) (by omega)
theorem pb4_kc_miss (n : ℕ) (hn : n ≤ k0_t4_loop.trips) (y : _) (hy : (y 1).val < 4 * t3.val) :
    arg11.view.read (Elt Ideal) (arg11.view.writes (Elt Ideal) f11 (pb_k0_t4 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 t3 v43 X4 X5 X7 X14 X15 X17 X20 n).2.1) y = arg11.view.read (Elt Ideal) f11 y := by
  induction n with
  | zero => rfl
  | succ n ih =>
    rw [pb_k0_t4_succ (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 t3 v43 X4 X5 X7 X14 X15 X17 X20 ⟨n, hn⟩]
    unfold tripL_k0_t4 trip_k0_t4
    dsimp only [List.cons_append, List.nil_append]
    rw [View.read_writes_cons_unit_of_not_mem _ _ _ _ _ _ (k0_off26_eq t3 ⟨n, hn⟩) 1 (Or.inl (by simp; omega))]
    exact ih (by omega)

/-- What the trips before `n` leave of the sums. -/
theorem pb4_sm_hit (n : ℕ) (hn : n ≤ k0_t4_loop.trips) (k : Fin k0_t4_loop.trips) (hk : k.val < n) (t : Fin 128) :
    arg18.view.read (Elt Ideal) (arg18.view.writes (Elt Ideal) f18 (pb_k0_t4 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 t3 v43 X4 X5 X7 X14 X15 X17 X20 n).2.2) (ix2 (hd t3 k) t) = smF (fun j => rr (arg15.view.read (Elt Ideal) X15) (arg17.view.read (Elt Ideal) X17) (hd t3 k) j t) (fun j => gg (arg14.view.read (Elt Ideal) X14) (arg7.view.read (Elt Ideal) X7) (hd t3 k) (k4 k) j t) := by
  induction n with
  | zero => exact absurd hk (Nat.not_lt_zero _)
  | succ n ih =>
    rw [pb_k0_t4_succ (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 t3 v43 X4 X5 X7 X14 X15 X17 X20 ⟨n, hn⟩]
    unfold tripL_k0_t4 trip_k0_t4
    dsimp only [List.cons_append, List.nil_append]
    by_cases he : k.val = n
    · have hk' : k = ⟨n, hn⟩ := Fin.ext he
      subst hk'
      rw [View.read_writes_cons_unit_of_mem _ _ _ _ _ _ (ix2 0 t) (k0_off14_eq t3 ⟨n, hn⟩) (by intro a; fin_cases a <;> simp <;> omega)]
      exact v357_at4 arg7 arg14 arg15 arg17 t3 ⟨n, hn⟩ X7 X14 X15 X17 t
    · rw [View.read_writes_cons_unit_of_not_mem _ _ _ _ _ _ (k0_off14_eq t3 ⟨n, hn⟩) 0 (Or.inl (by simp; omega))]
      exact ih (by omega) (by omega)
theorem pb4_sm_miss (n : ℕ) (hn : n ≤ k0_t4_loop.trips) (y : _) (hy : (y 0).val < 4 * t3.val) :
    arg18.view.read (Elt Ideal) (arg18.view.writes (Elt Ideal) f18 (pb_k0_t4 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 t3 v43 X4 X5 X7 X14 X15 X17 X20 n).2.2) y = arg18.view.read (Elt Ideal) f18 y := by
  induction n with
  | zero => rfl
  | succ n ih =>
    rw [pb_k0_t4_succ (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 t3 v43 X4 X5 X7 X14 X15 X17 X20 ⟨n, hn⟩]
    unfold tripL_k0_t4 trip_k0_t4
    dsimp only [List.cons_append, List.nil_append]
    rw [View.read_writes_cons_unit_of_not_mem _ _ _ _ _ _ (k0_off14_eq t3 ⟨n, hn⟩) 0 (Or.inl (by simp; omega))]
    exact ih (by omega)

end Cert.KernelIdeal.Val

end
-- ==== Proof.L3.lean ====
/- The loop over the groups of four heads, with what it leaves in the results it writes. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import Idealize.ShloMosaic.Lib.Pointwise
public import Idealize.ShloMosaic.Lib.VecWindow
public import Idealize.ShloMosaic.Lib.WritesUnit
public import proofs.«01_k».proof.Proof.T4c
@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

open Cert.Rot

theorem wd_at (arg13 : Memref sig .tc .vmem S1056x128 .i32) (X13 : BufTy.Contents (Elt Ideal) arg13.view.ty) (k : Fin k0_t3_loop.trips) (inb : _) :
    View.readAt (Elt Ideal) arg13.view (Rect.unit (s := S1056x128) (k0_off13 k) S128x128.size inb).toLoadRect X13
      = wd (arg13.view.read (Elt Ideal) X13) ⟨k.val, Nat.lt_of_lt_of_eq k.isLt t3_trips⟩ := by
  funext p
  refine View.readAt_at _ _ _ (k0_off13_eq k) p _ ?_
  intro a
  fin_cases a
  · rfl
  · show (p 1).val = 0 + (p 1).val; omega

/-- A stack of two matrices, stored one after the other and read back. -/
theorem two_gen (arg14 : Memref sig .tc .vmem S2x256x128 .f32) (f : BufTy.Contents (Elt Ideal) arg14.view.ty)
    (p2 p3 : S1x256x128.Idx → EReal) (inb0 : _) (inb1 : _) (L : _) (y : S2x256x128.Idx) :
    arg14.view.read (Elt Ideal) (arg14.view.writes (Elt Ideal) f
      (⟨Rect.unit (s := S2x256x128) ![1, 0, 0] S1x256x128.size inb1, p3⟩ :: ⟨Rect.unit (s := S2x256x128) ![0, 0, 0] S1x256x128.size inb0, p2⟩ :: L)) y
      = if (y 0).val = 0 then p2 (ix3 0 (y 1) (y 2)) else p3 (ix3 0 (y 1) (y 2)) := by
  have h0 : (y 0).val < 2 := (y 0).isLt
  by_cases h : (y 0).val = 0
  · rw [if_pos h, View.read_writes_cons_unit_of_not_mem _ _ _ _ _ _ rfl 0 (Or.inl (by show (y 0).val < 1; omega))]
    refine View.read_writes_cons_unit_of_mem arg14.view f inb0 p2 L y (ix3 0 (y 1) (y 2) : S1x256x128.Idx) rfl ?_
    intro a
    fin_cases a
    · show (y 0).val = 0 + 0; omega
    · show (y 1).val = 0 + (y 1).val; omega
    · show (y 2).val = 0 + (y 2).val; omega
  · rw [if_neg h]
    refine View.read_writes_cons_unit_of_mem arg14.view f inb1 p3 _ y (ix3 0 (y 1) (y 2) : S1x256x128.Idx) rfl ?_
    intro a
    fin_cases a
    · show (y 0).val = 1 + 0; omega
    · show (y 1).val = 0 + (y 1).val; omega
    · show (y 2).val = 0 + (y 2).val; omega

/-- The two halves a group's gradients are stored as, read back. -/
theorem gb_at (arg14 : Memref sig .tc .vmem S2x256x128 .f32) (f : BufTy.Contents (Elt Ideal) arg14.view.ty)
    (W : S1056x128.Idx → BitVec 32) (PM : S256x256.Idx → EReal) (q : Fin 8) (inb0 : _) (inb1 : _) (L : _) :
    arg14.view.read (Elt Ideal) (arg14.view.writes (Elt Ideal) f
      (⟨Rect.unit ![1, 0, 0] S1x256x128.size inb1, k0_pay3 (F := Ideal) (wd W q) PM⟩ :: ⟨Rect.unit ![0, 0, 0] S1x256x128.size inb0, k0_pay2 (F := Ideal) (wd W q) PM⟩ :: L))
      = gbF W PM q :=
  funext fun y => two_gen arg14 f (k0_pay2 (F := Ideal) (wd W q) PM) (k0_pay3 (F := Ideal) (wd W q) PM) inb0 inb1 L y

/-- What the groups before `n` leave of the three results. -/
def fact8 (C S : S1x64x128.Idx → EReal) (GS : S1x32x128.Idx → EReal) (KR : S32x128x128.Idx → EReal) (INV : S32x128.Idx → EReal)
    (W : S1056x128.Idx → BitVec 32) (PM : S256x256.Idx → EReal) (R : S1x128x4096.Idx → EReal) (n : ℕ) : Prop :=
  ∀ h : Fin 32, h.val < 4 * n → ∀ j t : Fin 128, R (ix3 0 t ⟨128 * h.val + j.val, by omega⟩) = DKF C S GS KR INV W PM h j t
def fact11 (KR : S32x128x128.Idx → EReal) (INV : S32x128.Idx → EReal) (NW : S64x128.Idx → EReal) (R : S1x32x64x128.Idx → BitVec 8) (n : ℕ) : Prop :=
  ∀ h : Fin 32, h.val < 4 * n → ∀ (i : Fin 64) (t : Fin 128), R (ix4 0 h i t) = KCF KR INV NW h i t
def fact18 (GS : S1x32x128.Idx → EReal) (KR : S32x128x128.Idx → EReal) (INV : S32x128.Idx → EReal)
    (W : S1056x128.Idx → BitVec 32) (PM : S256x256.Idx → EReal) (R : S32x128.Idx → EReal) (n : ℕ) : Prop :=
  ∀ h : Fin 32, h.val < 4 * n → ∀ t : Fin 128, R (ix2 h t) = SMF GS KR INV W PM h t

@[simp ↓] theorem fact8_zero (C S : S1x64x128.Idx → EReal) (GS : S1x32x128.Idx → EReal) (KR : S32x128x128.Idx → EReal) (INV : S32x128.Idx → EReal)
    (W : S1056x128.Idx → BitVec 32) (PM : S256x256.Idx → EReal) (R : S1x128x4096.Idx → EReal) : fact8 C S GS KR INV W PM R 0 = True :=
  eq_true fun h hh => absurd hh (Nat.not_lt_zero _)
@[simp ↓] theorem fact11_zero (KR : S32x128x128.Idx → EReal) (INV : S32x128.Idx → EReal) (NW : S64x128.Idx → EReal) (R : S1x32x64x128.Idx → BitVec 8) : fact11 KR INV NW R 0 = True :=
  eq_true fun h hh => absurd hh (Nat.not_lt_zero _)
@[simp ↓] theorem fact18_zero (GS : S1x32x128.Idx → EReal) (KR : S32x128x128.Idx → EReal) (INV : S32x128.Idx → EReal)
    (W : S1056x128.Idx → BitVec 32) (PM : S256x256.Idx → EReal) (R : S32x128.Idx → EReal) : fact18 GS KR INV W PM R 0 = True :=
  eq_true fun h hh => absurd hh (Nat.not_lt_zero _)

theorem head_cases (k : Fin k0_t3_loop.trips) (h : Fin 32) (hh : h.val < 4 * (k.val + 1)) :
    h.val < 4 * k.val ∨ ∃ k' : Fin k0_t4_loop.trips, h = hd k k' := by
  by_cases h1 : h.val < 4 * k.val
  · exact Or.inl h1
  · exact Or.inr ⟨⟨h.val - 4 * k.val, by rw [t4_trips]; omega⟩, Fin.ext (by show h.val = 4 * k.val + (h.val - 4 * k.val); omega)⟩

/-- A statement made from the second stage of a count on. -/
abbrev atStage (n : ℕ) (P : Prop) : Prop := (Nat.rec True (fun _ _ => P) n : Prop) = True
theorem of_stage {n : ℕ} {P : Prop} (h0 : n = 0 → P) (h : atStage n P) : P := by
  cases n with
  | zero => exact h0 rfl
  | succ n => exact of_eq_true h
theorem to_stage {n : ℕ} {P : Prop} (h : P) : atStage n P := by
  cases n with
  | zero => rfl
  | succ n => exact eq_true h

section Steps
variable (c : Dev nD) (i : grid0.Coords) (arg2 : Memref sig .tc .smem S32 .f32) (harg2 : arg2.IsWhole) (arg3 : Memref sig .tc .vmem S1x128x4096 .bf16) (harg3 : arg3.IsWhole) (arg4 : Memref sig .tc .vmem S1x64x128 .f32) (harg4 : arg4.IsWhole) (arg5 : Memref sig .tc .vmem S1x64x128 .f32) (harg5 : arg5.IsWhole) (arg6 : Memref sig .tc .vmem S1x128x32x128 .i8) (harg6 : arg6.IsWhole) (arg7 : Memref sig .tc .vmem S1x32x128 .f32) (harg7 : arg7.IsWhole) (arg8 : Memref sig .tc .vmem S1x128x4096 .bf16) (harg8 : arg8.IsWhole) (arg9 : Memref sig .tc .vmem S1x32 .f32) (harg9 : arg9.IsWhole) (arg10 : Memref sig .tc .vmem S1x32x128 .f32) (harg10 : arg10.IsWhole) (arg11 : Memref sig .tc .vmem S1x32x64x128 .i8) (harg11 : arg11.IsWhole) (arg12 : Memref sig .tc .vmem S1x32x128 .f32) (harg12 : arg12.IsWhole) (arg13 : Memref sig .tc .vmem S1056x128 .i32) (harg13 : arg13.IsWhole) (arg14 : Memref sig .tc .vmem S2x256x128 .f32) (harg14 : arg14.IsWhole) (arg15 : Memref sig .tc .vmem S32x128x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S256x256 .fp8e5m2) (harg19 : arg19.IsWhole) (arg20 : Memref sig .tc .vmem S64x128 .bf16) (harg20 : arg20.IsWhole) (arg21 : Memref sig .tc .vmem S32x128 .f32) (harg21 : arg21.IsWhole) (arg22 : Memref sig .tc .vmem S32x128 .f32) (harg22 : arg22.IsWhole) (k : Fin k0_t3_loop.trips) (v43 : BitVec 32)
  (X4 : BufTy.Contents (Elt Ideal) arg4.view.ty) (X5 : BufTy.Contents (Elt Ideal) arg5.view.ty) (X7 : BufTy.Contents (Elt Ideal) arg7.view.ty)
  (X14 : BufTy.Contents (Elt Ideal) arg14.view.ty) (X15 : BufTy.Contents (Elt Ideal) arg15.view.ty) (X17 : BufTy.Contents (Elt Ideal) arg17.view.ty)
  (X20 : BufTy.Contents (Elt Ideal) arg20.view.ty) (W : S1056x128.Idx → BitVec 32) (PM : S256x256.Idx → EReal)
  (f8 : BufTy.Contents (Elt Ideal) arg8.view.ty) (f11 : BufTy.Contents (Elt Ideal) arg11.view.ty) (f18 : BufTy.Contents (Elt Ideal) arg18.view.ty)
  (hG : arg14.view.read (Elt Ideal) X14 = gbF W PM ⟨k.val, Nat.lt_of_lt_of_eq k.isLt t3_trips⟩)
include hG

theorem step8 (hf : fact8 (arg4.view.read (Elt Ideal) X4) (arg5.view.read (Elt Ideal) X5) (arg7.view.read (Elt Ideal) X7) (arg15.view.read (Elt Ideal) X15) (arg17.view.read (Elt Ideal) X17) W PM (arg8.view.read (Elt Ideal) f8) k.val) :
    fact8 (arg4.view.read (Elt Ideal) X4) (arg5.view.read (Elt Ideal) X5) (arg7.view.read (Elt Ideal) X7) (arg15.view.read (Elt Ideal) X15) (arg17.view.read (Elt Ideal) X17) W PM
      (arg8.view.read (Elt Ideal) (arg8.view.writes (Elt Ideal) f8 (pb_k0_t4 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k v43 X4 X5 X7 X14 X15 X17 X20 k0_t4_loop.trips).1)) (k.val + 1) := by
  intro h hh j t
  rcases head_cases k h hh with h1 | ⟨k', rfl⟩
  · rw [pb4_dk_miss c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k v43 X4 X5 X7 X14 X15 X17 X20 f8 _ (le_refl _) _ (by show 128 * h.val + j.val < _; omega)]
    exact hf h h1 j t
  · rw [pb4_dk_hit c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k v43 X4 X5 X7 X14 X15 X17 X20 f8 _ (le_refl _) k' k'.isLt j t]
    unfold DKF
    simp only [GF_hd, hG]

theorem step18 (hf : fact18 (arg7.view.read (Elt Ideal) X7) (arg15.view.read (Elt Ideal) X15) (arg17.view.read (Elt Ideal) X17) W PM (arg18.view.read (Elt Ideal) f18) k.val) :
    fact18 (arg7.view.read (Elt Ideal) X7) (arg15.view.read (Elt Ideal) X15) (arg17.view.read (Elt Ideal) X17) W PM
      (arg18.view.read (Elt Ideal) (arg18.view.writes (Elt Ideal) f18 (pb_k0_t4 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k v43 X4 X5 X7 X14 X15 X17 X20 k0_t4_loop.trips).2.2)) (k.val + 1) := by
  intro h hh t
  rcases head_cases k h hh with h1 | ⟨k', rfl⟩
  · rw [pb4_sm_miss c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k v43 X4 X5 X7 X14 X15 X17 X20 f18 _ (le_refl _) _ (by show h.val < _; omega)]
    exact hf h h1 t
  · rw [pb4_sm_hit c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k v43 X4 X5 X7 X14 X15 X17 X20 f18 _ (le_refl _) k' k'.isLt t]
    unfold SMF
    simp only [GF_hd, hG]

omit hG in
theorem step11 (hf : fact11 (arg15.view.read (Elt Ideal) X15) (arg17.view.read (Elt Ideal) X17) (arg20.view.read (Elt Ideal) X20) (arg11.view.read (Elt Ideal) f11) k.val) :
    fact11 (arg15.view.read (Elt Ideal) X15) (arg17.view.read (Elt Ideal) X17) (arg20.view.read (Elt Ideal) X20)
      (arg11.view.read (Elt Ideal) (arg11.view.writes (Elt Ideal) f11 (pb_k0_t4 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k v43 X4 X5 X7 X14 X15 X17 X20 k0_t4_loop.trips).2.1)) (k.val + 1) := by
  intro h hh j t
  rcases head_cases k h hh with h1 | ⟨k', rfl⟩
  · rw [pb4_kc_miss c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k v43 X4 X5 X7 X14 X15 X17 X20 f11 _ (le_refl _) _ (by show h.val < _; omega)]
    exact hf h h1 j t
  · exact pb4_kc_hit c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k v43 X4 X5 X7 X14 X15 X17 X20 f11 _ (le_refl _) k' k'.isLt j t
end Steps

set_option warn.classDefReducibility false in
/-- The loop over the groups of four heads. -/
@[sl_loop] def loop3 (c : Dev nD) (i : grid0.Coords) (arg2 : Memref sig .tc .smem S32 .f32) (harg2 : arg2.IsWhole) (arg3 : Memref sig .tc .vmem S1x128x4096 .bf16) (harg3 : arg3.IsWhole) (arg4 : Memref sig .tc .vmem S1x64x128 .f32) (harg4 : arg4.IsWhole) (arg5 : Memref sig .tc .vmem S1x64x128 .f32) (harg5 : arg5.IsWhole) (arg6 : Memref sig .tc .vmem S1x128x32x128 .i8) (harg6 : arg6.IsWhole) (arg7 : Memref sig .tc .vmem S1x32x128 .f32) (harg7 : arg7.IsWhole) (arg8 : Memref sig .tc .vmem S1x128x4096 .bf16) (harg8 : arg8.IsWhole) (arg9 : Memref sig .tc .vmem S1x32 .f32) (harg9 : arg9.IsWhole) (arg10 : Memref sig .tc .vmem S1x32x128 .f32) (harg10 : arg10.IsWhole) (arg11 : Memref sig .tc .vmem S1x32x64x128 .i8) (harg11 : arg11.IsWhole) (arg12 : Memref sig .tc .vmem S1x32x128 .f32) (harg12 : arg12.IsWhole) (arg13 : Memref sig .tc .vmem S1056x128 .i32) (harg13 : arg13.IsWhole) (arg14 : Memref sig .tc .vmem S2x256x128 .f32) (harg14 : arg14.IsWhole) (arg15 : Memref sig .tc .vmem S32x128x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S256x256 .fp8e5m2) (harg19 : arg19.IsWhole) (arg20 : Memref sig .tc .vmem S64x128 .bf16) (harg20 : arg20.IsWhole) (arg21 : Memref sig .tc .vmem S32x128 .f32) (harg21 : arg21.IsWhole) (arg22 : Memref sig .tc .vmem S32x128 .f32) (harg22 : arg22.IsWhole)
    (X4 : BufTy.Contents (Elt Ideal) arg4.view.ty) (X5 : BufTy.Contents (Elt Ideal) arg5.view.ty) (X7 : BufTy.Contents (Elt Ideal) arg7.view.ty) (X13 : BufTy.Contents (Elt Ideal) arg13.view.ty) (X15 : BufTy.Contents (Elt Ideal) arg15.view.ty) (X17 : BufTy.Contents (Elt Ideal) arg17.view.ty) (X19 : BufTy.Contents (Elt Ideal) arg19.view.ty) (X20 : BufTy.Contents (Elt Ideal) arg20.view.ty) :
    Gen.LoopInvTy_k0_t3 (F := Ideal) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 where
  inv := fun n _ => iprop((arg4.view.loc (c : Thread nD τ) ↦[arg4.view.set]{fullShare} X4) ∗ (arg5.view.loc (c : Thread nD τ) ↦[arg5.view.set]{fullShare} X5) ∗ (arg7.view.loc (c : Thread nD τ) ↦[arg7.view.set]{fullShare} X7) ∗ (arg13.view.loc (c : Thread nD τ) ↦[arg13.view.set]{fullShare} X13) ∗ (arg15.view.loc (c : Thread nD τ) ↦[arg15.view.set]{fullShare} X15) ∗ (arg17.view.loc (c : Thread nD τ) ↦[arg17.view.set]{fullShare} X17) ∗ (arg19.view.loc (c : Thread nD τ) ↦[arg19.view.set]{fullShare} X19) ∗ (arg20.view.loc (c : Thread nD τ) ↦[arg20.view.set]{fullShare} X20) ∗ (∃ f, (arg14.view.loc (c : Thread nD τ) ↦[arg14.view.set]{fullShare} f))
    ∗ (∃ f, (arg8.view.loc (c : Thread nD τ) ↦[arg8.view.set]{fullShare} f) ∗ ⌜atStage n (fact8 (arg4.view.read (Elt Ideal) X4) (arg5.view.read (Elt Ideal) X5) (arg7.view.read (Elt Ideal) X7) (arg15.view.read (Elt Ideal) X15) (arg17.view.read (Elt Ideal) X17) (arg13.view.read (Elt Ideal) X13) (arg19.view.read (Elt Ideal) X19) (arg8.view.read (Elt Ideal) f) n)⌝)
    ∗ (∃ f, (arg11.view.loc (c : Thread nD τ) ↦[arg11.view.set]{fullShare} f) ∗ ⌜atStage n (fact11 (arg15.view.read (Elt Ideal) X15) (arg17.view.read (Elt Ideal) X17) (arg20.view.read (Elt Ideal) X20) (arg11.view.read (Elt Ideal) f) n)⌝)
    ∗ (∃ f, (arg18.view.loc (c : Thread nD τ) ↦[arg18.view.set]{fullShare} f) ∗ ⌜atStage n (fact18 (arg7.view.read (Elt Ideal) X7) (arg15.view.read (Elt Ideal) X15) (arg17.view.read (Elt Ideal) X17) (arg13.view.read (Elt Ideal) X13) (arg19.view.read (Elt Ideal) X19) (arg18.view.read (Elt Ideal) f) n)⌝))
  step k acc := by
    iintro ⟨H4, H5, H7, H13, H15, H17, H19, H20, ⟨%f14, H14⟩, ⟨%f8, H8, %hf8⟩, ⟨%f11, H11, %hf11⟩, ⟨%f18, H18, %hf18⟩⟩
    unfold Gen.k0_t3_body
    sl_exec
    sl_step
    have hG : arg14.view.read (Elt Ideal) (arg14.view.writes (Elt Ideal) arg14.view.junk (loop3.sl.H14_2 arg13 arg19 X13 X19 k))
        = gbF (arg13.view.read (Elt Ideal) X13) (arg19.view.read (Elt Ideal) X19) ⟨k.val, Nat.lt_of_lt_of_eq k.isLt t3_trips⟩ := by
      unfold loop3.sl.H14_2
      dsimp only
      have e19 (inb : _) : View.readAt (Elt Ideal) arg19.view (Rect.unit ![0, 0] ![256, 256] inb).toLoadRect X19 = arg19.view.read (Elt Ideal) X19 := by
        funext y
        exact View.readAt_at _ _ _ rfl y y (by intro a; fin_cases a <;> simp)
      have e13 (inb : _) := wd_at arg13 X13 k inb
      rw [e13, e19]
      exact gb_at _ _ _ _ _ _ _ _
    isplitl [H4]; · iexact H4
    isplitl [H5]; · iexact H5
    isplitl [H7]; · iexact H7
    isplitl [H13]; · iexact H13
    isplitl [H15]; · iexact H15
    isplitl [H17]; · iexact H17
    isplitl [H19]; · iexact H19
    isplitl [H20]; · iexact H20
    isplitl [H14]; · iexists _; iexact H14
    isplitl [H8]
    · iexists _
      isplitl [H8]; · iexact H8
      ipureintro
      refine to_stage (step8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k _ X4 X5 X7 _ X15 X17 X20 _ _ f8 hG (of_stage (fun h0 => by rw [h0]; exact of_eq_true (fact8_zero ..)) hf8))
    isplitl [H11]
    · iexists _
      isplitl [H11]; · iexact H11
      ipureintro
      refine to_stage (step11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k _ X4 X5 X7 _ X15 X17 X20 f11 (of_stage (fun h0 => by rw [h0]; exact of_eq_true (fact11_zero ..)) hf11))
    iexists _
    isplitl [H18]; · iexact H18
    ipureintro
    refine to_stage (step18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k _ X4 X5 X7 _ X15 X17 X20 _ _ f18 hG (of_stage (fun h0 => by rw [h0]; exact of_eq_true (fact18_zero ..)) hf18))

end Cert.KernelIdeal.Val

end
-- ==== Proof.KS.lean ====
/- One run of the body with what it leaves in every buffer. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import Idealize.ShloMosaic.Lib.Pointwise
public import Idealize.ShloMosaic.Lib.VecWindow
public import Idealize.ShloMosaic.Lib.WritesUnit
public import proofs.«01_k».proof.Proof.T2
public import proofs.«01_k».proof.Proof.L1
public import proofs.«01_k».proof.Proof.L3
@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

open Cert.Rot

/-- The words of the gradient codes, as the scratch buffer holds them. -/
def WV (B : S1x128x32x128.Idx → BitVec 8) : S1056x128.Idx → BitVec 32 :=
  fun y => if h : (y 0).val % 132 < 128 then
    wdF B ⟨(y 0).val % 132, h⟩ ⟨(y 0).val / 132, by have : (y 0).val < 1056 := (y 0).isLt; omega⟩ (y 1) else 0#32

theorem wd_WV (B : S1x128x32x128.Idx → BitVec 8) (W : S1056x128.Idx → BitVec 32) (h : fact1 B W 128) (q : Fin 8) : wd W q = wd (WV B) q := by
  funext p
  have hp : (p 0).val < 128 := (p 0).isLt
  have e := h (p 0) hp q (p 1)
  unfold wd WV
  rw [e, dif_pos (by show (132 * q.val + (p 0).val) % 132 < 128; omega)]
  congr 1
  · exact Fin.ext (by show (p 0).val = (132 * q.val + (p 0).val) % 132; omega)
  · exact Fin.ext (by show q.val = (132 * q.val + (p 0).val) / 132; omega)

theorem gbF_WV (B : S1x128x32x128.Idx → BitVec 8) (W : S1056x128.Idx → BitVec 32) (h : fact1 B W 128) (PM : S256x256.Idx → EReal) (q : Fin 8) :
    gbF W PM q = gbF (WV B) PM q := by
  unfold gbF
  rw [wd_WV B W h q]

theorem GF_WV (B : S1x128x32x128.Idx → BitVec 8) (W : S1056x128.Idx → BitVec 32) (hW : fact1 B W 128) (GS : S1x32x128.Idx → EReal) (PM : S256x256.Idx → EReal) (h : Fin 32) (j t : Fin 128) :
    GF GS W PM h j t = GF GS (WV B) PM h j t := by
  unfold GF
  rw [gbF_WV B W hW PM]

/-! ## What a run leaves, as functions of the blocks it reads -/

def KRv (K : S1x128x4096.Idx → EReal) (C S : S1x64x128.Idx → EReal) : S32x128x128.Idx → EReal := fun y => kr K C S (y 0) (y 1) (y 2)
def AMv (K : S1x128x4096.Idx → EReal) (C S : S1x64x128.Idx → EReal) : S32x128.Idx → EReal := fun y => amax K C S (y 0) (y 1)
def INVv (K : S1x128x4096.Idx → EReal) (C S : S1x64x128.Idx → EReal) (AL : S32x128.Idx → EReal) : S32x128.Idx → EReal :=
  k0_pay142 (F := Ideal) (AMv K C S) AL
def DKo (K : S1x128x4096.Idx → EReal) (C S : S1x64x128.Idx → EReal) (B : S1x128x32x128.Idx → BitVec 8) (GS : S1x32x128.Idx → EReal)
    (PM : S256x256.Idx → EReal) (AL : S32x128.Idx → EReal) : S1x128x4096.Idx → EReal :=
  fun y => DKF C S GS (KRv K C S) (INVv K C S AL) (WV B) PM ⟨(y 2).val / 128, by have : (y 2).val < 4096 := (y 2).isLt; omega⟩
    ⟨(y 2).val % 128, by omega⟩ (y 1)
def KCo (K : S1x128x4096.Idx → EReal) (C S : S1x64x128.Idx → EReal) (NW : S64x128.Idx → EReal) (AL : S32x128.Idx → EReal) : S1x32x64x128.Idx → BitVec 8 :=
  fun y => KCF (KRv K C S) (INVv K C S AL) NW (y 1) (y 2) (y 3)
def SMo (K : S1x128x4096.Idx → EReal) (C S : S1x64x128.Idx → EReal) (B : S1x128x32x128.Idx → BitVec 8) (GS : S1x32x128.Idx → EReal)
    (PM : S256x256.Idx → EReal) (AL : S32x128.Idx → EReal) : S32x128.Idx → EReal :=
  fun y => SMF GS (KRv K C S) (INVv K C S AL) (WV B) PM (y 0) (y 1)

section All
variable (K : S1x128x4096.Idx → EReal) (C S : S1x64x128.Idx → EReal) (B : S1x128x32x128.Idx → BitVec 8) (GS : S1x32x128.Idx → EReal)
  (PM : S256x256.Idx → EReal) (NW : S64x128.Idx → EReal) (AL : S32x128.Idx → EReal) (KR : S32x128x128.Idx → EReal) (INV : S32x128.Idx → EReal) (W : S1056x128.Idx → BitVec 32)
  (hW : fact1 B W 128) (hK : KR = KRv K C S) (hI : INV = INVv K C S AL)
include hK hI

omit hK hI
include hW in
theorem SMF_WV (h : Fin 32) (t : Fin 128) : SMF GS KR INV W PM h t = SMF GS KR INV (WV B) PM h t := by
  unfold SMF
  simp only [GF_WV B W hW]
include hW in
theorem DKF_WV (h : Fin 32) (j t : Fin 128) : DKF C S GS KR INV W PM h j t = DKF C S GS KR INV (WV B) PM h j t := by
  unfold DKF
  simp only [GF_WV B W hW]
include hK hI

theorem kc_all (R : S1x32x64x128.Idx → BitVec 8) (h : fact11 KR INV NW R 8) : R = KCo K C S NW AL := by
  funext y
  have h0 : (y 0).val < 1 := (y 0).isLt
  have h1 : (y 1).val < 32 := (y 1).isLt
  have hy : y = ix4 0 (y 1) (y 2) (y 3) := by
    funext a
    apply Fin.ext
    fin_cases a
    · show (y 0).val = 0; omega
    · rfl
    · rfl
    · rfl
  subst hK hI
  exact (congrArg R hy).trans (h (y 1) (by omega) (y 2) (y 3))

include hW
theorem sm_all (R : S32x128.Idx → EReal) (h : fact18 GS KR INV W PM R 8) : R = SMo K C S B GS PM AL := by
  funext y
  have h1 : (y 0).val < 32 := (y 0).isLt
  subst hK hI
  refine (congrArg R (eq_ix2 y)).trans ((h (y 0) (by omega) (y 1)).trans ?_)
  exact SMF_WV B GS PM _ _ W hW (y 0) (y 1)

theorem dk_all (R : S1x128x4096.Idx → EReal) (h : fact8 C S GS KR INV W PM R 8) : R = DKo K C S B GS PM AL := by
  funext y
  have h0 : (y 0).val < 1 := (y 0).isLt
  have h2 : (y 2).val < 4096 := (y 2).isLt
  have hy : y = ix3 0 (y 1) ⟨128 * ((y 2).val / 128) + (y 2).val % 128, by omega⟩ := by
    funext a
    apply Fin.ext
    fin_cases a
    · show (y 0).val = 0; omega
    · rfl
    · show (y 2).val = 128 * ((y 2).val / 128) + (y 2).val % 128; omega
  subst hK hI
  refine (congrArg R hy).trans ((h ⟨(y 2).val / 128, by omega⟩ (by show (y 2).val / 128 < 4 * 8; omega) ⟨(y 2).val % 128, by omega⟩ (y 1)).trans ?_)
  exact DKF_WV C S B GS PM _ _ W hW _ _ (y 1)
end All

/-- A whole buffer stored and read back. -/
theorem whole2 {n0 n1 : ℕ} {sp : Space} {e : EltTy} (M : Memref sig .tc sp ⟨2, ![n0, n1]⟩ e) (f : BufTy.Contents (Elt Ideal) M.view.ty)
    (inb : _) (p : (⟨2, ![n0, n1]⟩ : Shape).Idx → Elt Ideal e) (L : _) :
    M.view.read (Elt Ideal) (M.view.writes (Elt Ideal) f (⟨Rect.unit (s := ⟨2, ![n0, n1]⟩) ![0, 0] ![n0, n1] inb, p⟩ :: L)) = p := by
  funext y
  refine View.read_writes_cons_unit_of_mem M.view f inb p L y y rfl ?_
  intro a
  fin_cases a
  · show (y 0).val = 0 + (y 0).val; omega
  · show (y 1).val = 0 + (y 1).val; omega
theorem whole3 {n0 n1 n2 : ℕ} {sp : Space} {e : EltTy} (M : Memref sig .tc sp ⟨3, ![n0, n1, n2]⟩ e) (f : BufTy.Contents (Elt Ideal) M.view.ty)
    (inb : _) (p : (⟨3, ![n0, n1, n2]⟩ : Shape).Idx → Elt Ideal e) (L : _) :
    M.view.read (Elt Ideal) (M.view.writes (Elt Ideal) f (⟨Rect.unit (s := ⟨3, ![n0, n1, n2]⟩) ![0, 0, 0] ![n0, n1, n2] inb, p⟩ :: L)) = p := by
  funext y
  refine View.read_writes_cons_unit_of_mem M.view f inb p L y y rfl ?_
  intro a
  fin_cases a
  · show (y 0).val = 0 + (y 0).val; omega
  · show (y 1).val = 0 + (y 1).val; omega
  · show (y 2).val = 0 + (y 2).val; omega
/-- A whole buffer loaded. -/
theorem load2 {n0 n1 : ℕ} {sp : Space} {e : EltTy} (M : Memref sig .tc sp ⟨2, ![n0, n1]⟩ e) (f : BufTy.Contents (Elt Ideal) M.view.ty)
    (inb : _) : View.readAt (Elt Ideal) M.view (Rect.unit (s := ⟨2, ![n0, n1]⟩) ![0, 0] ![n0, n1] inb).toLoadRect f = M.view.read (Elt Ideal) f := by
  funext y
  refine View.readAt_at _ _ _ rfl y y ?_
  intro a
  fin_cases a
  · show (y 0).val = 0 + (y 0).val; omega
  · show (y 1).val = 0 + (y 1).val; omega

/-- The two sets of contents the second loop leaves, whole. -/
theorem pb2_kr_all (c : Dev nD) (i : grid0.Coords) (arg2 : Memref sig .tc .smem S32 .f32) (harg2 : arg2.IsWhole) (arg3 : Memref sig .tc .vmem S1x128x4096 .bf16) (harg3 : arg3.IsWhole) (arg4 : Memref sig .tc .vmem S1x64x128 .f32) (harg4 : arg4.IsWhole) (arg5 : Memref sig .tc .vmem S1x64x128 .f32) (harg5 : arg5.IsWhole) (arg6 : Memref sig .tc .vmem S1x128x32x128 .i8) (harg6 : arg6.IsWhole) (arg7 : Memref sig .tc .vmem S1x32x128 .f32) (harg7 : arg7.IsWhole) (arg8 : Memref sig .tc .vmem S1x128x4096 .bf16) (harg8 : arg8.IsWhole) (arg9 : Memref sig .tc .vmem S1x32 .f32) (harg9 : arg9.IsWhole) (arg10 : Memref sig .tc .vmem S1x32x128 .f32) (harg10 : arg10.IsWhole) (arg11 : Memref sig .tc .vmem S1x32x64x128 .i8) (harg11 : arg11.IsWhole) (arg12 : Memref sig .tc .vmem S1x32x128 .f32) (harg12 : arg12.IsWhole) (arg13 : Memref sig .tc .vmem S1056x128 .i32) (harg13 : arg13.IsWhole) (arg14 : Memref sig .tc .vmem S2x256x128 .f32) (harg14 : arg14.IsWhole) (arg15 : Memref sig .tc .vmem S32x128x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S256x256 .fp8e5m2) (harg19 : arg19.IsWhole) (arg20 : Memref sig .tc .vmem S64x128 .bf16) (harg20 : arg20.IsWhole) (arg21 : Memref sig .tc .vmem S32x128 .f32) (harg21 : arg21.IsWhole) (arg22 : Memref sig .tc .vmem S32x128 .f32) (harg22 : arg22.IsWhole) (X3 : BufTy.Contents (Elt Ideal) arg3.view.ty) (X4 : BufTy.Contents (Elt Ideal) arg4.view.ty) (X5 : BufTy.Contents (Elt Ideal) arg5.view.ty) (f15 : BufTy.Contents (Elt Ideal) arg15.view.ty) :
    arg15.view.read (Elt Ideal) (arg15.view.writes (Elt Ideal) f15 (pb_k0_t2 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X3 X4 X5 k0_t2_loop.trips).1)
      = KRv (arg3.view.read (Elt Ideal) X3) (arg4.view.read (Elt Ideal) X4) (arg5.view.read (Elt Ideal) X5) := by
  funext y
  have h1 : (y 0).val < 32 := (y 0).isLt
  refine (congrArg _ (eq_ix3 y)).trans (pb2_kr c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X3 X4 X5 f15 _ (le_refl _) (y 0) (y 1) (y 2) (by rw [t2_trips]; exact h1))
theorem pb2_amax_all (c : Dev nD) (i : grid0.Coords) (arg2 : Memref sig .tc .smem S32 .f32) (harg2 : arg2.IsWhole) (arg3 : Memref sig .tc .vmem S1x128x4096 .bf16) (harg3 : arg3.IsWhole) (arg4 : Memref sig .tc .vmem S1x64x128 .f32) (harg4 : arg4.IsWhole) (arg5 : Memref sig .tc .vmem S1x64x128 .f32) (harg5 : arg5.IsWhole) (arg6 : Memref sig .tc .vmem S1x128x32x128 .i8) (harg6 : arg6.IsWhole) (arg7 : Memref sig .tc .vmem S1x32x128 .f32) (harg7 : arg7.IsWhole) (arg8 : Memref sig .tc .vmem S1x128x4096 .bf16) (harg8 : arg8.IsWhole) (arg9 : Memref sig .tc .vmem S1x32 .f32) (harg9 : arg9.IsWhole) (arg10 : Memref sig .tc .vmem S1x32x128 .f32) (harg10 : arg10.IsWhole) (arg11 : Memref sig .tc .vmem S1x32x64x128 .i8) (harg11 : arg11.IsWhole) (arg12 : Memref sig .tc .vmem S1x32x128 .f32) (harg12 : arg12.IsWhole) (arg13 : Memref sig .tc .vmem S1056x128 .i32) (harg13 : arg13.IsWhole) (arg14 : Memref sig .tc .vmem S2x256x128 .f32) (harg14 : arg14.IsWhole) (arg15 : Memref sig .tc .vmem S32x128x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S256x256 .fp8e5m2) (harg19 : arg19.IsWhole) (arg20 : Memref sig .tc .vmem S64x128 .bf16) (harg20 : arg20.IsWhole) (arg21 : Memref sig .tc .vmem S32x128 .f32) (harg21 : arg21.IsWhole) (arg22 : Memref sig .tc .vmem S32x128 .f32) (harg22 : arg22.IsWhole) (X3 : BufTy.Contents (Elt Ideal) arg3.view.ty) (X4 : BufTy.Contents (Elt Ideal) arg4.view.ty) (X5 : BufTy.Contents (Elt Ideal) arg5.view.ty) (f16 : BufTy.Contents (Elt Ideal) arg16.view.ty) :
    arg16.view.read (Elt Ideal) (arg16.view.writes (Elt Ideal) f16 (pb_k0_t2 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X3 X4 X5 k0_t2_loop.trips).2)
      = AMv (arg3.view.read (Elt Ideal) X3) (arg4.view.read (Elt Ideal) X4) (arg5.view.read (Elt Ideal) X5) := by
  funext y
  have h1 : (y 0).val < 32 := (y 0).isLt
  refine (congrArg _ (eq_ix2 y)).trans (pb2_amax c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X3 X4 X5 f16 _ (le_refl _) (y 0) (y 1) (by rw [t2_trips]; exact h1))

/-! ## The first grid point -/

/-- The condition the scratch buffers are set up under. -/
def fst (i : grid0.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1
instance (i : grid0.Coords) : Decidable (fst i) := by unfold fst; infer_instance

/-- The step sizes' multipliers, one row a head. -/
def ALv (X2 : S32.Idx → EReal) : S32x128.Idx → EReal := fun y => X2 (ix1 (y 0))

theorem sel_at (k : ℕ) (r : EReal) (prev : S32x128.Idx → EReal) (h : Fin 32) (t : Fin 128) (p : _) :
    select (cmpi .eq (iota .tc S32x128 32 [0] p) (broadcast S32x128 (BitVec.ofNat 32 k))) (broadcast S32x128 r) prev (ix2 h t)
      = if h.val = k % 4294967296 then r else prev (ix2 h t) := by
  have hh := h.isLt
  pointwise
  show (if BitVec.ofBool (BitVec.ofNat 32 h.val == BitVec.ofNat 32 k) = 1 then r else prev (ix2 h t)) = _
  have e : (BitVec.ofNat 32 h.val == BitVec.ofNat 32 k) = decide (h.val = k % 4294967296) := by
    rw [Bool.eq_iff_iff, beq_iff_eq, decide_eq_true_iff, ← BitVec.toNat_inj, BitVec.toNat_ofNat, BitVec.toNat_ofNat]
    rw [Nat.mod_eq_of_lt (show h.val < 2 ^ 32 by omega)]
  rw [e]
  by_cases e' : h.val = k % 4294967296
  · rw [if_pos e', decide_eq_true e']; rfl
  · rw [if_neg e', decide_eq_false e']; rfl

theorem shapeCast_self_at (v : S32x128.Idx → EReal) (p : _) (y : S32x128.Idx) : shapeCast S32x128 v p y = v y := by
  rw [shapeCast_self]

theorem r_at (arg2 : Memref sig .tc .smem S32 .f32) (f2 : BufTy.Contents (Elt Ideal) arg2.view.ty) (k : ℕ) (hk : k < 32) (inb : _) (hne : _) :
    View.readAt (Elt Ideal) arg2.view (Rect.unit (s := S32) ![k] S1.size inb).toLoadRect f2 (Shape.Idx.first hne) = arg2.view.read (Elt Ideal) f2 (ix1 ⟨k, hk⟩) := by
  refine View.readAt_at _ _ _ rfl _ _ ?_
  intro a
  fin_cases a
  show k = k + 0
  omega

/-- A memref held whole at some contents. -/
abbrev any (c : Dev nD) {sp : Space} {S : Shape} {e : EltTy} (M : Memref sig .tc sp S e) : sProp 𝕄 :=
  iprop(∃ d, owns (c : Thread nD τ) M fullShare d)

/-- What a scratch buffer set up at the first grid point holds afterwards. -/
def ini {α : Type} (i : grid0.Coords) (a b : α) : α := if fst i then a else b

end Cert.KernelIdeal.Val

end
-- ==== Proof.KR1.lean ====
/- One run of the body with what it leaves in every buffer. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import Idealize.ShloMosaic.Lib.Pointwise
public import Idealize.ShloMosaic.Lib.VecWindow
public import Idealize.ShloMosaic.Lib.WritesUnit
public import proofs.«01_k».proof.Proof.KS
@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

open Cert.Rot

set_option maxHeartbeats 4000000 in
/-- The body at the last grid point: what it leaves in each buffer. -/
theorem runLast (c : Dev nD) (i : grid0.Coords) (arg2 : Memref sig .tc .smem S32 .f32) (harg2 : arg2.IsWhole) (arg3 : Memref sig .tc .vmem S1x128x4096 .bf16) (harg3 : arg3.IsWhole) (arg4 : Memref sig .tc .vmem S1x64x128 .f32) (harg4 : arg4.IsWhole) (arg5 : Memref sig .tc .vmem S1x64x128 .f32) (harg5 : arg5.IsWhole) (arg6 : Memref sig .tc .vmem S1x128x32x128 .i8) (harg6 : arg6.IsWhole) (arg7 : Memref sig .tc .vmem S1x32x128 .f32) (harg7 : arg7.IsWhole) (arg8 : Memref sig .tc .vmem S1x128x4096 .bf16) (harg8 : arg8.IsWhole) (arg9 : Memref sig .tc .vmem S1x32 .f32) (harg9 : arg9.IsWhole) (arg10 : Memref sig .tc .vmem S1x32x128 .f32) (harg10 : arg10.IsWhole) (arg11 : Memref sig .tc .vmem S1x32x64x128 .i8) (harg11 : arg11.IsWhole) (arg12 : Memref sig .tc .vmem S1x32x128 .f32) (harg12 : arg12.IsWhole) (arg13 : Memref sig .tc .vmem S1056x128 .i32) (harg13 : arg13.IsWhole) (arg14 : Memref sig .tc .vmem S2x256x128 .f32) (harg14 : arg14.IsWhole) (arg15 : Memref sig .tc .vmem S32x128x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S256x256 .fp8e5m2) (harg19 : arg19.IsWhole) (arg20 : Memref sig .tc .vmem S64x128 .bf16) (harg20 : arg20.IsWhole) (arg21 : Memref sig .tc .vmem S32x128 .f32) (harg21 : arg21.IsWhole) (arg22 : Memref sig .tc .vmem S32x128 .f32) (harg22 : arg22.IsWhole)
    (X2 : S32.Idx → Elt Ideal .f32) (X3 : S1x128x4096.Idx → Elt Ideal .bf16) (X4 X5 : S1x64x128.Idx → Elt Ideal .f32)
    (X9 : S1x32.Idx → Elt Ideal .f32) (X19 : S256x256.Idx → Elt Ideal .fp8e5m2) (X20 : S64x128.Idx → Elt Ideal .bf16) (X21 X22 : S32x128.Idx → Elt Ideal .f32)
    (X6 : S1x128x32x128.Idx → Elt Ideal .i8) (X7 : S1x32x128.Idx → Elt Ideal .f32)
    (hc2 : k0_cond2 i = 1#1) (W : Waits sig Unit) (K : PUnit → sProp 𝕄) :
    iprop(owns (c : Thread nD τ) arg2 fullShare X2 ∗ owns (c : Thread nD τ) arg3 fullShare X3 ∗ owns (c : Thread nD τ) arg4 fullShare X4
        ∗ owns (c : Thread nD τ) arg5 fullShare X5 ∗ owns (c : Thread nD τ) arg6 fullShare X6 ∗ owns (c : Thread nD τ) arg7 fullShare X7
        ∗ any c arg8 ∗ owns (c : Thread nD τ) arg9 fullShare X9 ∗ any c arg10 ∗ any c arg11 ∗ any c arg12
        ∗ any c arg13 ∗ any c arg14 ∗ any c arg15 ∗ any c arg16 ∗ any c arg17 ∗ any c arg18 ∗ owns (c : Thread nD τ) arg19 fullShare X19 ∗ owns (c : Thread nD τ) arg20 fullShare X20 ∗ owns (c : Thread nD τ) arg21 fullShare X21 ∗ owns (c : Thread nD τ) arg22 fullShare X22
        ∗ owes (c : Thread nD τ) 0 W
        ∗ (iprop(owns (c : Thread nD τ) arg2 fullShare X2 ∗ owns (c : Thread nD τ) arg3 fullShare X3 ∗ owns (c : Thread nD τ) arg4 fullShare X4
        ∗ owns (c : Thread nD τ) arg5 fullShare X5 ∗ owns (c : Thread nD τ) arg6 fullShare X6 ∗ owns (c : Thread nD τ) arg7 fullShare X7
        ∗ owns (c : Thread nD τ) arg8 fullShare (DKo X3 X4 X5 X6 X7 (ini i (k0_pay8 (F := Ideal)) X19) (ini i (ALv X2) X21)) ∗ owns (c : Thread nD τ) arg9 fullShare (k0_pay7 (F := Ideal) (k0_pay6 (F := Ideal) (AMv X3 X4 X5) (SMo X3 X4 X5 X6 X7 (ini i (k0_pay8 (F := Ideal)) X19) (ini i (ALv X2) X21)) (ini i (k0_pay137 (F := Ideal)) X22))) ∗ owns (c : Thread nD τ) arg10 fullShare (k0_pay5 (F := Ideal) (AMv X3 X4 X5) (SMo X3 X4 X5 X6 X7 (ini i (k0_pay8 (F := Ideal)) X19) (ini i (ALv X2) X21))) ∗ owns (c : Thread nD τ) arg11 fullShare (KCo X3 X4 X5 (ini i (k0_pay9 (F := Ideal)) X20) (ini i (ALv X2) X21)) ∗ owns (c : Thread nD τ) arg12 fullShare (k0_pay141 (F := Ideal) (AMv X3 X4 X5) (ini i (ALv X2) X21))
        ∗ any c arg13 ∗ any c arg14 ∗ any c arg15 ∗ any c arg16 ∗ any c arg17 ∗ any c arg18 ∗ owns (c : Thread nD τ) arg19 fullShare (ini i (k0_pay8 (F := Ideal)) X19) ∗ owns (c : Thread nD τ) arg20 fullShare (ini i (k0_pay9 (F := Ideal)) X20) ∗ owns (c : Thread nD τ) arg21 fullShare (ini i (ALv X2) X21) ∗ owns (c : Thread nD τ) arg22 fullShare (k0_pay6 (F := Ideal) (AMv X3 X4 X5) (SMo X3 X4 X5 X6 X7 (ini i (k0_pay8 (F := Ideal)) X19) (ini i (ALv X2) X21)) (ini i (k0_pay137 (F := Ideal)) X22))
        ∗ ∃ W', owes (c : Thread nD τ) 0 W') -∗ K ⟨⟩))
      ⊢ wp frame (wpE (defs₀ (F := Ideal)) 𝒱₀ c none) Set.univ
          (cc0_rotary_key_backward (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_rotary_key_backward_eq_skeleton]; unfold cc0_rotary_key_backward_skel
  unfold any owns
  iintro ⟨⟨%f2, %h2, H2⟩, ⟨%f3, %h3, H3⟩, ⟨%f4, %h4, H4⟩, ⟨%f5, %h5, H5⟩, ⟨%f6, %h6, H6⟩, ⟨%f7, %h7, H7⟩, ⟨%d8, %f8, -, H8⟩, ⟨%f9, %h9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%f19, %h19, H19⟩, ⟨%f20, %h20, H20⟩, ⟨%f21, %h21, H21⟩, ⟨%f22, %h22, H22⟩, HW, Hk⟩
  sl_exec
  sl_step
  iapply Hk
  have hb : runLast.sl.v7 i = 1#1 ↔ fst i := Iff.rfl
  have PMe (inb : _) : arg19.view.read (Elt Ideal) (if hc : runLast.sl.v7 i = 1#1 then arg19.view.writes (Elt Ideal) f19 [⟨Rect.unit (s := S256x256) ![0, 0] S256x256.size inb, runLast.sl.v58⟩] else f19) = ini i (k0_pay8 (F := Ideal)) X19 := by
    unfold ini
    by_cases h : fst i
    · rw [dif_pos (hb.2 h), if_pos h]; exact whole2 arg19 f19 inb _ _
    · rw [dif_neg (fun h' => h (hb.1 h')), if_neg h]; exact h19
  have NWe (inb : _) (pf : _) : arg20.view.read (Elt Ideal) (if hc : runLast.sl.v7 i = 1#1 then arg20.view.writes (Elt Ideal) f20 [⟨Rect.unit (s := S64x128) ![0, 0] S64x128.size inb, shapeCast S64x128 runLast.sl.v73 pf⟩] else f20) = ini i (k0_pay9 (F := Ideal)) X20 := by
    unfold ini
    by_cases h : fst i
    · rw [dif_pos (hb.2 h), if_pos h]; exact whole2 arg20 f20 inb _ _
    · rw [dif_neg (fun h' => h (hb.1 h')), if_neg h]; exact h20
  have AL0 : k0_pay136 (F := Ideal) runLast.sl.v77 (runLast.sl.v208 c arg2 f2) (cmpi .eq runLast.sl.v77 runLast.sl.v209) (runLast.sl.r_26 c arg2 f2) (runLast.sl.r_27 c arg2 f2) (runLast.sl.r_28 c arg2 f2) (runLast.sl.r_29 c arg2 f2) (runLast.sl.r_30 c arg2 f2) (runLast.sl.r_31 c arg2 f2) = ALv X2 := by
    funext y
    obtain ⟨h, t, rfl⟩ : ∃ (h : Fin 32) (t : Fin 128), y = ix2 h t := ⟨y 0, y 1, eq_ix2 y⟩
    unfold k0_pay136
    rw [shapeCast_self_at]
    iterate 8 (try sl_unfold_words)
    simp only [sel_at]
    rw [← h2]
    fin_cases h <;> exact (r_at arg2 f2 _ (by decide) _ _)
  have ALe (inb : _) : arg21.view.read (Elt Ideal) (if hc : runLast.sl.v7 i = 1#1 then arg21.view.writes (Elt Ideal) f21 [⟨Rect.unit (s := S32x128) ![0, 0] S32x128.size inb, k0_pay136 (F := Ideal) runLast.sl.v77 (runLast.sl.v208 c arg2 f2) (cmpi .eq runLast.sl.v77 runLast.sl.v209) (runLast.sl.r_26 c arg2 f2) (runLast.sl.r_27 c arg2 f2) (runLast.sl.r_28 c arg2 f2) (runLast.sl.r_29 c arg2 f2) (runLast.sl.r_30 c arg2 f2) (runLast.sl.r_31 c arg2 f2)⟩] else f21) = ini i (ALv X2) X21 := by
    rw [AL0]
    unfold ini
    by_cases h : fst i
    · rw [dif_pos (hb.2 h), if_pos h]; exact whole2 arg21 f21 inb _ _
    · rw [dif_neg (fun h' => h (hb.1 h')), if_neg h]; exact h21
  have e13 : runLast.sl.v13 c i arg2 arg21 f2 f21 = ini i (ALv X2) X21 := by
    unfold runLast.sl.v13
    exact (load2 arg21 _ _).trans (ALe _)
  have e10 : runLast.sl.v10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f16 = AMv X3 X4 X5 := by
    unfold runLast.sl.v10
    rw [← h3, ← h4, ← h5]
    exact (load2 arg16 _ _).trans (pb2_amax_all c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f16)
  have e15 := pb2_kr_all c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f15
  have e17 : arg17.view.read (Elt Ideal) (arg17.view.writes (Elt Ideal) arg17.view.junk (runLast.sl.H17_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f16 f21)) = INVv X3 X4 X5 (ini i (ALv X2) X21) := by
    unfold runLast.sl.H17_1
    rw [e10, e13]
    exact whole2 arg17 _ _ _ _
  have hW : fact1 X6 (arg13.view.read (Elt Ideal) fL0) 128 := by
    have h := hL2
    rw [show Scf.trips k0_t1_loop.lb k0_t1_loop.ub k0_t1_loop.st = 128 from t1_trips] at h
    rw [← h6]; exact h
  rw [h3, h4, h5] at e15
  have e8 : arg8.view.read (Elt Ideal) fL4 = DKo X3 X4 X5 X6 X7 (ini i (k0_pay8 (F := Ideal)) X19) (ini i (ALv X2) X21) := by
    have h := of_stage (fun h0 => absurd (h0.symm.trans (show Scf.trips k0_t3_loop.lb k0_t3_loop.ub k0_t3_loop.st = 8 from t3_trips)) (by decide)) hL20
    rw [show Scf.trips k0_t3_loop.lb k0_t3_loop.ub k0_t3_loop.st = 8 from t3_trips, PMe, h4, h5, h7] at h
    exact dk_all X3 X4 X5 X6 X7 _ _ _ _ _ hW e15 e17 _ h
  have e11 : arg11.view.read (Elt Ideal) fL5 = KCo X3 X4 X5 (ini i (k0_pay9 (F := Ideal)) X20) (ini i (ALv X2) X21) := by
    have h := of_stage (fun h0 => absurd (h0.symm.trans (show Scf.trips k0_t3_loop.lb k0_t3_loop.ub k0_t3_loop.st = 8 from t3_trips)) (by decide)) hL22
    rw [show Scf.trips k0_t3_loop.lb k0_t3_loop.ub k0_t3_loop.st = 8 from t3_trips, NWe] at h
    exact kc_all X3 X4 X5 _ _ _ _ e15 e17 _ h
  have e18 : arg18.view.read (Elt Ideal) fL6 = SMo X3 X4 X5 X6 X7 (ini i (k0_pay8 (F := Ideal)) X19) (ini i (ALv X2) X21) := by
    have h := of_stage (fun h0 => absurd (h0.symm.trans (show Scf.trips k0_t3_loop.lb k0_t3_loop.ub k0_t3_loop.st = 8 from t3_trips)) (by decide)) hL24
    rw [show Scf.trips k0_t3_loop.lb k0_t3_loop.ub k0_t3_loop.st = 8 from t3_trips, PMe, h7] at h
    exact sm_all X3 X4 X5 X6 X7 _ _ _ _ _ hW e15 e17 _ h
  have e35 : runLast.sl.v35 c i arg22 f22 = ini i (k0_pay137 (F := Ideal)) X22 := by
    unfold runLast.sl.v35
    refine (load2 arg22 _ _).trans ?_
    unfold ini
    by_cases h : fst i
    · rw [dif_pos (hb.2 h), if_pos h]; exact whole2 arg22 f22 _ _ _
    · rw [dif_neg (fun h' => h (hb.1 h')), if_neg h]; exact h22
  have e28 (inb : _) : View.readAt (Elt Ideal) arg18.view (Rect.unit (s := S32x128) ![0, 0] S32x128.size inb).toLoadRect fL6 = SMo X3 X4 X5 X6 X7 (ini i (k0_pay8 (F := Ideal)) X19) (ini i (ALv X2) X21) :=
    (load2 arg18 fL6 inb).trans e18
  isplitl [H2]
  · iexists _; isplitr; swap; · iexact H2
    ipureintro
    exact h2
  isplitl [H3]
  · iexists _; isplitr; swap; · iexact H3
    ipureintro
    exact h3
  isplitl [H4]
  · iexists _; isplitr; swap; · iexact H4
    ipureintro
    exact h4
  isplitl [H5]
  · iexists _; isplitr; swap; · iexact H5
    ipureintro
    exact h5
  isplitl [H6]
  · iexists _; isplitr; swap; · iexact H6
    ipureintro
    exact h6
  isplitl [H7]
  · iexists _; isplitr; swap; · iexact H7
    ipureintro
    exact h7
  isplitl [H8]
  · iexists _; isplitr; swap; · iexact H8
    ipureintro
    exact e8
  isplitl [H9]
  · iexists _; isplitr; swap; · iexact H9
    ipureintro
    refine (whole2 arg9 _ _ _ _).trans ?_
    refine congrArg (fun v => k0_pay7 (F := Ideal) v) ?_
    unfold runLast.sl.v42_1
    refine (load2 arg22 _ _).trans ?_
    unfold runLast.sl.H22_1
    rw [e10, e28, e35]
    exact whole2 arg22 _ _ _ _
  isplitl [H10]
  · iexists _; isplitr; swap; · iexact H10
    ipureintro
    rw [e10, e28]
    exact whole3 arg10 _ _ _ _
  isplitl [H11]
  · iexists _; isplitr; swap; · iexact H11
    ipureintro
    exact e11
  isplitl [H12]
  · iexists _; isplitr; swap; · iexact H12
    ipureintro
    unfold runLast.sl.H12_1
    rw [e10, e13]
    exact whole3 arg12 _ _ _ _
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _; isplitr; swap; · iexact H19
    ipureintro
    exact PMe _
  isplitl [H20]
  · iexists _; isplitr; swap; · iexact H20
    ipureintro
    exact NWe _ _
  isplitl [H21]
  · iexists _; isplitr; swap; · iexact H21
    ipureintro
    exact ALe _
  isplitl [H22]
  · iexists _; isplitr; swap; · iexact H22
    ipureintro
    unfold runLast.sl.H22_1
    rw [e10, e28, e35]
    exact whole2 arg22 _ _ _ _
  iexists _; iexact HW

end Cert.KernelIdeal.Val

end
-- ==== Proof.KR2.lean ====
/- One run of the body with what it leaves in every buffer. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import Idealize.ShloMosaic.Lib.Pointwise
public import Idealize.ShloMosaic.Lib.VecWindow
public import Idealize.ShloMosaic.Lib.WritesUnit
public import proofs.«01_k».proof.Proof.KS
@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

open Cert.Rot

set_option maxHeartbeats 4000000 in
/-- The body at a grid point that is not the last: what it leaves in each buffer. -/
theorem runRest (c : Dev nD) (i : grid0.Coords) (arg2 : Memref sig .tc .smem S32 .f32) (harg2 : arg2.IsWhole) (arg3 : Memref sig .tc .vmem S1x128x4096 .bf16) (harg3 : arg3.IsWhole) (arg4 : Memref sig .tc .vmem S1x64x128 .f32) (harg4 : arg4.IsWhole) (arg5 : Memref sig .tc .vmem S1x64x128 .f32) (harg5 : arg5.IsWhole) (arg6 : Memref sig .tc .vmem S1x128x32x128 .i8) (harg6 : arg6.IsWhole) (arg7 : Memref sig .tc .vmem S1x32x128 .f32) (harg7 : arg7.IsWhole) (arg8 : Memref sig .tc .vmem S1x128x4096 .bf16) (harg8 : arg8.IsWhole) (arg9 : Memref sig .tc .vmem S1x32 .f32) (harg9 : arg9.IsWhole) (arg10 : Memref sig .tc .vmem S1x32x128 .f32) (harg10 : arg10.IsWhole) (arg11 : Memref sig .tc .vmem S1x32x64x128 .i8) (harg11 : arg11.IsWhole) (arg12 : Memref sig .tc .vmem S1x32x128 .f32) (harg12 : arg12.IsWhole) (arg13 : Memref sig .tc .vmem S1056x128 .i32) (harg13 : arg13.IsWhole) (arg14 : Memref sig .tc .vmem S2x256x128 .f32) (harg14 : arg14.IsWhole) (arg15 : Memref sig .tc .vmem S32x128x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S256x256 .fp8e5m2) (harg19 : arg19.IsWhole) (arg20 : Memref sig .tc .vmem S64x128 .bf16) (harg20 : arg20.IsWhole) (arg21 : Memref sig .tc .vmem S32x128 .f32) (harg21 : arg21.IsWhole) (arg22 : Memref sig .tc .vmem S32x128 .f32) (harg22 : arg22.IsWhole)
    (X2 : S32.Idx → Elt Ideal .f32) (X3 : S1x128x4096.Idx → Elt Ideal .bf16) (X4 X5 : S1x64x128.Idx → Elt Ideal .f32)
    (X9 : S1x32.Idx → Elt Ideal .f32) (X19 : S256x256.Idx → Elt Ideal .fp8e5m2) (X20 : S64x128.Idx → Elt Ideal .bf16) (X21 X22 : S32x128.Idx → Elt Ideal .f32)
    (X6 : S1x128x32x128.Idx → Elt Ideal .i8) (X7 : S1x32x128.Idx → Elt Ideal .f32)
    (hc2 : ¬ k0_cond2 i = 1#1) (W : Waits sig Unit) (K : PUnit → sProp 𝕄) :
    iprop(owns (c : Thread nD τ) arg2 fullShare X2 ∗ owns (c : Thread nD τ) arg3 fullShare X3 ∗ owns (c : Thread nD τ) arg4 fullShare X4
        ∗ owns (c : Thread nD τ) arg5 fullShare X5 ∗ owns (c : Thread nD τ) arg6 fullShare X6 ∗ owns (c : Thread nD τ) arg7 fullShare X7
        ∗ any c arg8 ∗ owns (c : Thread nD τ) arg9 fullShare X9 ∗ any c arg10 ∗ any c arg11 ∗ any c arg12
        ∗ any c arg13 ∗ any c arg14 ∗ any c arg15 ∗ any c arg16 ∗ any c arg17 ∗ any c arg18 ∗ owns (c : Thread nD τ) arg19 fullShare X19 ∗ owns (c : Thread nD τ) arg20 fullShare X20 ∗ owns (c : Thread nD τ) arg21 fullShare X21 ∗ owns (c : Thread nD τ) arg22 fullShare X22
        ∗ owes (c : Thread nD τ) 0 W
        ∗ (iprop(owns (c : Thread nD τ) arg2 fullShare X2 ∗ owns (c : Thread nD τ) arg3 fullShare X3 ∗ owns (c : Thread nD τ) arg4 fullShare X4
        ∗ owns (c : Thread nD τ) arg5 fullShare X5 ∗ owns (c : Thread nD τ) arg6 fullShare X6 ∗ owns (c : Thread nD τ) arg7 fullShare X7
        ∗ owns (c : Thread nD τ) arg8 fullShare (DKo X3 X4 X5 X6 X7 (ini i (k0_pay8 (F := Ideal)) X19) (ini i (ALv X2) X21)) ∗ owns (c : Thread nD τ) arg9 fullShare X9 ∗ owns (c : Thread nD τ) arg10 fullShare (k0_pay5 (F := Ideal) (AMv X3 X4 X5) (SMo X3 X4 X5 X6 X7 (ini i (k0_pay8 (F := Ideal)) X19) (ini i (ALv X2) X21))) ∗ owns (c : Thread nD τ) arg11 fullShare (KCo X3 X4 X5 (ini i (k0_pay9 (F := Ideal)) X20) (ini i (ALv X2) X21)) ∗ owns (c : Thread nD τ) arg12 fullShare (k0_pay141 (F := Ideal) (AMv X3 X4 X5) (ini i (ALv X2) X21))
        ∗ any c arg13 ∗ any c arg14 ∗ any c arg15 ∗ any c arg16 ∗ any c arg17 ∗ any c arg18 ∗ owns (c : Thread nD τ) arg19 fullShare (ini i (k0_pay8 (F := Ideal)) X19) ∗ owns (c : Thread nD τ) arg20 fullShare (ini i (k0_pay9 (F := Ideal)) X20) ∗ owns (c : Thread nD τ) arg21 fullShare (ini i (ALv X2) X21) ∗ owns (c : Thread nD τ) arg22 fullShare (k0_pay6 (F := Ideal) (AMv X3 X4 X5) (SMo X3 X4 X5 X6 X7 (ini i (k0_pay8 (F := Ideal)) X19) (ini i (ALv X2) X21)) (ini i (k0_pay137 (F := Ideal)) X22))
        ∗ ∃ W', owes (c : Thread nD τ) 0 W') -∗ K ⟨⟩))
      ⊢ wp frame (wpE (defs₀ (F := Ideal)) 𝒱₀ c none) Set.univ
          (cc0_rotary_key_backward (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_rotary_key_backward_eq_skeleton]; unfold cc0_rotary_key_backward_skel
  unfold any owns
  iintro ⟨⟨%f2, %h2, H2⟩, ⟨%f3, %h3, H3⟩, ⟨%f4, %h4, H4⟩, ⟨%f5, %h5, H5⟩, ⟨%f6, %h6, H6⟩, ⟨%f7, %h7, H7⟩, ⟨%d8, %f8, -, H8⟩, ⟨%f9, %h9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%f19, %h19, H19⟩, ⟨%f20, %h20, H20⟩, ⟨%f21, %h21, H21⟩, ⟨%f22, %h22, H22⟩, HW, Hk⟩
  sl_exec
  sl_step
  iapply Hk
  have hb : runRest.sl.v7 i = 1#1 ↔ fst i := Iff.rfl
  have PMe (inb : _) : arg19.view.read (Elt Ideal) (if hc : runRest.sl.v7 i = 1#1 then arg19.view.writes (Elt Ideal) f19 [⟨Rect.unit (s := S256x256) ![0, 0] S256x256.size inb, runRest.sl.v58⟩] else f19) = ini i (k0_pay8 (F := Ideal)) X19 := by
    unfold ini
    by_cases h : fst i
    · rw [dif_pos (hb.2 h), if_pos h]; exact whole2 arg19 f19 inb _ _
    · rw [dif_neg (fun h' => h (hb.1 h')), if_neg h]; exact h19
  have NWe (inb : _) (pf : _) : arg20.view.read (Elt Ideal) (if hc : runRest.sl.v7 i = 1#1 then arg20.view.writes (Elt Ideal) f20 [⟨Rect.unit (s := S64x128) ![0, 0] S64x128.size inb, shapeCast S64x128 runRest.sl.v73 pf⟩] else f20) = ini i (k0_pay9 (F := Ideal)) X20 := by
    unfold ini
    by_cases h : fst i
    · rw [dif_pos (hb.2 h), if_pos h]; exact whole2 arg20 f20 inb _ _
    · rw [dif_neg (fun h' => h (hb.1 h')), if_neg h]; exact h20
  have AL0 : k0_pay136 (F := Ideal) runRest.sl.v77 (runRest.sl.v208 c arg2 f2) (cmpi .eq runRest.sl.v77 runRest.sl.v209) (runRest.sl.r_26 c arg2 f2) (runRest.sl.r_27 c arg2 f2) (runRest.sl.r_28 c arg2 f2) (runRest.sl.r_29 c arg2 f2) (runRest.sl.r_30 c arg2 f2) (runRest.sl.r_31 c arg2 f2) = ALv X2 := by
    funext y
    obtain ⟨h, t, rfl⟩ : ∃ (h : Fin 32) (t : Fin 128), y = ix2 h t := ⟨y 0, y 1, eq_ix2 y⟩
    unfold k0_pay136
    rw [shapeCast_self_at]
    iterate 8 (try sl_unfold_words)
    simp only [sel_at]
    rw [← h2]
    fin_cases h <;> exact (r_at arg2 f2 _ (by decide) _ _)
  have ALe (inb : _) : arg21.view.read (Elt Ideal) (if hc : runRest.sl.v7 i = 1#1 then arg21.view.writes (Elt Ideal) f21 [⟨Rect.unit (s := S32x128) ![0, 0] S32x128.size inb, k0_pay136 (F := Ideal) runRest.sl.v77 (runRest.sl.v208 c arg2 f2) (cmpi .eq runRest.sl.v77 runRest.sl.v209) (runRest.sl.r_26 c arg2 f2) (runRest.sl.r_27 c arg2 f2) (runRest.sl.r_28 c arg2 f2) (runRest.sl.r_29 c arg2 f2) (runRest.sl.r_30 c arg2 f2) (runRest.sl.r_31 c arg2 f2)⟩] else f21) = ini i (ALv X2) X21 := by
    rw [AL0]
    unfold ini
    by_cases h : fst i
    · rw [dif_pos (hb.2 h), if_pos h]; exact whole2 arg21 f21 inb _ _
    · rw [dif_neg (fun h' => h (hb.1 h')), if_neg h]; exact h21
  have e13 : runRest.sl.v13 c i arg2 arg21 f2 f21 = ini i (ALv X2) X21 := by
    unfold runRest.sl.v13
    exact (load2 arg21 _ _).trans (ALe _)
  have e10 : runRest.sl.v10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f16 = AMv X3 X4 X5 := by
    unfold runRest.sl.v10
    rw [← h3, ← h4, ← h5]
    exact (load2 arg16 _ _).trans (pb2_amax_all c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f16)
  have e15 := pb2_kr_all c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f5 f15
  have e17 : arg17.view.read (Elt Ideal) (arg17.view.writes (Elt Ideal) arg17.view.junk (runRest.sl.H17_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f16 f21)) = INVv X3 X4 X5 (ini i (ALv X2) X21) := by
    unfold runRest.sl.H17_1
    rw [e10, e13]
    exact whole2 arg17 _ _ _ _
  have hW : fact1 X6 (arg13.view.read (Elt Ideal) fL0) 128 := by
    have h := hL2
    rw [show Scf.trips k0_t1_loop.lb k0_t1_loop.ub k0_t1_loop.st = 128 from t1_trips] at h
    rw [← h6]; exact h
  rw [h3, h4, h5] at e15
  have e8 : arg8.view.read (Elt Ideal) fL4 = DKo X3 X4 X5 X6 X7 (ini i (k0_pay8 (F := Ideal)) X19) (ini i (ALv X2) X21) := by
    have h := of_stage (fun h0 => absurd (h0.symm.trans (show Scf.trips k0_t3_loop.lb k0_t3_loop.ub k0_t3_loop.st = 8 from t3_trips)) (by decide)) hL20
    rw [show Scf.trips k0_t3_loop.lb k0_t3_loop.ub k0_t3_loop.st = 8 from t3_trips, PMe, h4, h5, h7] at h
    exact dk_all X3 X4 X5 X6 X7 _ _ _ _ _ hW e15 e17 _ h
  have e11 : arg11.view.read (Elt Ideal) fL5 = KCo X3 X4 X5 (ini i (k0_pay9 (F := Ideal)) X20) (ini i (ALv X2) X21) := by
    have h := of_stage (fun h0 => absurd (h0.symm.trans (show Scf.trips k0_t3_loop.lb k0_t3_loop.ub k0_t3_loop.st = 8 from t3_trips)) (by decide)) hL22
    rw [show Scf.trips k0_t3_loop.lb k0_t3_loop.ub k0_t3_loop.st = 8 from t3_trips, NWe] at h
    exact kc_all X3 X4 X5 _ _ _ _ e15 e17 _ h
  have e18 : arg18.view.read (Elt Ideal) fL6 = SMo X3 X4 X5 X6 X7 (ini i (k0_pay8 (F := Ideal)) X19) (ini i (ALv X2) X21) := by
    have h := of_stage (fun h0 => absurd (h0.symm.trans (show Scf.trips k0_t3_loop.lb k0_t3_loop.ub k0_t3_loop.st = 8 from t3_trips)) (by decide)) hL24
    rw [show Scf.trips k0_t3_loop.lb k0_t3_loop.ub k0_t3_loop.st = 8 from t3_trips, PMe, h7] at h
    exact sm_all X3 X4 X5 X6 X7 _ _ _ _ _ hW e15 e17 _ h
  have e35 : runRest.sl.v35 c i arg22 f22 = ini i (k0_pay137 (F := Ideal)) X22 := by
    unfold runRest.sl.v35
    refine (load2 arg22 _ _).trans ?_
    unfold ini
    by_cases h : fst i
    · rw [dif_pos (hb.2 h), if_pos h]; exact whole2 arg22 f22 _ _ _
    · rw [dif_neg (fun h' => h (hb.1 h')), if_neg h]; exact h22
  have e28 (inb : _) : View.readAt (Elt Ideal) arg18.view (Rect.unit (s := S32x128) ![0, 0] S32x128.size inb).toLoadRect fL6 = SMo X3 X4 X5 X6 X7 (ini i (k0_pay8 (F := Ideal)) X19) (ini i (ALv X2) X21) :=
    (load2 arg18 fL6 inb).trans e18
  isplitl [H2]
  · iexists _; isplitr; swap; · iexact H2
    ipureintro
    exact h2
  isplitl [H3]
  · iexists _; isplitr; swap; · iexact H3
    ipureintro
    exact h3
  isplitl [H4]
  · iexists _; isplitr; swap; · iexact H4
    ipureintro
    exact h4
  isplitl [H5]
  · iexists _; isplitr; swap; · iexact H5
    ipureintro
    exact h5
  isplitl [H6]
  · iexists _; isplitr; swap; · iexact H6
    ipureintro
    exact h6
  isplitl [H7]
  · iexists _; isplitr; swap; · iexact H7
    ipureintro
    exact h7
  isplitl [H8]
  · iexists _; isplitr; swap; · iexact H8
    ipureintro
    exact e8
  isplitl [H9]
  · iexists _; isplitr; swap; · iexact H9
    ipureintro
    exact h9
  isplitl [H10]
  · iexists _; isplitr; swap; · iexact H10
    ipureintro
    rw [e10, e28]
    exact whole3 arg10 _ _ _ _
  isplitl [H11]
  · iexists _; isplitr; swap; · iexact H11
    ipureintro
    exact e11
  isplitl [H12]
  · iexists _; isplitr; swap; · iexact H12
    ipureintro
    unfold runRest.sl.H12_1
    rw [e10, e13]
    exact whole3 arg12 _ _ _ _
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _; isplitr; swap; · iexact H19
    ipureintro
    exact PMe _
  isplitl [H20]
  · iexists _; isplitr; swap; · iexact H20
    ipureintro
    exact NWe _ _
  isplitl [H21]
  · iexists _; isplitr; swap; · iexact H21
    ipureintro
    exact ALe _
  isplitl [H22]
  · iexists _; isplitr; swap; · iexact H22
    ipureintro
    rw [e10, e28, e35]
    exact whole2 arg22 _ _ _ _
  iexists _; iexact HW

end Cert.KernelIdeal.Val

end
-- ==== Proof.VR.lean ====
/- The exact run of the ideal kernel: what every grid point leaves in each result's block, and the launch. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import Idealize.ShloMosaic.Lib.Pointwise
public import Idealize.ShloMosaic.Lib.VecWindow
public import Idealize.ShloMosaic.Lib.WritesUnit
public import proofs.«01_k».proof.Proof.KR1
public import proofs.«01_k».proof.Proof.KR2
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.ValueKit
@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

open Cert.Rot
open Idealize.ShloMosaic.Pipeline (Dat BodyObligation)

variable (m : (ℓ : Loc nD τ sig) → Buf (Elt Ideal) ℓ) (ρ : Dev nD → PrngReg)

/-- The blocks a grid point reads: alpha, the key block, the cosines, the sines, the gradient's bytes and scales. -/
def b0 (c : Dev nD) (t : Fin cfg0.N) : S32.Idx → Elt Ideal .f32 := iblk m c 0 t
def b1 (c : Dev nD) (t : Fin cfg0.N) : S1x128x4096.Idx → Elt Ideal .bf16 := iblk m c 1 t
def b2 (c : Dev nD) (t : Fin cfg0.N) : S1x64x128.Idx → Elt Ideal .f32 := iblk m c 2 t
def b3 (c : Dev nD) (t : Fin cfg0.N) : S1x64x128.Idx → Elt Ideal .f32 := iblk m c 3 t
def b4 (c : Dev nD) (t : Fin cfg0.N) : S1x128x32x128.Idx → Elt Ideal .i8 := iblk m c 4 t
def b5 (c : Dev nD) (t : Fin cfg0.N) : S1x32x128.Idx → Elt Ideal .f32 := iblk m c 5 t

/-- alpha, spread over the lanes. -/
def AL (c : Dev nD) : S32x128.Idx → Elt Ideal .f32 := ALv (b0 m c t0_0)

theorem fst_iff : ∀ t : Fin cfg0.N, fst (grid0.coords t) ↔ t.val = 0 := by decide +kernel
theorem c2_iff : ∀ t : Fin cfg0.N, k0_cond2 (grid0.coords t) = 1#1 ↔ t.val = 15 := by decide +kernel

/-- The token sums of the step gradient at a point. -/
def SMt (c : Dev nD) (t : Fin cfg0.N) := SMo (b1 m c t) (b2 m c t) (b3 m c t) (b4 m c t) (b5 m c t) (k0_pay8 (F := Ideal)) (AL m c)
/-- The largest rotated magnitudes at a point. -/
def AMt (c : Dev nD) (t : Fin cfg0.N) := AMv (b1 m c t) (b2 m c t) (b3 m c t)
/-- The lane sums of the step gradient after the first `n` points. -/
def Dn (c : Dev nD) : ℕ → (S32x128.Idx → Elt Ideal .f32)
  | 0 => k0_pay137 (F := Ideal)
  | n + 1 => if h : n < cfg0.N then k0_pay6 (F := Ideal) (AMt m c ⟨n, h⟩) (SMt m c ⟨n, h⟩) (Dn c n) else Dn c n

theorem Dn_succ (c : Dev nD) (t : Fin cfg0.N) : Dn m c (t.val + 1) = k0_pay6 (F := Ideal) (AMt m c t) (SMt m c t) (Dn m c t.val) := by
  rw [Dn, dif_pos t.isLt]

def o6 (c : Dev nD) (t : Fin cfg0.N) := DKo (b1 m c t) (b2 m c t) (b3 m c t) (b4 m c t) (b5 m c t) (k0_pay8 (F := Ideal)) (AL m c)
def o7 (c : Dev nD) (t : Fin cfg0.N) := k0_pay7 (F := Ideal) (Dn m c (t.val + 1))
def o8 (c : Dev nD) (t : Fin cfg0.N) := k0_pay5 (F := Ideal) (AMt m c t) (SMt m c t)
def o9 (c : Dev nD) (t : Fin cfg0.N) := KCo (b1 m c t) (b2 m c t) (b3 m c t) (k0_pay9 (F := Ideal)) (AL m c)
def o10 (c : Dev nD) (t : Fin cfg0.N) := k0_pay141 (F := Ideal) (AMt m c t) (AL m c)

/-- What the scratch buffers hold before point `n`: after the first point the two constant tables, alpha and the sums. -/
def PhiV (c : Dev nD) (n : ℕ) : sProp 𝕄 :=
  iprop((any c (Memref.whole cc0_scratch0) ∗ any c (Memref.whole cc0_scratch1) ∗ any c (Memref.whole cc0_scratch2) ∗ any c (Memref.whole cc0_scratch3) ∗ any c (Memref.whole cc0_scratch4) ∗ any c (Memref.whole cc0_scratch5)
    ∗ ∃ X19 X20 X21 X22, ⌜n ≠ 0 → X19 = k0_pay8 (F := Ideal) ∧ X20 = k0_pay9 (F := Ideal) ∧ X21 = AL m c ∧ X22 = Dn m c n⌝
      ∗ owns (c : Thread nD τ) (Memref.whole cc0_scratch6) fullShare X19 ∗ owns (c : Thread nD τ) (Memref.whole cc0_scratch7) fullShare X20 ∗ owns (c : Thread nD τ) (Memref.whole cc0_scratch8) fullShare X21 ∗ owns (c : Thread nD τ) (Memref.whole cc0_scratch9) fullShare X22)
    ∗ (∃ r, prngReg c r))

/-- The proof data on core `c`. -/
def dats (_ : Fin 1) (c : Dev nD) : Dat τ (Elt Ideal) Unit ℕ (UR sig nD τ) ℕ cfg0 c where
  A w := V m c (Pipeline.arrRef spec0 w)
  after
    | 0 => fun t => iblk m c 0 t
    | 1 => fun t => iblk m c 1 t
    | 2 => fun t => iblk m c 2 t
    | 3 => fun t => iblk m c 3 t
    | 4 => fun t => iblk m c 4 t
    | 5 => fun t => iblk m c 5 t
    | 6 => fun t => o6 m c t
    | 7 => fun t => o7 m c t
    | 8 => fun t => o8 m c t
    | 9 => fun t => o9 m c t
    | 10 => fun t => o10 m c t
    | ⟨_ + 11, h⟩ => absurd h (Nat.not_lt.2 (Nat.le_add_left _ _))
  Φ t := PhiV m c t.val
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d
theorem before_3 (c : Dev nD) (t : Fin cfg0.N) (d) : (dats m 0 c).before 3 t d = iblk m c 3 t :=
  before0_3_of m (dats m 0 c) (A_eq m c 3) (fun _ => rfl) t d
theorem before_4 (c : Dev nD) (t : Fin cfg0.N) (d) : (dats m 0 c).before 4 t d = iblk m c 4 t :=
  before0_4_of m (dats m 0 c) (A_eq m c 4) (fun _ => rfl) t d
theorem before_5 (c : Dev nD) (t : Fin cfg0.N) (d) : (dats m 0 c).before 5 t d = iblk m c 5 t :=
  before0_5_of m (dats m 0 c) (A_eq m c 5) (fun _ => rfl) t d

theorem PhiA_eq (c : Dev nD) :
    (Pipeline.ΦA spec0 c : sProp 𝕄)
      = iprop(iprop(any c (Memref.whole cc0_scratch0) ∗ any c (Memref.whole cc0_scratch1) ∗ any c (Memref.whole cc0_scratch2) ∗ any c (Memref.whole cc0_scratch3) ∗ any c (Memref.whole cc0_scratch4) ∗ any c (Memref.whole cc0_scratch5) ∗ any c (Memref.whole cc0_scratch6) ∗ any c (Memref.whole cc0_scratch7) ∗ any c (Memref.whole cc0_scratch8) ∗ any c (Memref.whole cc0_scratch9)) ∗ (∃ r, prngReg c r)) := by
  unfold Pipeline.ΦA; rw [scopedRest0_eq]; unfold any; simp only [owns_whole]

theorem phi_in (c : Dev nD) : (Pipeline.ΦA spec0 c : sProp 𝕄) ⊢ PhiV m c 0 := by
  rw [PhiA_eq]; unfold PhiV any
  iintro ⟨⟨S0, S1, S2, S3, S4, S5, ⟨%d6, S6⟩, ⟨%d7, S7⟩, ⟨%d8, S8⟩, ⟨%d9, S9⟩⟩, Hg⟩
  isplitr [Hg]; swap; · iexact Hg
  isplitl [S0]; · iexact S0
  isplitl [S1]; · iexact S1
  isplitl [S2]; · iexact S2
  isplitl [S3]; · iexact S3
  isplitl [S4]; · iexact S4
  isplitl [S5]; · iexact S5
  iexists d6, d7, d8, d9
  isplitr
  · ipureintro; exact fun h => absurd rfl h
  isplitl [S6]; · iexact S6
  isplitl [S7]; · iexact S7
  isplitl [S8]; · iexact S8
  iexact S9

theorem phi_out (c : Dev nD) (n : ℕ) : PhiV m c n ⊢ (Pipeline.ΦA spec0 c : sProp 𝕄) := by
  rw [PhiA_eq]; unfold PhiV any
  iintro ⟨⟨S0, S1, S2, S3, S4, S5, ⟨%d6, %d7, %d8, %d9, -, S6, S7, S8, S9⟩⟩, Hg⟩
  isplitr [Hg]; swap; · iexact Hg
  isplitl [S0]; · iexact S0
  isplitl [S1]; · iexact S1
  isplitl [S2]; · iexact S2
  isplitl [S3]; · iexact S3
  isplitl [S4]; · iexact S4
  isplitl [S5]; · iexact S5
  isplitl [S6]; · iexists d6; iexact S6
  isplitl [S7]; · iexists d7; iexact S7
  isplitl [S8]; · iexists d8; iexact S8
  iexists d9; iexact S9

/-- What the block of the alpha gradient is left at: the total at the last point, untouched before it. -/
def P7 (c : Dev nD) (t : Fin cfg0.N) : sProp 𝕄 :=
  match cfg0.idle 7 (cfg0.grid.coords t) with
  | true =>
    match (cfg0.win 7).flush t with
    | false => iprop(∃ d, owns (c : Thread nD τ) (st0_7 t) fullShare ((dats m 0 c).before 7 t d))
    | true => owns (c : Thread nD τ) (st0_7 t) fullShare ((dats m 0 c).after 7 t)
  | false => owns (c : Thread nD τ) (st0_7 t) fullShare ((dats m 0 c).after 7 t)

theorem idle_last : ∀ t : Fin cfg0.N, k0_cond2 (grid0.coords t) = 1#1 → idle0 7 (grid0.coords t) = false := by decide +kernel
theorem idle_rest : ∀ t : Fin cfg0.N, ¬ k0_cond2 (grid0.coords t) = 1#1 → idle0 7 (grid0.coords t) = true := by decide +kernel
theorem flush_rest : ∀ t : Fin cfg0.N, ¬ k0_cond2 (grid0.coords t) = 1#1 → (cfg0.win 7).flush t = false := by decide +kernel

theorem P7_last (c : Dev nD) (t : Fin cfg0.N) (h : k0_cond2 (grid0.coords t) = 1#1) :
    P7 m c t = owns (c : Thread nD τ) (st0_7 t) fullShare (o7 m c t) := by
  unfold P7; rw [show cfg0.idle 7 (cfg0.grid.coords t) = false from idle_last t h]; rfl

theorem P7_rest (c : Dev nD) (t : Fin cfg0.N) (h : ¬ k0_cond2 (grid0.coords t) = 1#1) :
    P7 m c t = iprop(∃ d, owns (c : Thread nD τ) (st0_7 t) fullShare ((dats m 0 c).before 7 t d)) := by
  unfold P7; rw [show cfg0.idle 7 (cfg0.grid.coords t) = true from idle_rest t h, flush_rest t h]

theorem ini_of {α : Type} (t : Fin cfg0.N) (a b : α) (h : t.val ≠ 0 → b = a) : ini (grid0.coords t) a b = a := by
  unfold ini; split
  · rfl
  · next h' => exact h fun h0 => h' ((fst_iff t).2 h0)

theorem b0_const (c : Dev nD) (t : Fin cfg0.N) : ALv (b0 m c t) = AL m c := by
  unfold AL b0
  funext y
  unfold ALv
  blk_ext [iblk, V]
  rfl

/-- What the body is called with at point `t`. -/
def bodyPre (c : Dev nD) (t : Fin cfg0.N) : sProp 𝕄 :=
  iprop(PhiV m c t.val ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)))

/-- What it returns. -/
def bodyPost (c : Dev nD) (t : Fin cfg0.N) : sProp 𝕄 :=
  iprop(PhiV m c (t.val + 1) ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ P7 m c t ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t))

/-- The body at the last point. -/
theorem sound_last (c : Dev nD) (t : Fin cfg0.N) (hc2 : k0_cond2 (grid0.coords t) = 1#1) :
    bodyPre m c t ⊢ wp frame (wpE (defs₀ (F := Ideal)) 𝒱₀ c none) Set.univ (bodyAt0 t) (fun _ => bodyPost m c t) := by
  unfold bodyPre bodyPost
  rw [P7_last m c t hc2, show (dats m 0 c).owesAt () t.succ = (dats m 0 c).owesAt () t.castSucc from rfl]
  unfold Dat.owesAt Pipeline.owesWithin
  rw [show (dats m 0 c).owed t.castSucc = 0 from rfl]
  simp only [before_0, before_1, before_2, before_3, before_4, before_5]
  unfold PhiV
  iintro ⟨⟨⟨S0, S1, S2, S3, S4, S5, ⟨%X19, %X20, %X21, %X22, %hX, S6, S7, S8, S9⟩⟩, Hg⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have e19 : ini (grid0.coords t) (k0_pay8 (F := Ideal)) X19 = k0_pay8 (F := Ideal) := ini_of t _ _ fun h => (hX h).1
  have e20 : ini (grid0.coords t) (k0_pay9 (F := Ideal)) X20 = k0_pay9 (F := Ideal) := ini_of t _ _ fun h => (hX h).2.1
  have e21 : ini (grid0.coords t) (ALv (b0 m c t)) X21 = AL m c := by rw [b0_const]; exact ini_of t _ _ fun h => (hX h).2.2.1
  have e22 : ini (grid0.coords t) (k0_pay137 (F := Ideal)) X22 = Dn m c t.val := by
    by_cases h0 : t.val = 0
    · rw [h0]; exact ini_of t _ _ fun h => absurd h0 h
    · unfold ini; rw [if_neg (fun h => h0 ((fst_iff t).1 h))]; exact (hX h0).2.2.2
  have key := runLast c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (b0 m c t) (b1 m c t) (b2 m c t) (b3 m c t) ((dats m 0 c).before 7 t d7) X19 X20 X21 X22 (b4 m c t) (b5 m c t) hc2 W
  rw [e19, e20, e21, e22] at key
  iapply (key _)
  isplitl [H0]; · iexact H0
  isplitl [H1]; · iexact H1
  isplitl [H2]; · iexact H2
  isplitl [H3]; · iexact H3
  isplitl [H4]; · iexact H4
  isplitl [H5]; · iexact H5
  isplitl [H6]; · unfold any; iexists _; iexact H6
  isplitl [H7]; · iexact H7
  isplitl [H8]; · unfold any; iexists _; iexact H8
  isplitl [H9]; · unfold any; iexists _; iexact H9
  isplitl [H10]; · unfold any; iexists _; iexact H10
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [HO]; · iexact HO
  iintro ⟨H0, H1, H2, H3, H4, H5, H6, H7, H8, H9, H10, S0, S1, S2, S3, S4, S5, S6, S7, S8, S9, ⟨%W', HO⟩⟩
  isplitl [S0 S1 S2 S3 S4 S5 S6 S7 S8 S9 Hg]
  · isplitr [Hg]; swap; · iexact Hg
    isplitl [S0]; · iexact S0
    isplitl [S1]; · iexact S1
    isplitl [S2]; · iexact S2
    isplitl [S3]; · iexact S3
    isplitl [S4]; · iexact S4
    isplitl [S5]; · iexact S5
    iexists _, _, _, _
    isplitr; swap
    · isplitl [S6]; · iexact S6
      isplitl [S7]; · iexact S7
      isplitl [S8]; · iexact S8
      iexact S9
    ipureintro
    exact fun _ => ⟨rfl, rfl, rfl, (Dn_succ m c t).symm⟩
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold o7; rw [Dn_succ m c t]; iexact H7
  isplitl [H8]; · iexact H8
  isplitl [H9]; · iexact H9
  iexact H10

/-- The body at a point before the last. -/
theorem sound_rest (c : Dev nD) (t : Fin cfg0.N) (hc2 : ¬ k0_cond2 (grid0.coords t) = 1#1) :
    bodyPre m c t ⊢ wp frame (wpE (defs₀ (F := Ideal)) 𝒱₀ c none) Set.univ (bodyAt0 t) (fun _ => bodyPost m c t) := by
  unfold bodyPre bodyPost
  rw [P7_rest m c t hc2, show (dats m 0 c).owesAt () t.succ = (dats m 0 c).owesAt () t.castSucc from rfl]
  unfold Dat.owesAt Pipeline.owesWithin
  rw [show (dats m 0 c).owed t.castSucc = 0 from rfl]
  simp only [before_0, before_1, before_2, before_3, before_4, before_5]
  unfold PhiV
  iintro ⟨⟨⟨S0, S1, S2, S3, S4, S5, ⟨%X19, %X20, %X21, %X22, %hX, S6, S7, S8, S9⟩⟩, Hg⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have e19 : ini (grid0.coords t) (k0_pay8 (F := Ideal)) X19 = k0_pay8 (F := Ideal) := ini_of t _ _ fun h => (hX h).1
  have e20 : ini (grid0.coords t) (k0_pay9 (F := Ideal)) X20 = k0_pay9 (F := Ideal) := ini_of t _ _ fun h => (hX h).2.1
  have e21 : ini (grid0.coords t) (ALv (b0 m c t)) X21 = AL m c := by rw [b0_const]; exact ini_of t _ _ fun h => (hX h).2.2.1
  have e22 : ini (grid0.coords t) (k0_pay137 (F := Ideal)) X22 = Dn m c t.val := by
    by_cases h0 : t.val = 0
    · rw [h0]; exact ini_of t _ _ fun h => absurd h0 h
    · unfold ini; rw [if_neg (fun h => h0 ((fst_iff t).1 h))]; exact (hX h0).2.2.2
  have key := runRest c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (b0 m c t) (b1 m c t) (b2 m c t) (b3 m c t) ((dats m 0 c).before 7 t d7) X19 X20 X21 X22 (b4 m c t) (b5 m c t) hc2 W
  rw [e19, e20, e21, e22] at key
  iapply (key _)
  isplitl [H0]; · iexact H0
  isplitl [H1]; · iexact H1
  isplitl [H2]; · iexact H2
  isplitl [H3]; · iexact H3
  isplitl [H4]; · iexact H4
  isplitl [H5]; · iexact H5
  isplitl [H6]; · unfold any; iexists _; iexact H6
  isplitl [H7]; · iexact H7
  isplitl [H8]; · unfold any; iexists _; iexact H8
  isplitl [H9]; · unfold any; iexists _; iexact H9
  isplitl [H10]; · unfold any; iexists _; iexact H10
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [HO]; · iexact HO
  iintro ⟨H0, H1, H2, H3, H4, H5, H6, H7, H8, H9, H10, S0, S1, S2, S3, S4, S5, S6, S7, S8, S9, ⟨%W', HO⟩⟩
  isplitl [S0 S1 S2 S3 S4 S5 S6 S7 S8 S9 Hg]
  · isplitr [Hg]; swap; · iexact Hg
    isplitl [S0]; · iexact S0
    isplitl [S1]; · iexact S1
    isplitl [S2]; · iexact S2
    isplitl [S3]; · iexact S3
    isplitl [S4]; · iexact S4
    isplitl [S5]; · iexact S5
    iexists _, _, _, _
    isplitr; swap
    · isplitl [S6]; · iexact S6
      isplitl [S7]; · iexact S7
      isplitl [S8]; · iexact S8
      iexact S9
    ipureintro
    exact fun _ => ⟨rfl, rfl, rfl, (Dn_succ m c t).symm⟩
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  isplitl [H8]; · iexact H8
  isplitl [H9]; · iexact H9
  iexact H10

/-- The body at any point. -/
theorem sound_body (c : Dev nD) (t : Fin cfg0.N) :
    bodyPre m c t ⊢ wp frame (wpE (defs₀ (F := Ideal)) 𝒱₀ c none) Set.univ (bodyAt0 t) (fun _ => bodyPost m c t) := by
  by_cases h : k0_cond2 (grid0.coords t) = 1#1
  · exact sound_last m c t h
  · exact sound_rest m c t h

/-- The body table's row at the point is the body as `bodyAt0` spells it. -/
theorem defs₀_row (t : Fin cfg0.N) : defs₀ (F := Ideal) .tc cfg0.body (cfg0.bodyArgs t (cfg0.slots t)) = bodyAt0 t := by
  unfold defs₀; rw [Defs.onTc_tc]

/-- The library's body obligation. -/
theorem body_obligation (c : Dev nD) :
    BodyObligation (dats m 0 c) (defs₀ (F := Ideal)) 𝒱₀ () Set.univ := fun t => by
  rw [bigSep_W0, bigSep_W0, defs₀_row]
  exact triple_restated (sound_body m c t) rfl .rfl fun _ => .rfl

set_option backward.isDefEq.respectTransparency.types false in
/-- The run: every array ends as the proof data say, then the host's last lines are applied. -/
theorem runV :
    θ_run defs (onTc (τ := τ) (main (F := Ideal))) ⟨m, fun _ => 0, ρ⟩
      (fun r => Pipeline.FramePost cfgs (dats m) (0 : Fin 1) (Pipeline.afterTail₀ cfgs (dats m) (0 : Fin 1) (V0 m) [hostOps1]) r) :=
  Pipeline.θ_run_frame_around_track (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := A_eq m) (hin := fun c => phi_in m c) (hout := fun c => phi_out m c _)
    (hQ' := fun r h => h.1)

end Cert.KernelIdeal.Val

end
-- ==== Proof.Row.lean ====
/- One token's results as functions of its row of the key, its cosines and sines, alpha, and its gradient's bytes and
   scales: what both programs are shown to compute. -/
module

public import proofs.«01_k».proof.Proof.Spec
@[expose] public section

set_option maxRecDepth 16384

noncomputable section

namespace Cert.Rot

open Idealize.ShloMosaic Idealize.ShloMosaic.TcCoe Idealize.ShloMosaic.Tactic

section
variable (x : Fin 4096 → EReal) (c s : Fin 64 → EReal) (al : Fin 32 → EReal) (g : Fin 32 → Fin 128 → BitVec 8) (gs : Fin 32 → EReal)

/-- The rotated key of head `h` at lane `j`. -/
def Kr (h : Fin 32) (j : Fin 128) : EReal :=
  if hj : j.val < 64 then
    rotA (x ⟨128 * h.val + j.val, by omega⟩) (x ⟨128 * h.val + (64 + j.val), by omega⟩) (c ⟨j.val, hj⟩) (s ⟨j.val, hj⟩)
  else
    rotB (x ⟨128 * h.val + (j.val - 64), by omega⟩) (x ⟨128 * h.val + (64 + (j.val - 64)), by omega⟩) (c ⟨j.val - 64, by omega⟩) (s ⟨j.val - 64, by omega⟩)
/-- A head's largest magnitude. -/
def Am (h : Fin 32) : EReal := Finset.univ.sup fun j => max (Kr x c s h j) (-Kr x c s h j)
/-- A head's step size. -/
def St (h : Fin 32) : EReal := if Am x c s h = 0 then 1 else al h * Am x c s h * ((1 / 7 : ℝ) : EReal)
/-- The quotient by the step size. -/
def Rq (h : Fin 32) (j : Fin 128) : EReal := Kr x c s h j * (St x c s al h)⁻¹
/-- The scaled gradient. -/
def Gq (h : Fin 32) (j : Fin 128) : EReal := Ideal.ofBits .fp8e5m2 (g h j) * gs h
/-- The gradient of the rotated key. -/
def Dq (h : Fin 32) (j : Fin 128) : EReal := dd (Rq x c s al h j) (Gq g gs h j)
/-- The key gradient. -/
def Dk (h : Fin 32) (j : Fin 128) : EReal :=
  if hj : j.val < 64 then
    backA (Dq x c s al g gs h ⟨j.val, by omega⟩) (Dq x c s al g gs h ⟨64 + j.val, by omega⟩) (c ⟨j.val, hj⟩) (s ⟨j.val, hj⟩)
  else
    backB (Dq x c s al g gs h ⟨j.val - 64, by omega⟩) (Dq x c s al g gs h ⟨j.val, by omega⟩) (c ⟨j.val - 64, by omega⟩) (s ⟨j.val - 64, by omega⟩)
/-- The token's share of a head's alpha gradient. -/
def Tk (h : Fin 32) : EReal := (∑ j, Gq g gs h j * tm (Rq x c s al h j)) * (Am x c s h * ((1 / 7 : ℝ) : EReal))
/-- Two neighbouring codes in one byte. -/
def Kc (h : Fin 32) (i : Fin 64) : BitVec 8 :=
  BitVec.setWidth 8 ((BitVec.signExtend 32 (FloatOps.fptosi (F := Ideal) (φ := .f32) 8 (qq (Rq x c s al h ⟨2 * i.val, by omega⟩))) &&& 15#32)
    ||| (BitVec.signExtend 32 (FloatOps.fptosi (F := Ideal) (φ := .f32) 8 (qq (Rq x c s al h ⟨2 * i.val + 1, by omega⟩))) &&& 15#32) <<< 4)

end

theorem emax (a b : ℝ) : ((max a b : ℝ) : EReal) = max (a : EReal) (b : EReal) := EReal.coe_strictMono.monotone.map_max
theorem emin (a b : ℝ) : ((min a b : ℝ) : EReal) = min (a : EReal) (b : EReal) := EReal.coe_strictMono.monotone.map_min

/-- What the codes' integers are: a quotient clipped and rounded is an integer from -7 to 7. -/
theorem qq_int (r : EReal) : ∃ n : ℤ, -7 ≤ n ∧ n ≤ 7 ∧ qq r = ((n : ℝ) : EReal) := by
  have h1 : cl r ≤ ((7 : ℝ) : EReal) := by unfold cl; rw [seven_f32]; exact min_le_left _ _
  have h2 : ((-7 : ℝ) : EReal) ≤ cl r := by
    unfold cl; rw [seven_f32, negSeven_f32]
    exact le_min (by exact_mod_cast (by norm_num : (-7 : ℝ) ≤ 7)) (le_max_left _ _)
  obtain ⟨y, hy⟩ : ∃ y : ℝ, cl r = y := by
    induction h : cl r with
    | bot => rw [h] at h2; exact absurd h2 (by simp)
    | top => rw [h] at h1; exact absurd h1 (by simp)
    | coe y => exact ⟨y, rfl⟩
  have y1 : y ≤ 7 := by rw [hy] at h1; exact_mod_cast h1
  have y2 : -7 ≤ y := by rw [hy] at h2; exact_mod_cast h2
  unfold qq
  rw [hy]
  refine ⟨Ideal.roundHalfEven y, ?_, ?_, rfl⟩
  · have hf : -7 ≤ ⌊y⌋ := Int.le_floor.2 (by exact_mod_cast y2)
    unfold Ideal.roundHalfEven
    dsimp only
    split_ifs <;> omega
  · have hf : ⌊y⌋ ≤ 7 := by
      have : (⌊y⌋ : ℝ) ≤ 7 := (Int.floor_le y).trans y1
      exact_mod_cast this
    unfold Ideal.roundHalfEven
    dsimp only
    rcases lt_or_eq_of_le hf with h | h
    · split_ifs <;> omega
    · have e : y - (⌊y⌋ : ℝ) < 1 / 2 := by rw [h]; push_cast; linarith
      rw [if_pos e]; exact hf

/-- Rounding and then clipping gives what clipping and then rounding gives. -/
theorem cl_round (r : EReal) : cl (Ideal.liftRound Ideal.roundHalfEven r) = qq r := by
  have r7 : Ideal.roundHalfEven 7 = 7 := by
    have : ⌊(7 : ℝ)⌋ = 7 := by exact_mod_cast Int.floor_intCast (R := ℝ) 7
    unfold Ideal.roundHalfEven; rw [this]; norm_num
  have rm7 : Ideal.roundHalfEven (-7) = -7 := by
    have : ⌊(-7 : ℝ)⌋ = -7 := by exact_mod_cast Int.floor_intCast (R := ℝ) (-7)
    unfold Ideal.roundHalfEven; rw [this]; norm_num
  unfold qq cl
  rw [seven_f32, negSeven_f32]
  induction r with
  | bot =>
    show min _ (max _ ⊥) = Ideal.liftRound _ (min _ (max _ ⊥))
    rw [max_eq_left bot_le, min_eq_right (by exact_mod_cast (by norm_num : (-7 : ℝ) ≤ 7))]
    show _ = (((Ideal.roundHalfEven (-7) : ℤ) : ℝ) : EReal)
    rw [rm7]; norm_num
  | top =>
    show min _ (max _ ⊤) = Ideal.liftRound _ (min _ (max _ ⊤))
    rw [max_eq_right le_top, min_eq_left le_top]
    show _ = (((Ideal.roundHalfEven 7 : ℤ) : ℝ) : EReal)
    rw [r7]; norm_num
  | coe y =>
    show min _ (max _ (((Ideal.roundHalfEven y : ℤ) : ℝ) : EReal)) = Ideal.liftRound _ (min ((7 : ℝ) : EReal) (max ((-7 : ℝ) : EReal) (y : EReal)))
    rw [← emax, ← emin, ← emax, ← emin]
    show _ = (((Ideal.roundHalfEven (min 7 (max (-7) y)) : ℤ) : ℝ) : EReal)
    congr 1
    have hb := Int.floor_le y
    have hb' := Int.lt_floor_add_one y
    have lo : ⌊y⌋ ≤ Ideal.roundHalfEven y := by
      unfold Ideal.roundHalfEven; dsimp only; split_ifs <;> omega
    have hi : Ideal.roundHalfEven y ≤ ⌊y⌋ + 1 := by
      unfold Ideal.roundHalfEven; dsimp only; split_ifs <;> omega
    by_cases h1 : 7 ≤ y
    · have : 7 ≤ ⌊y⌋ := Int.le_floor.2 (by exact_mod_cast h1)
      rw [max_eq_right (by linarith : (-7 : ℝ) ≤ y), min_eq_left h1, r7]
      have : (7 : ℝ) ≤ (Ideal.roundHalfEven y : ℝ) := by exact_mod_cast this.trans lo
      rw [max_eq_right (by linarith), min_eq_left this]; norm_num
    · by_cases h2 : y ≤ -7
      · have hle : Ideal.roundHalfEven y ≤ -7 := by
          rcases eq_or_lt_of_le h2 with h | h
          · rw [h, rm7]
          · have : ⌊y⌋ < -7 := Int.floor_lt.2 (by exact_mod_cast h)
            omega
        rw [max_eq_left h2, min_eq_right (by norm_num : (-7 : ℝ) ≤ 7), rm7]
        have : (Ideal.roundHalfEven y : ℝ) ≤ -7 := by exact_mod_cast hle
        rw [max_eq_left this, min_eq_right (by norm_num)]; norm_num
      · have a1 : -7 ≤ ⌊y⌋ := Int.le_floor.2 (by push_cast; linarith)
        have a2 : ⌊y⌋ < 7 := Int.floor_lt.2 (by push_cast; linarith)
        rw [max_eq_right (by linarith : (-7 : ℝ) ≤ y), min_eq_right (by linarith : y ≤ 7)]
        have b1 : (-7 : ℝ) ≤ (Ideal.roundHalfEven y : ℝ) := by exact_mod_cast (by omega : -7 ≤ Ideal.roundHalfEven y)
        have b2 : (Ideal.roundHalfEven y : ℝ) ≤ 7 := by exact_mod_cast (by omega : Ideal.roundHalfEven y ≤ 7)
        rw [max_eq_right b1, min_eq_right b2]

/-- A quotient is left by the clip exactly where its magnitude is at most seven. -/
theorem cl_eq_iff (r : EReal) : cl r = r ↔ max r (-r) ≤ Ideal.ofBits .f32 0x40E00000#32 := by
  unfold cl
  rw [seven_f32, negSeven_f32]
  induction r with
  | bot => simp
  | top => simp
  | coe y =>
    rw [← EReal.coe_neg, ← emax, ← emax, ← emin, EReal.coe_eq_coe_iff, EReal.coe_le_coe_iff]
    constructor
    · intro h
      have h1 : y ≤ 7 := by rw [← h]; exact min_le_left _ _
      have h2 : -7 ≤ y := by
        by_contra h3
        rw [max_eq_left (by linarith : y ≤ -7), min_eq_right (by norm_num : (-7 : ℝ) ≤ 7)] at h
        linarith
      exact max_le h1 (by linarith)
    · intro h
      have h1 : y ≤ 7 := (le_max_left _ _).trans h
      have h2 : -y ≤ 7 := (le_max_right _ _).trans h
      rw [max_eq_right (by linarith : -7 ≤ y), min_eq_right h1]

theorem div7 (x : EReal) : Ideal.div x (Ideal.ofBits .f32 0x40E00000#32) = x * ((1 / 7 : ℝ) : EReal) := by
  rw [seven_f32]
  unfold Ideal.div
  rw [if_neg (by exact_mod_cast (by norm_num : (7 : ℝ) ≠ 0)), ← EReal.coe_inv, one_div]

theorem am_fold (x : Fin 4096 → EReal) (c s : Fin 64 → EReal) (h : Fin 32) (f : Fin 128 → EReal)
    (hf : ∀ j, f j = max (Kr x c s h j) (-Kr x c s h j)) :
    Finset.fold max (Ideal.ofBits .f32 4286578688#32) f Finset.univ = Am x c s h := by
  rw [show f = _ from funext hf, bot_f32]; rfl

theorem st_ne (x : Fin 4096 → EReal) (c s : Fin 64 → EReal) (al : Fin 32 → EReal) (h : Fin 32) (ha : al h ≠ 0) : St x c s al h ≠ 0 := by
  unfold St
  split_ifs with h0
  · exact one_ne_zero
  · exact mul_ne_zero (mul_ne_zero ha h0) (by exact_mod_cast (by norm_num : (1 / 7 : ℝ) ≠ 0))

theorem div_st (y : EReal) (x : Fin 4096 → EReal) (c s : Fin 64 → EReal) (al : Fin 32 → EReal) (h : Fin 32) (ha : al h ≠ 0) :
    Ideal.div y (St x c s al h) = y * (St x c s al h)⁻¹ := by
  unfold Ideal.div; rw [if_neg (st_ne x c s al h ha)]

end Cert.Rot

end
-- ==== Proof.Kern.lean ====
/- What a grid point leaves, read at a token: the row functions of the token's own row. -/
module

public import proofs.«01_k».proof.Proof.Row
public import proofs.«01_k».proof.Proof.KS
public import Idealize.ShloMosaic.Lib.Pointwise
public import Idealize.ShloMosaic.Lib.ValueLayout
@[expose] public section

set_option maxRecDepth 16384

noncomputable section

namespace Cert.KernelIdeal.Val

open Cert.KernelIdeal Cert.KernelIdeal.Gen Cert.Rot
open Idealize.ShloMosaic Idealize.ShloMosaic.TcCoe Idealize.ShloMosaic.Tactic

variable (K : S1x128x4096.Idx → EReal) (C S : S1x64x128.Idx → EReal) (B : S1x128x32x128.Idx → BitVec 8) (GS : S1x32x128.Idx → EReal) (A : S32.Idx → EReal)

/-- A token's rows of a block. -/
def xk (t : Fin 128) : Fin 4096 → EReal := fun n => K (ix3 0 t n)
def ck (t : Fin 128) : Fin 64 → EReal := fun j => C (ix3 0 j t)
def ak : Fin 32 → EReal := fun h => A (ix1 h)
def gk (t : Fin 128) : Fin 32 → Fin 128 → BitVec 8 := fun h j => B (ix4 0 t h j)
def gsk (t : Fin 128) : Fin 32 → EReal := fun h => GS (ix3 0 h t)

theorem kr_Kr (h : Fin 32) (j t : Fin 128) : kr K C S h j t = Kr (xk K t) (ck C t) (ck S t) h j := rfl
theorem AMv_at (h : Fin 32) (t : Fin 128) : AMv K C S (ix2 h t) = Am (xk K t) (ck C t) (ck S t) h := rfl

theorem seventh : (Named.named κ "inv7" 0x3E124925#32 : Ideal .f32) = ((1 / 7 : ℝ) : EReal) :=
  IdealRules.named_const.ideal_named_scalar _ _ _ _ rfl

theorem pay140_at (a al : S32x128.Idx → EReal) (h : Fin 32) (t : Fin 128) :
    k0_pay140 (F := Ideal) a al (ix2 h t) = if a (ix2 h t) = 0 then 1 else al (ix2 h t) * a (ix2 h t) * ((1 / 7 : ℝ) : EReal) := by
  unfold k0_pay140
  rw [seventh]
  pointwise

theorem step_at (h : Fin 32) (t : Fin 128) :
    k0_pay140 (F := Ideal) (AMv K C S) (ALv A) (ix2 h t) = St (xk K t) (ck C t) (ck S t) (ak A) h := by
  rw [pay140_at]; rfl

theorem o10_at (h : Fin 32) (t : Fin 128) :
    k0_pay141 (F := Ideal) (AMv K C S) (ALv A) (ix3 0 h t) = St (xk K t) (ck C t) (ck S t) (ak A) h := by
  rw [← step_at]
  unfold k0_pay141
  pointwise

theorem INV_at (hA : ∀ h, ak A h ≠ 0) (h : Fin 32) (t : Fin 128) :
    INVv K C S (ALv A) (ix2 h t) = (St (xk K t) (ck C t) (ck S t) (ak A) h)⁻¹ := by
  have e : INVv K C S (ALv A) (ix2 h t) = Ideal.div (Ideal.ofBits .f32 0x3F800000#32) (k0_pay140 (F := Ideal) (AMv K C S) (ALv A) (ix2 h t)) := by
    unfold INVv k0_pay142
    pointwise
  rw [e, step_at, div_st _ _ _ _ _ _ (hA h), Ideal.ofBits_one_f32, one_mul]

theorem rr_at (hA : ∀ h, ak A h ≠ 0) (h : Fin 32) (j t : Fin 128) :
    rr (KRv K C S) (INVv K C S (ALv A)) h j t = Rq (xk K t) (ck C t) (ck S t) (ak A) h j := by
  unfold rr
  rw [INV_at K C S A hA]
  rfl

/-! ## The gradient's bytes -/

/-- The word of four heads' bytes. -/
theorem wdF_bit (t : Fin 128) (q : Fin 8) (l : Fin 128) (b : Fin 4) (n : ℕ) (hn : n < 8) :
    (wdF B t q l).getLsbD (8 * b.val + n) = (B (ix4 0 t ⟨4 * q.val + b.val, by omega⟩ l)).getLsbD n := by
  unfold wdF k0_pay138
  rw [shapeCast_self]
  refine (bitcast_8_32_getLsbD_ix2 _ _ q l (8 * b.val + n) (by omega) ⟨4 * q.val + b.val, by omega⟩ (by show _ = _; dsimp only; omega)).trans ?_
  rw [show (8 * b.val + n) % 8 = n by omega]
  refine congrArg (fun v : BitVec 8 => v.getLsbD n) ?_
  pointwise

theorem eq_word (a b : ℕ) (ha : a < 256) (hb : b < 512) : IntOp.cmpi .eq (BitVec.ofNat 32 a) (BitVec.ofNat 32 b) = if a = b then 1#1 else 0#1 := by
  have e : (BitVec.ofNat 32 a == BitVec.ofNat 32 b) = decide (a = b) := by
    rw [Bool.eq_iff_iff, beq_iff_eq, decide_eq_true_iff, ← BitVec.toNat_inj, BitVec.toNat_ofNat, BitVec.toNat_ofNat,
      Nat.mod_eq_of_lt (by omega), Nat.mod_eq_of_lt (by omega)]
  show BitVec.ofBool (BitVec.ofNat 32 a == BitVec.ofNat 32 b) = _
  rw [e]
  by_cases h : a = b
  · rw [if_pos h, decide_eq_true h]; rfl
  · rw [if_neg h, decide_eq_false h]; rfl

theorem sixteen_f32 : Ideal.ofBits .f32 1098907648#32 = ((16 : ℝ) : EReal) := by
  simp [Ideal.ofBits, Ideal.ieee, -EReal.coe_mul]; norm_num

theorem perm_at (r : Fin 256) (s : Fin 256) :
    k0_pay8 (F := Ideal) (ix2 r s) = if s.val = (r.val % 64) * 4 + r.val / 64 then 1 else 0 := by
  have e : ∀ r s : Fin 256, IntOp.cmpi .eq (BitVec.ofNat 32 s.val) (IntOp.addi (IntOp.muli (IntOp.andi (BitVec.ofNat 32 r.val) 63#32) 4#32)
      (IntOp.shrsi ArithUnit.vector (BitVec.ofNat 32 r.val) 6#32)) = if s.val = (r.val % 64) * 4 + r.val / 64 then 1#1 else 0#1 := by
    intro r s
    rw [show (IntOp.addi (IntOp.muli (IntOp.andi (BitVec.ofNat 32 r.val) 63#32) 4#32) (IntOp.shrsi ArithUnit.vector (BitVec.ofNat 32 r.val) 6#32)) = BitVec.ofNat 32 ((r.val % 64) * 4 + r.val / 64) from
      (by decide +kernel : ∀ r : Fin 256, (IntOp.addi (IntOp.muli (IntOp.andi (BitVec.ofNat 32 r.val) 63#32) 4#32) (IntOp.shrsi ArithUnit.vector (BitVec.ofNat 32 r.val) 6#32)) = BitVec.ofNat 32 ((r.val % 64) * 4 + r.val / 64)) r]
    exact eq_word s.val _ (by omega) (by omega)
  unfold k0_pay8
  pointwise
  rw [e]
  unfold Scalar.select
  by_cases h : s.val = (r.val % 64) * 4 + r.val / 64
  · rw [if_pos h, if_pos h]; rfl
  · rw [if_neg h, if_neg h]; rfl

theorem nw_at (i : Fin 64) (j : Fin 128) :
    k0_pay9 (F := Ideal) (ix2 i j) = if j.val / 2 = i.val then (if j.val % 2 = 0 then 1 else ((16 : ℝ) : EReal)) else 0 := by
  have e1 : IntOp.cmpi .eq (IntOp.shrsi ArithUnit.vector (BitVec.ofNat 32 j.val) 1#32) (BitVec.ofNat 32 i.val) = if j.val / 2 = i.val then 1#1 else 0#1 := by
    rw [(by decide +kernel : ∀ j : Fin 128, IntOp.shrsi ArithUnit.vector (BitVec.ofNat 32 j.val) 1#32 = BitVec.ofNat 32 (j.val / 2)) j]
    exact eq_word _ _ (by omega) (by omega)
  have e2 : IntOp.cmpi .eq (IntOp.andi (BitVec.ofNat 32 j.val) 1#32) 0#32 = if j.val % 2 = 0 then 1#1 else 0#1 :=
    (by decide +kernel : ∀ j : Fin 128, IntOp.cmpi .eq (IntOp.andi (BitVec.ofNat 32 j.val) 1#32) 0#32 = if j.val % 2 = 0 then 1#1 else 0#1) j
  unfold k0_pay9
  pointwise
  rw [e1, e2, sixteen_f32]
  unfold Scalar.select
  by_cases h : j.val / 2 = i.val
  · rw [if_pos h, if_pos h]
    by_cases h' : j.val % 2 = 0
    · rw [if_pos h', if_pos h']; rfl
    · rw [if_neg h', if_neg h']; rfl
  · rw [if_neg h, if_neg h]; rfl

theorem dot_perm (P : S256x256.Idx → EReal) (X : S256x128.Idx → EReal) (r : Fin 256) (t : Fin 128) :
    matmul (F := Ideal) (φ₁ := .fp8e5m2) (φ₂ := .fp8e5m2) dot_S256x256_S256x128_S256x128_1_0_0_1_n_n none P X (constant S256x128 .f32 0#32) (ix2 r t) = ∑ s, P (ix2 r s) * X (ix2 s t) := by
  pointwise

theorem shapeCast_one_at {n0 n1 : ℕ} {α : Type} (v : (⟨2, ![n0, n1]⟩ : Shape).Idx → α) (p : _) (a : Fin n0) (b : Fin n1) :
    shapeCast ⟨3, ![1, n0, n1]⟩ v p (ix3 0 a b) = v (ix2 a b) := by
  exact Idealize.ShloMosaic.ValueIdx.shapeCast_ab_1ab_apply v p 0 a b

theorem dot_one (X : S256x128.Idx → EReal) (r : Fin 256) (t : Fin 128) :
    matmul (F := Ideal) (φ₁ := .fp8e5m2) (φ₂ := .fp8e5m2) dot_S256x256_S256x128_S256x128_1_0_0_1_n_n none (k0_pay8 (F := Ideal)) X (constant S256x128 .f32 0#32) (ix2 r t)
      = X (ix2 ⟨(r.val % 64) * 4 + r.val / 64, by omega⟩ t) := by
  rw [dot_perm]
  refine (Finset.sum_eq_single (⟨(r.val % 64) * 4 + r.val / 64, by omega⟩ : Fin 256) ?_ (fun h => absurd (Finset.mem_univ _) h)).trans ?_
  · intro s _ hs
    rw [perm_at, if_neg (fun e => hs (Fin.ext e)), zero_mul]
  · rw [perm_at, if_pos rfl, one_mul]

/-- A byte of a bitcast word, from its eight bits. -/
theorem byte_at (w : S64x128.Idx → BitVec 32) (hb : _) (i : Fin 64) (b : Fin 4) (t : Fin 128) (x : BitVec 8)
    (h : ∀ n, n < 8 → (w (ix2 i t)).getLsbD (8 * b.val + n) = x.getLsbD n) (p : Fin 256) (hp : p.val = 4 * i.val + b.val) :
    bitcast S256x128 8 w hb (ix2 p t) = x := by
  apply BitVec.eq_of_getLsbD_eq
  intro n hn
  exact (bitcast_32_8_ix2 w hb p t i b.val hp b.isLt n hn).trans (h n hn)

theorem wdv_at (q : Fin 8) (t l : Fin 128) : wd (WV B) q (ix2 t l) = wdF B t q l := by
  unfold wd WV
  refine (dif_pos (show (132 * q.val + t.val) % 132 < 128 by omega)).trans ?_
  congr 1
  · exact Fin.ext (by show (132 * q.val + t.val) % 132 = t.val; omega)
  · exact Fin.ext (by show (132 * q.val + t.val) / 132 = q.val; omega)

theorem pay2_at (w : S128x128.Idx → BitVec 32) (i : Fin 64) (b : Fin 4) (t : Fin 128) (x : BitVec 8)
    (h : ∀ n, n < 8 → (w (ix2 t ⟨i.val, by omega⟩)).getLsbD (8 * b.val + n) = x.getLsbD n) (r : Fin 256) (hr : r.val = 64 * b.val + i.val) :
    k0_pay2 (F := Ideal) w (k0_pay8 (F := Ideal)) (ix3 0 r t) = Ideal.ofBits .fp8e5m2 x := by
  have e : k0_pay2 (F := Ideal) w (k0_pay8 (F := Ideal)) (ix3 0 r t)
      = matmul (F := Ideal) (φ₁ := .fp8e5m2) (φ₂ := .fp8e5m2) dot_S256x256_S256x128_S256x128_1_0_0_1_n_n none (k0_pay8 (F := Ideal))
        (bitcastToFloat .fp8e5m2 (bitcast S256x128 8 (extractStridedSlice S64x128 ![0, 0] (k0_pay1 (F := Ideal) w) slices_S128x128_o0_0_S64x128) bitcasts_S64x128_w32_S256x128_w8))
        (constant S256x128 .f32 0#32) (ix2 r t) := by
    unfold k0_pay2
    rw [shapeCast_one_at]
  rw [e, dot_one]
  refine congrArg (Ideal.ofBits .fp8e5m2) (byte_at _ _ i b t x ?_ _ (by show r.val % 64 * 4 + r.val / 64 = _; omega))
  intro n hn
  rw [← h n hn]
  refine congrArg (fun v : BitVec 32 => v.getLsbD (8 * b.val + n)) ?_
  unfold k0_pay1
  pointwise

theorem pay3_at (w : S128x128.Idx → BitVec 32) (i : Fin 64) (b : Fin 4) (t : Fin 128) (x : BitVec 8)
    (h : ∀ n, n < 8 → (w (ix2 t ⟨64 + i.val, by omega⟩)).getLsbD (8 * b.val + n) = x.getLsbD n) (r : Fin 256) (hr : r.val = 64 * b.val + i.val) :
    k0_pay3 (F := Ideal) w (k0_pay8 (F := Ideal)) (ix3 0 r t) = Ideal.ofBits .fp8e5m2 x := by
  have e : k0_pay3 (F := Ideal) w (k0_pay8 (F := Ideal)) (ix3 0 r t)
      = matmul (F := Ideal) (φ₁ := .fp8e5m2) (φ₂ := .fp8e5m2) dot_S256x256_S256x128_S256x128_1_0_0_1_n_n none (k0_pay8 (F := Ideal))
        (bitcastToFloat .fp8e5m2 (bitcast S256x128 8 (extractStridedSlice S64x128 ![64, 0] (k0_pay1 (F := Ideal) w) slices_S128x128_o64_0_S64x128) bitcasts_S64x128_w32_S256x128_w8))
        (constant S256x128 .f32 0#32) (ix2 r t) := by
    unfold k0_pay3
    rw [shapeCast_one_at]
  rw [e, dot_one]
  refine congrArg (Ideal.ofBits .fp8e5m2) (byte_at _ _ i b t x ?_ _ (by show r.val % 64 * 4 + r.val / 64 = _; omega))
  intro n hn
  rw [← h n hn]
  refine congrArg (fun v : BitVec 32 => v.getLsbD (8 * b.val + n)) ?_
  unfold k0_pay1
  pointwise

theorem GF_at (h : Fin 32) (j t : Fin 128) : GF GS (WV B) (k0_pay8 (F := Ideal)) h j t = Gq (gk B t) (gsk GS t) h j := by
  have hb : ∀ (j : Fin 128) (n : ℕ), n < 8 → (wd (WV B) ⟨h.val / 4, by omega⟩ (ix2 t j)).getLsbD (8 * (h.val % 4) + n) = (B (ix4 0 t h j)).getLsbD n := by
    intro j n hn
    rw [wdv_at]
    refine (wdF_bit B t ⟨h.val / 4, by omega⟩ j ⟨h.val % 4, by omega⟩ n hn).trans ?_
    have e : (⟨4 * (h.val / 4) + h.val % 4, by omega⟩ : Fin 32) = h := Fin.ext (by show 4 * (h.val / 4) + h.val % 4 = h.val; omega)
    exact congrArg (fun z : Fin 32 => (B (ix4 0 t z j)).getLsbD n) e
  unfold GF gg Gq
  refine congrArg (· * GS (ix3 0 h t)) ?_
  unfold gbF
  by_cases hj : j.val < 64
  · refine (if_pos (show j.val / 64 = 0 by omega)).trans ?_
    exact pay2_at _ ⟨j.val, hj⟩ ⟨h.val % 4, by omega⟩ t _ (hb j) _ (by show 64 * (h.val % 4) + j.val % 64 = 64 * (h.val % 4) + j.val; omega)
  · refine (if_neg (show ¬ j.val / 64 = 0 by omega)).trans ?_
    have e : (⟨64 + (j.val - 64), by omega⟩ : Fin 128) = j := Fin.ext (by show 64 + (j.val - 64) = j.val; omega)
    refine pay3_at _ ⟨j.val - 64, by omega⟩ ⟨h.val % 4, by omega⟩ t _ ?_ _ (by show 64 * (h.val % 4) + j.val % 64 = 64 * (h.val % 4) + (j.val - 64); omega)
    intro n hn
    refine Eq.trans ?_ (hb j n hn)
    exact congrArg (fun z : Fin 128 => (wd (WV B) ⟨h.val / 4, by omega⟩ (ix2 t z)).getLsbD (8 * (h.val % 4) + n)) e

/-! ## The results of a point -/

variable (hA : ∀ h, ak A h ≠ 0)
include hA

theorem SM_at (h : Fin 32) (t : Fin 128) :
    SMo K C S B GS (k0_pay8 (F := Ideal)) (ALv A) (ix2 h t)
      = ∑ j, Gq (gk B t) (gsk GS t) h j * tm (Rq (xk K t) (ck C t) (ck S t) (ak A) h j) := by
  show SMF _ _ _ _ _ h t = _
  unfold SMF smF
  simp only [GF_at, rr_at K C S A hA]

theorem pay4_at (h : Fin 32) (t : Fin 128) :
    k0_pay4 (F := Ideal) (AMv K C S) (SMo K C S B GS (k0_pay8 (F := Ideal)) (ALv A)) (ix2 h t)
      = Tk (xk K t) (ck C t) (ck S t) (ak A) (gk B t) (gsk GS t) h := by
  unfold Tk
  rw [← SM_at K C S B GS A hA, ← AMv_at, ← seventh]
  unfold k0_pay4
  pointwise

theorem o8_at (h : Fin 32) (t : Fin 128) :
    k0_pay5 (F := Ideal) (AMv K C S) (SMo K C S B GS (k0_pay8 (F := Ideal)) (ALv A)) (ix3 0 h t)
      = Tk (xk K t) (ck C t) (ck S t) (ak A) (gk B t) (gsk GS t) h := by
  rw [← pay4_at K C S B GS A hA]
  unfold k0_pay5
  rw [shapeCast_one_at]

theorem DK_at (t : Fin 128) (n : Fin 4096) :
    DKo K C S B GS (k0_pay8 (F := Ideal)) (ALv A) (ix3 0 t n)
      = Dk (xk K t) (ck C t) (ck S t) (ak A) (gk B t) (gsk GS t) ⟨n.val / 128, by omega⟩ ⟨n.val % 128, by omega⟩ := by
  show DKF _ _ _ _ _ _ _ _ _ t = _
  unfold DKF dkF Dk Dq
  simp only [GF_at, rr_at K C S A hA]
  rfl

/-! ## The packed codes -/

omit hA in
theorem off_f32 : Ideal.ofBits .f32 1124597760#32 = ((136 : ℝ) : EReal) := by
  simp [Ideal.ofBits, Ideal.ieee, -EReal.coe_mul]; norm_num

omit hA in
theorem fptosi_int (w : ℕ) (n : ℤ) (h1 : -(2 ^ (w - 1) : ℕ) ≤ n) (h2 : n ≤ ((2 ^ (w - 1) : ℕ) : ℤ) - 1) :
    FloatOps.fptosi (F := Ideal) (φ := .f32) w ((n : ℝ) : EReal) = BitVec.ofInt w n := by
  show BitVec.ofInt w (Ideal.toIntClamped _ _ ((n : ℝ) : EReal)) = _
  rw [Ideal.toIntClamped_coe, Int.floor_intCast, Int.ceil_intCast, ite_self, min_eq_right h2, max_eq_right h1]

omit hA in
theorem nibbles : ∀ a b : Fin 15, BitVec.setWidth 8 (BitVec.ofInt 32 (((a.val : ℤ) - 7) + 16 * ((b.val : ℤ) - 7) + 136)) ^^^ 0x88#8
    = BitVec.setWidth 8 ((BitVec.signExtend 32 (BitVec.ofInt 8 ((a.val : ℤ) - 7)) &&& 15#32)
      ||| (BitVec.signExtend 32 (BitVec.ofInt 8 ((b.val : ℤ) - 7)) &&& 15#32) <<< 4) := by decide +kernel

omit hA in
theorem kcF_pack (n k : ℤ) (h1 : -7 ≤ n) (h2 : n ≤ 7) (h3 : -7 ≤ k) (h4 : k ≤ 7) :
    kcF (((n : ℝ) : EReal) + ((16 : ℝ) : EReal) * ((k : ℝ) : EReal))
      = BitVec.setWidth 8 ((BitVec.signExtend 32 (BitVec.ofInt 8 n) &&& 15#32) ||| (BitVec.signExtend 32 (BitVec.ofInt 8 k) &&& 15#32) <<< 4) := by
  have e : ((n : ℝ) : EReal) + ((16 : ℝ) : EReal) * ((k : ℝ) : EReal) + Ideal.ofBits .f32 1124597760#32 = (((n + 16 * k + 136 : ℤ) : ℝ) : EReal) := by
    rw [off_f32]; push_cast; rfl
  unfold kcF
  rw [e, fptosi_int 32 _ (by norm_num; omega) (by norm_num; omega)]
  have := nibbles ⟨(n + 7).toNat, by omega⟩ ⟨(k + 7).toNat, by omega⟩
  have en : (((n + 7).toNat : ℕ) : ℤ) - 7 = n := by omega
  have ek : (((k + 7).toNat : ℕ) : ℤ) - 7 = k := by omega
  simp only [en, ek] at this
  exact this

theorem KC_at (h : Fin 32) (i : Fin 64) (t : Fin 128) :
    KCo K C S (k0_pay9 (F := Ideal)) (ALv A) (ix4 0 h i t) = Kc (xk K t) (ck C t) (ck S t) (ak A) h i := by
  show KCF _ _ _ h i t = _
  unfold KCF Kc
  simp only [rr_at K C S A hA, nw_at]
  have e := Fintype.sum_eq_add (f := fun j : Fin 128 => (if j.val / 2 = i.val then (if j.val % 2 = 0 then 1 else ((16 : ℝ) : EReal)) else 0) * qq (Rq (xk K t) (ck C t) (ck S t) (ak A) h j))
    (⟨2 * i.val, by omega⟩ : Fin 128) (⟨2 * i.val + 1, by omega⟩ : Fin 128) (fun e => by have := congrArg Fin.val e; simp at this)
    (fun j hj => by
      have h1 : j.val ≠ 2 * i.val := fun e => hj.1 (Fin.ext e)
      have h2 : j.val ≠ 2 * i.val + 1 := fun e => hj.2 (Fin.ext e)
      show (if j.val / 2 = i.val then (if j.val % 2 = 0 then 1 else ((16 : ℝ) : EReal)) else 0) * _ = (0 : EReal)
      rw [if_neg (by omega), zero_mul])
  refine (congrArg kcF e).trans ?_
  obtain ⟨n, a1, a2, en⟩ := qq_int (Rq (xk K t) (ck C t) (ck S t) (ak A) h ⟨2 * i.val, by omega⟩)
  obtain ⟨k, b1, b2, ek⟩ := qq_int (Rq (xk K t) (ck C t) (ck S t) (ak A) h ⟨2 * i.val + 1, by omega⟩)
  show kcF ((if 2 * i.val / 2 = i.val then (if 2 * i.val % 2 = 0 then 1 else ((16 : ℝ) : EReal)) else 0) * _ + (if (2 * i.val + 1) / 2 = i.val then (if (2 * i.val + 1) % 2 = 0 then 1 else ((16 : ℝ) : EReal)) else 0) * _) = _
  rw [en, ek, if_pos (by omega), if_pos (by omega), if_pos (by omega), if_neg (by omega), one_mul,
    fptosi_int 8 _ (by norm_num; omega) (by norm_num; omega), fptosi_int 8 _ (by norm_num; omega) (by norm_num; omega)]
  exact kcF_pack n k a1 a2 b1 b2

end Cert.KernelIdeal.Val

end
-- ==== Proof.KOut.lean ====
/- The result arrays of the ideal kernel, at an index. -/
module

public import proofs.«01_k».proof.Proof.VR
public import proofs.«01_k».proof.Proof.Kern
public import Idealize.ShloMosaic.Lib.StableHlo.ReadAt
@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.Sem
open Cert.Rot

variable (m : (ℓ : Loc nD τ sig) → Buf (Elt Ideal) ℓ) (c : Dev nD)

/-- The token's row of the key, its cosines and sines, alpha, and the gradient's bytes and scales. -/
def xr (b : Fin 2) (t : Fin 1024) : Fin 4096 → EReal := fun n => m (c, Proc.tc.devRef main_arg0) (ix3 b t n)
def cr (b : Fin 2) (t : Fin 1024) : Fin 64 → EReal := fun j => m (c, Proc.tc.devRef main_arg1) (ix3 b t j)
def sr (b : Fin 2) (t : Fin 1024) : Fin 64 → EReal := fun j => m (c, Proc.tc.devRef main_arg2) (ix3 b t j)
def ar : Fin 32 → EReal := fun h => m (c, Proc.tc.devRef main_arg3) (ix1 h)
def gr (b : Fin 2) (t : Fin 1024) : Fin 32 → Fin 128 → BitVec 8 := fun h j => m (c, Proc.tc.devRef main_arg4) (ix4 b t h j)
def gsr (b : Fin 2) (t : Fin 1024) : Fin 32 → EReal := fun h => m (c, Proc.tc.devRef main_arg5) (ix3 b t h)

/-- The batch row and the token of a point's block. -/
def pb (t : Fin cfg0.N) : Fin 2 := ⟨t.val / 8, by have : t.val < 16 := t.isLt; omega⟩
def pt (t : Fin cfg0.N) (k : Fin 128) : Fin 1024 := ⟨t.val % 8 * 128 + k.val, by omega⟩

theorem idx : ∀ t : Fin cfg0.N, win0_1.index t = ![t.val / 8, t.val % 8, 0] ∧ win0_2.index t = ![t.val / 8, 0, t.val % 8] ∧ win0_3.index t = ![t.val / 8, 0, t.val % 8]
    ∧ win0_4.index t = ![t.val / 8, t.val % 8, 0, 0] ∧ win0_5.index t = ![t.val / 8, 0, t.val % 8] ∧ win0_6.index t = ![t.val / 8, t.val % 8, 0]
    ∧ win0_8.index t = ![t.val / 8, 0, t.val % 8] ∧ win0_9.index t = ![t.val / 8, 0, 0, t.val % 8] ∧ win0_10.index t = ![t.val / 8, 0, t.val % 8] := by decide +kernel

theorem idx0 : ∀ t : Fin cfg0.N, win0_0.index t = ![0] := by decide +kernel

theorem y6 (y : S1x128x4096.Idx) : y = ix3 0 (y 1) (y 2) := by blk_ext
theorem y8 (y : S1x32x128.Idx) : y = ix3 0 (y 1) (y 2) := by blk_ext
theorem y9 (y : S1x32x64x128.Idx) : y = ix4 0 (y 1) (y 2) (y 3) := by blk_ext

theorem e2 (t : Fin cfg0.N) (n : Fin 64) (k : Fin 128) : (win0_2.blk t).view.emb (ix3 0 n k) = ix3 (pb t) n (pt t k) := by
  unfold pb pt; blk_ext [idx t]
theorem e3 (t : Fin cfg0.N) (n : Fin 64) (k : Fin 128) : (win0_3.blk t).view.emb (ix3 0 n k) = ix3 (pb t) n (pt t k) := by
  unfold pb pt; blk_ext [idx t]
theorem e5 (t : Fin cfg0.N) (h : Fin 32) (k : Fin 128) : (win0_5.blk t).view.emb (ix3 0 h k) = ix3 (pb t) h (pt t k) := by
  unfold pb pt; blk_ext [idx t]
theorem e6 (t : Fin cfg0.N) (y : S1x128x4096.Idx) : (win0_6.blk t).view.emb y = ix3 (pb t) (pt t (y 1)) (y 2) := by
  unfold pb pt; blk_ext [idx t]
theorem e8 (t : Fin cfg0.N) (y : S1x32x128.Idx) : (win0_8.blk t).view.emb y = ix3 (pb t) (y 1) (pt t (y 2)) := by
  unfold pb pt; blk_ext [idx t]
theorem e9 (t : Fin cfg0.N) (y : S1x32x64x128.Idx) : (win0_9.blk t).view.emb y = ix4 (pb t) (y 1) (y 2) (pt t (y 3)) := by
  unfold pb pt; blk_ext [idx t]
theorem e10 (t : Fin cfg0.N) (y : S1x32x128.Idx) : (win0_10.blk t).view.emb y = ix3 (pb t) (y 1) (pt t (y 2)) := by
  unfold pb pt; blk_ext [idx t]

theorem V_v0 (b : Fin 2) (j : Fin 64) (t : Fin 1024) : V m c main_v0 (ix3 b j t) = m (c, Proc.tc.devRef main_arg1) (ix3 b t j) := by
  unfold V; after_reads_at
theorem V_v1 (b : Fin 2) (j : Fin 64) (t : Fin 1024) : V m c main_v1 (ix3 b j t) = m (c, Proc.tc.devRef main_arg2) (ix3 b t j) := by
  unfold V; after_reads_at
theorem V_v2 (b : Fin 2) (j : Fin 32) (t : Fin 1024) : V m c main_v2 (ix3 b j t) = m (c, Proc.tc.devRef main_arg5) (ix3 b t j) := by
  unfold V; after_reads_at

theorem ak_at (t : Fin cfg0.N) : ak (b0 m c t) = ar m c := by
  funext n
  unfold ak b0 ar
  blk_ext [iblk, V, idx0 t]

theorem xk_at (t : Fin cfg0.N) (k : Fin 128) : xk (b1 m c t) k = xr m c (pb t) (pt t k) := by
  funext n
  unfold xk b1 xr pb pt
  blk_ext [iblk, V, idx t]

theorem ck_at (t : Fin cfg0.N) (k : Fin 128) : ck (b2 m c t) k = cr m c (pb t) (pt t k) := by
  funext n
  show V m c main_v0 ((win0_2.blk t).view.emb (ix3 0 n k)) = _
  rw [e2, V_v0]; rfl
theorem sk_at (t : Fin cfg0.N) (k : Fin 128) : ck (b3 m c t) k = sr m c (pb t) (pt t k) := by
  funext n
  show V m c main_v1 ((win0_3.blk t).view.emb (ix3 0 n k)) = _
  rw [e3, V_v1]; rfl
theorem gk_at (t : Fin cfg0.N) (k : Fin 128) : gk (b4 m c t) k = gr m c (pb t) (pt t k) := by
  funext h j
  unfold gk b4 gr pb pt
  blk_ext [iblk, V, idx t]
theorem gsk_at (t : Fin cfg0.N) (k : Fin 128) : gsk (b5 m c t) k = gsr m c (pb t) (pt t k) := by
  funext n
  show V m c main_v2 ((win0_5.blk t).view.emb (ix3 0 n k)) = _
  rw [e5, V_v2]; rfl

theorem G10 : (dats m 0 c).arrAt 10 cfg0.N
    = fun y : S2x32x1024.Idx => St (xr m c (y 0) (y 2)) (cr m c (y 0) (y 2)) (sr m c (y 0) (y 2)) (ar m c) (y 1) := by
  refine (dats m 0 c).arrAt_eq_of_covers 10 _ (by decide +kernel) fun t hf y => ?_
  blk_simp
  rw [e10]
  show o10 m c t y = St (xr m c (pb t) (pt t (y 2))) (cr m c (pb t) (pt t (y 2))) (sr m c (pb t) (pt t (y 2))) (ar m c) (y 1)
  rw [← xk_at m c t (y 2), ← ck_at m c t (y 2), ← sk_at m c t (y 2), ← ak_at m c t0_0]
  conv_lhs => rw [y8 y]
  exact o10_at _ _ _ _ (y 1) (y 2)

variable (hA : ∀ h, ar m c h ≠ 0)
include hA

theorem G8 : (dats m 0 c).arrAt 8 cfg0.N
    = fun y : S2x32x1024.Idx => Tk (xr m c (y 0) (y 2)) (cr m c (y 0) (y 2)) (sr m c (y 0) (y 2)) (ar m c) (gr m c (y 0) (y 2)) (gsr m c (y 0) (y 2)) (y 1) := by
  rw [← ak_at m c t0_0] at hA
  refine (dats m 0 c).arrAt_eq_of_covers 8 _ (by decide +kernel) fun t hf y => ?_
  blk_simp
  rw [e8]
  show o8 m c t y = Tk (xr m c (pb t) (pt t (y 2))) (cr m c (pb t) (pt t (y 2))) (sr m c (pb t) (pt t (y 2))) (ar m c) (gr m c (pb t) (pt t (y 2))) (gsr m c (pb t) (pt t (y 2))) (y 1)
  rw [← xk_at m c t (y 2), ← ck_at m c t (y 2), ← sk_at m c t (y 2), ← ak_at m c t0_0, ← gk_at m c t (y 2), ← gsk_at m c t (y 2)]
  conv_lhs => rw [y8 y]
  exact o8_at _ _ _ _ _ _ hA (y 1) (y 2)

omit hA in
/-- The key gradient. -/
def G6f (y : S2x1024x4096.Idx) : EReal :=
  Dk (xr m c (y 0) (y 1)) (cr m c (y 0) (y 1)) (sr m c (y 0) (y 1)) (ar m c) (gr m c (y 0) (y 1)) (gsr m c (y 0) (y 1))
    ⟨(y 2).val / 128, by have : (y 2).val < 4096 := (y 2).isLt; omega⟩ ⟨(y 2).val % 128, by omega⟩

theorem G6 : (dats m 0 c).arrAt 6 cfg0.N = G6f m c := by
  rw [← ak_at m c t0_0] at hA
  refine (dats m 0 c).arrAt_eq_of_covers 6 _ (by decide +kernel) fun t hf y => ?_
  show o6 m c t y = G6f m c ((win0_6.blk t).view.emb y)
  rw [e6]
  show o6 m c t y = Dk (xr m c (pb t) (pt t (y 1))) (cr m c (pb t) (pt t (y 1))) (sr m c (pb t) (pt t (y 1))) (ar m c) (gr m c (pb t) (pt t (y 1))) (gsr m c (pb t) (pt t (y 1)))
    ⟨(y 2).val / 128, _⟩ ⟨(y 2).val % 128, _⟩
  rw [← xk_at m c t (y 1), ← ck_at m c t (y 1), ← sk_at m c t (y 1), ← ak_at m c t0_0, ← gk_at m c t (y 1), ← gsk_at m c t (y 1)]
  conv_lhs => rw [y6 y]
  exact DK_at _ _ _ _ _ _ hA (y 1) (y 2)

theorem G9 : (dats m 0 c).arrAt 9 cfg0.N
    = fun y : S2x32x64x1024.Idx => Kc (xr m c (y 0) (y 3)) (cr m c (y 0) (y 3)) (sr m c (y 0) (y 3)) (ar m c) (y 1) (y 2) := by
  rw [← ak_at m c t0_0] at hA
  refine (dats m 0 c).arrAt_eq_of_covers 9 _ (by decide +kernel) fun t hf y => ?_
  blk_simp
  rw [e9]
  show o9 m c t y = Kc (xr m c (pb t) (pt t (y 3))) (cr m c (pb t) (pt t (y 3))) (sr m c (pb t) (pt t (y 3))) (ar m c) (y 1) (y 2)
  rw [← xk_at m c t (y 3), ← ck_at m c t (y 3), ← sk_at m c t (y 3), ← ak_at m c t0_0]
  conv_lhs => rw [y9 y]
  exact KC_at _ _ _ _ hA (y 1) (y 2) (y 3)

omit hA

theorem pay6_at (a s d : S32x128.Idx → EReal) (h : Fin 32) (l : Fin 128) :
    k0_pay6 (F := Ideal) a s d (ix2 h l) = d (ix2 h l) + k0_pay4 (F := Ideal) a s (ix2 h l) := by
  unfold k0_pay6
  pointwise

theorem pay7_at (d : S32x128.Idx → EReal) (h : Fin 32) :
    k0_pay7 (F := Ideal) d (ix2 0 h) = ∑ l, d (ix2 h l) := by
  unfold k0_pay7
  pointwise

theorem pay137_at (h : Fin 32) (l : Fin 128) :
    k0_pay137 (F := Ideal) (ix2 h l) = 0 := by
  unfold k0_pay137
  pointwise
end Cert.KernelIdeal.Val

end
-- ==== Proof.KFin.lean ====
/- The results of the ideal kernel, at an index. -/
module

public import proofs.«01_k».proof.Proof.KOut
@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.Sem
open Cert.Rot

section
variable (W : Valuation τ sig (Elt Ideal))
theorem tail4 (h : Fin 32) : StableHlo.after (List.flatten [hostOps1 (F := Ideal)]) W (Proc.devRef .tc main_v4) (ix1 h) = W (Proc.devRef .tc main_v3_1) (ix2 0 h) := by
  after_reads_at
theorem tail5 (b : Fin 2) (t : Fin 1024) (h : Fin 32) : StableHlo.after (List.flatten [hostOps1 (F := Ideal)]) W (Proc.devRef .tc main_v5) (ix3 b t h) = W (Proc.devRef .tc main_v3_2) (ix3 b h t) := by
  after_reads_at
theorem tail6 (b : Fin 2) (t : Fin 1024) (h : Fin 32) (i : Fin 64) : StableHlo.after (List.flatten [hostOps1 (F := Ideal)]) W (Proc.devRef .tc main_v6) (ix4 b t h i) = W (Proc.devRef .tc main_v3_3) (ix4 b h i t) := by
  after_reads_at
theorem tail7 (b : Fin 2) (t : Fin 1024) (h : Fin 32) : StableHlo.after (List.flatten [hostOps1 (F := Ideal)]) W (Proc.devRef .tc main_v7) (ix3 b t h) = W (Proc.devRef .tc main_v3_4) (ix3 b h t) := by
  after_reads_at
end

variable (m : (ℓ : Loc nD τ sig) → Buf (Elt Ideal) ℓ) (c : Dev nD)

/-- A token's share of a head's alpha gradient. -/
def TK (b : Fin 2) (t : Fin 1024) (h : Fin 32) : EReal := Tk (xr m c b t) (cr m c b t) (sr m c b t) (ar m c) (gr m c b t) (gsr m c b t) h

theorem inj0 : Function.Injective (Pipeline.arrRef spec0) := by decide

variable (hA : ∀ h, ar m c h ≠ 0)
include hA

theorem share_at (t : Fin cfg0.N) (h : Fin 32) (l : Fin 128) :
    k0_pay4 (F := Ideal) (AMt m c t) (SMt m c t) (ix2 h l) = TK m c (pb t) (pt t l) h := by
  rw [← ak_at m c t0_0] at hA
  unfold TK
  rw [← xk_at m c t l, ← ck_at m c t l, ← sk_at m c t l, ← ak_at m c t0_0, ← gk_at m c t l, ← gsk_at m c t l]
  exact pay4_at _ _ _ _ _ _ hA h l

theorem Dn_at (h : Fin 32) (l : Fin 128) : ∀ n : ℕ, (hn : n ≤ 16) → Dn m c n (ix2 h l) = ∑ t : Fin n, TK m c (pb ⟨t.val, lt_of_lt_of_le t.isLt hn⟩) (pt ⟨t.val, lt_of_lt_of_le t.isLt hn⟩ l) h
  | 0, _ => (pay137_at h l).trans (Fin.sum_univ_zero _).symm
  | n + 1, hn => by
    have hlt : n < cfg0.N := by show n < 16; omega
    have e : Dn m c (n + 1) = k0_pay6 (F := Ideal) (AMt m c ⟨n, hlt⟩) (SMt m c ⟨n, hlt⟩) (Dn m c n) := Dn_succ m c ⟨n, hlt⟩
    rw [e, pay6_at, share_at m c hA, Dn_at h l n (by omega), Fin.sum_univ_castSucc]
    rfl

theorem G7 : (dats m 0 c).arrAt 7 cfg0.N = fun y : S1x32.Idx => ∑ b, ∑ t, TK m c b t (y 1) := by
  refine (dats m 0 c).arrAt_eq_of_after_last 7 t0_15 (by decide +kernel) _ fun j => ?_
  show k0_pay7 (F := Ideal) (Dn m c 16) j = ∑ b, ∑ t, TK m c b t (j 1)
  have hj : j = ix2 0 (j 1) := by blk_ext
  conv_lhs => rw [hj]
  refine (pay7_at _ (j 1)).trans ?_
  refine (Finset.sum_congr rfl fun l _ => Dn_at m c hA (j 1) l 16 le_rfl).trans ?_
  rw [Finset.sum_comm]
  exact Fin.sum_points_lanes_congr (N := 16) (n := 128) (A := 2) (L := 1024) 8 (fun t k ha hl => rfl)

theorem r0 : (dats m 0 c).arrAt 6 cfg0.N = G6f m c := G6 m c hA

theorem r4 : Pipeline.afterTail₀ cfgs (dats m) 0 (V0 m) [hostOps1] c main_v4 = fun y : S32.Idx => ∑ b, ∑ t, TK m c b t (y 0) := by
  funext y
  have hy : y = ix1 (y 0) := by blk_ext
  unfold Pipeline.afterTail₀
  conv_lhs => rw [hy]
  refine (tail4 _ (y 0)).trans ?_
  exact congrFun ((Pipeline.withArrays_arr spec0 inj0 c (V0 m c) (fun w => (dats m 0 c).arrAt w cfg0.N) 7).trans (G7 m c hA)) _

theorem r5 : Pipeline.afterTail₀ cfgs (dats m) 0 (V0 m) [hostOps1] c main_v5 = fun y : S2x1024x32.Idx => TK m c (y 0) (y 1) (y 2) := by
  funext y
  have hy : y = ix3 (y 0) (y 1) (y 2) := by blk_ext
  unfold Pipeline.afterTail₀
  conv_lhs => rw [hy]
  refine (tail5 _ (y 0) (y 1) (y 2)).trans ?_
  exact congrFun ((Pipeline.withArrays_arr spec0 inj0 c (V0 m c) (fun w => (dats m 0 c).arrAt w cfg0.N) 8).trans (G8 m c hA)) _

theorem r6 : Pipeline.afterTail₀ cfgs (dats m) 0 (V0 m) [hostOps1] c main_v6
    = fun y : S2x1024x32x64.Idx => Kc (xr m c (y 0) (y 1)) (cr m c (y 0) (y 1)) (sr m c (y 0) (y 1)) (ar m c) (y 2) (y 3) := by
  funext y
  have hy : y = ix4 (y 0) (y 1) (y 2) (y 3) := by blk_ext
  unfold Pipeline.afterTail₀
  conv_lhs => rw [hy]
  refine (tail6 _ (y 0) (y 1) (y 2) (y 3)).trans ?_
  exact congrFun ((Pipeline.withArrays_arr spec0 inj0 c (V0 m c) (fun w => (dats m 0 c).arrAt w cfg0.N) 9).trans (G9 m c hA)) _

omit hA in
theorem r7 : Pipeline.afterTail₀ cfgs (dats m) 0 (V0 m) [hostOps1] c main_v7
    = fun y : S2x1024x32.Idx => St (xr m c (y 0) (y 1)) (cr m c (y 0) (y 1)) (sr m c (y 0) (y 1)) (ar m c) (y 2) := by
  funext y
  have hy : y = ix3 (y 0) (y 1) (y 2) := by blk_ext
  unfold Pipeline.afterTail₀
  conv_lhs => rw [hy]
  refine (tail7 _ (y 0) (y 1) (y 2)).trans ?_
  exact congrFun ((Pipeline.withArrays_arr spec0 inj0 c (V0 m c) (fun w => (dats m 0 c).arrAt w cfg0.N) 10).trans (G10 m c)) _

end Cert.KernelIdeal.Val

end
-- ==== Proof.Alpha.lean ====
/- What the precondition says: no alpha is zero. -/
module

public import proofs.«01_k».proof.Defs
public import proofs.«01_k».proof.Proof.KOut
public import Idealize.ShloMosaic.Lib.Pointwise

@[expose] public section

set_option maxRecDepth 16384

noncomputable section

namespace Cert.Proof

open Idealize.ShloMosaic Idealize.ShloMosaic.TcCoe Idealize.ShloMosaic.Tactic Idealize.SL Idealize.SL.Sem

theorem preFacts : Cert.Pre_alpha_nonzero.Facts := ⟨by decide, by decide, by decide⟩

theorem andi_fold_one {ι : Type} [DecidableEq ι] (s : Finset ι) (f : ι → BitVec 1) (h : Finset.fold IntOp.andi 1#1 f s = 1#1) : ∀ i ∈ s, f i = 1#1 := by
  induction s using Finset.induction_on with
  | empty => intro i hi; exact absurd hi (Finset.notMem_empty i)
  | insert a s ha ih =>
    rw [Finset.fold_insert ha] at h
    have h2 : ∀ x y : BitVec 1, IntOp.andi x y = 1#1 → x = 1#1 ∧ y = 1#1 := by decide
    obtain ⟨ha1, hs1⟩ := h2 _ _ h
    intro i hi
    rcases Finset.mem_insert.1 hi with rfl | hi
    · exact ha1
    · exact ih hs1 i hi

theorem alpha_ne (m : (ℓ : Loc Cert.KernelIdeal.nD Cert.KernelIdeal.τ Cert.KernelIdeal.sig) → Buf (Elt Ideal) ℓ)
    (hpre : Cert.Pre_KernelIdeal_alpha_nonzero (hPre_alpha_nonzero := preFacts) m) (c : Dev Cert.KernelIdeal.nD) (h : Fin 32) :
    Cert.KernelIdeal.Val.ar m c h ≠ 0 := by
  have e := congrFun (hpre c) ix0
  unfold Cert.Pre_alpha_nonzero.fn at e
  pointwise at e
  intro h0
  have hz : @Eq EReal (m ((c.tc : Thread Cert.KernelIdeal.nD Cert.KernelIdeal.τ).loc Cert.KernelIdeal.main_arg3) (ix1 h)) 0 := h0
  have h1 := andi_fold_one _ _ e h (Finset.mem_univ _)
  refine absurd h1 ?_
  rw [decide_eq_false (fun hn => hn hz)]
  decide

end Cert.Proof

end
-- ==== Proof.RefA.lean ====
/- The reference's arrays before its codes are taken, at an index. -/
module

public import proofs.«01_k».proof.Proof.Row
public import proofs.«01_k».proof.Proof.Gen.RefIdeal
public import proofs.«01_k».proof.Proof.Gen.RefIdeal.Frame
public import Idealize.ShloMosaic.Lib.Pointwise
public import Idealize.ShloMosaic.Lib.StableHlo.ReadAt
public import Idealize.ShloMosaic.Lib.Pipeline.ValueKit
@[expose] public section

set_option maxRecDepth 16384

noncomputable section

namespace Cert.RefIdeal.Val

open Cert.RefIdeal Cert.RefIdeal.Gen Cert.Rot
open Idealize.ShloMosaic Idealize.ShloMosaic.TcCoe Idealize.ShloMosaic.Tactic
open Idealize.SL Idealize.SL.Sem

variable (m : (ℓ : Loc nD τ sig) → Buf (Elt Ideal) ℓ) (c : Dev nD)

/-- The token's row of the key, its cosines and sines, alpha, and the gradient's bytes and scales. -/
def xr (b : Fin 2) (t : Fin 1024) : Fin 4096 → EReal := fun n => m (c, Proc.tc.devRef main_arg0) (ix3 b t n)
def cr (b : Fin 2) (t : Fin 1024) : Fin 64 → EReal := fun j => m (c, Proc.tc.devRef main_arg1) (ix3 b t j)
def sr (b : Fin 2) (t : Fin 1024) : Fin 64 → EReal := fun j => m (c, Proc.tc.devRef main_arg2) (ix3 b t j)
def ar : Fin 32 → EReal := fun h => m (c, Proc.tc.devRef main_arg3) (ix1 h)
def gr (b : Fin 2) (t : Fin 1024) : Fin 32 → Fin 128 → BitVec 8 := fun h j => m (c, Proc.tc.devRef main_arg4) (ix4 b t h j)
def gsr (b : Fin 2) (t : Fin 1024) : Fin 32 → EReal := fun h => m (c, Proc.tc.devRef main_arg5) (ix3 b t h)

theorem absf_eq (x y : EReal) (h : x = y) : FloatOps.absf (F := Ideal) (φ := .f32) x = max y (-y) := by
  subst h; rfl

section
variable {F : FTy → Type} [FloatOps F]

/-- The host's operations up to the largest magnitudes. -/
abbrev opsA : List (HloOp τ sig (Elt F)) :=
  [ StableHlo.unary main_arg1 main_v0 (broadcastInDim S2x1024x1x64 ![0, 1, 3] bcast_S2x1024x64_S2x1024x1x64_0_1_3 : (⟨S2x1024x64, .f32⟩ : BufTy).Contents (Elt F) → (⟨S2x1024x1x64, .f32⟩ : BufTy).Contents (Elt F)),
    StableHlo.unary main_arg2 main_v1 (broadcastInDim S2x1024x1x64 ![0, 1, 3] bcast_S2x1024x64_S2x1024x1x64_0_1_3 : (⟨S2x1024x64, .f32⟩ : BufTy).Contents (Elt F) → (⟨S2x1024x1x64, .f32⟩ : BufTy).Contents (Elt F)),
    StableHlo.unary main_arg0 main_v2 ((extf .f32 · bitsLt_bf16_f32) : (⟨S2x1024x4096, .bf16⟩ : BufTy).Contents (Elt F) → (⟨S2x1024x4096, .f32⟩ : BufTy).Contents (Elt F)),
    StableHlo.reshape main_v2 main_v3 (rfl : (.f32 : EltTy) = .f32) shapeCasts_S2x1024x4096_S2x1024x32x128,
    StableHlo.unary main_v3 main_v4 ((extractStridedSlice S2x1024x32x64 ![0, 0, 0, 0] · slices_S2x1024x32x128_S2x1024x32x64_0_0_0_0) : (⟨S2x1024x32x128, .f32⟩ : BufTy).Contents (Elt F) → (⟨S2x1024x32x64, .f32⟩ : BufTy).Contents (Elt F)),
    StableHlo.unary main_v3 main_v5 ((extractStridedSlice S2x1024x32x64 ![0, 0, 0, 64] · slices_S2x1024x32x128_S2x1024x32x64_0_0_0_64) : (⟨S2x1024x32x128, .f32⟩ : BufTy).Contents (Elt F) → (⟨S2x1024x32x64, .f32⟩ : BufTy).Contents (Elt F)),
    StableHlo.unary main_v0 main_v6 (broadcastInDim S2x1024x32x64 ![0, 1, 2, 3] bcast_S2x1024x1x64_S2x1024x32x64_0_1_2_3 : (⟨S2x1024x1x64, .f32⟩ : BufTy).Contents (Elt F) → (⟨S2x1024x32x64, .f32⟩ : BufTy).Contents (Elt F)),
    StableHlo.binary main_v4 main_v6 main_v7 (mulf : (⟨S2x1024x32x64, .f32⟩ : BufTy).Contents (Elt F) → (⟨S2x1024x32x64, .f32⟩ : BufTy).Contents (Elt F) → (⟨S2x1024x32x64, .f32⟩ : BufTy).Contents (Elt F)),
    StableHlo.unary main_v1 main_v8 (broadcastInDim S2x1024x32x64 ![0, 1, 2, 3] bcast_S2x1024x1x64_S2x1024x32x64_0_1_2_3 : (⟨S2x1024x1x64, .f32⟩ : BufTy).Contents (Elt F) → (⟨S2x1024x32x64, .f32⟩ : BufTy).Contents (Elt F)),
    StableHlo.binary main_v5 main_v8 main_v9 (mulf : (⟨S2x1024x32x64, .f32⟩ : BufTy).Contents (Elt F) → (⟨S2x1024x32x64, .f32⟩ : BufTy).Contents (Elt F) → (⟨S2x1024x32x64, .f32⟩ : BufTy).Contents (Elt F)),
    StableHlo.binary main_v7 main_v9 main_v10 (subf : (⟨S2x1024x32x64, .f32⟩ : BufTy).Contents (Elt F) → (⟨S2x1024x32x64, .f32⟩ : BufTy).Contents (Elt F) → (⟨S2x1024x32x64, .f32⟩ : BufTy).Contents (Elt F)),
    StableHlo.unary main_v0 main_v11 (broadcastInDim S2x1024x32x64 ![0, 1, 2, 3] bcast_S2x1024x1x64_S2x1024x32x64_0_1_2_3 : (⟨S2x1024x1x64, .f32⟩ : BufTy).Contents (Elt F) → (⟨S2x1024x32x64, .f32⟩ : BufTy).Contents (Elt F)),
    StableHlo.binary main_v5 main_v11 main_v12 (mulf : (⟨S2x1024x32x64, .f32⟩ : BufTy).Contents (Elt F) → (⟨S2x1024x32x64, .f32⟩ : BufTy).Contents (Elt F) → (⟨S2x1024x32x64, .f32⟩ : BufTy).Contents (Elt F)),
    StableHlo.unary main_v1 main_v13 (broadcastInDim S2x1024x32x64 ![0, 1, 2, 3] bcast_S2x1024x1x64_S2x1024x32x64_0_1_2_3 : (⟨S2x1024x1x64, .f32⟩ : BufTy).Contents (Elt F) → (⟨S2x1024x32x64, .f32⟩ : BufTy).Contents (Elt F)),
    StableHlo.binary main_v4 main_v13 main_v14 (mulf : (⟨S2x1024x32x64, .f32⟩ : BufTy).Contents (Elt F) → (⟨S2x1024x32x64, .f32⟩ : BufTy).Contents (Elt F) → (⟨S2x1024x32x64, .f32⟩ : BufTy).Contents (Elt F)),
    StableHlo.binary main_v12 main_v14 main_v15 (addf : (⟨S2x1024x32x64, .f32⟩ : BufTy).Contents (Elt F) → (⟨S2x1024x32x64, .f32⟩ : BufTy).Contents (Elt F) → (⟨S2x1024x32x64, .f32⟩ : BufTy).Contents (Elt F)),
    StableHlo.binary main_v10 main_v15 main_v16 ((fun a b => concatenate S2x1024x32x128 3 [⟨S2x1024x32x64, a⟩, ⟨S2x1024x32x64, b⟩] concatenates_S2x1024x32x64_S2x1024x32x64_S2x1024x32x128_d3) : (⟨S2x1024x32x64, .f32⟩ : BufTy).Contents (Elt F) → (⟨S2x1024x32x64, .f32⟩ : BufTy).Contents (Elt F) → (⟨S2x1024x32x128, .f32⟩ : BufTy).Contents (Elt F)),
    StableHlo.unary main_v16 main_v17 (Host.absf : (⟨S2x1024x32x128, .f32⟩ : BufTy).Contents (Elt F) → (⟨S2x1024x32x128, .f32⟩ : BufTy).Contents (Elt F)),
    StableHlo.nullary main_cst (constant  S_ .f32 0xFF800000#32),
    StableHlo.binary main_v17 main_cst main_v18 ((fun x v => Host.reduce FloatOps.maximumf x v reducesTo_S2x1024x32x128_S2x1024x32_d3 h_S_) : (⟨S2x1024x32x128, .f32⟩ : BufTy).Contents (Elt F) → (⟨S_, .f32⟩ : BufTy).Contents (Elt F) → (⟨S2x1024x32, .f32⟩ : BufTy).Contents (Elt F)) ]
/-- Those after them, up to the step sizes' selection. -/
abbrev opsB : List (HloOp τ sig (Elt F)) :=
  [ StableHlo.nullary main_cst_0 (constant  S_ .f32 0x00000000#32),
    StableHlo.unary main_cst_0 main_v19 (broadcastInDim S2x1024x32 ![] bcast_S_S2x1024x32 : (⟨S_, .f32⟩ : BufTy).Contents (Elt F) → (⟨S2x1024x32, .f32⟩ : BufTy).Contents (Elt F)),
    StableHlo.binary main_v18 main_v19 main_v20 (cmpf .oeq : (⟨S2x1024x32, .f32⟩ : BufTy).Contents (Elt F) → (⟨S2x1024x32, .f32⟩ : BufTy).Contents (Elt F) → (⟨S2x1024x32, .i1⟩ : BufTy).Contents (Elt F)),
    StableHlo.unary main_arg3 main_v21 (broadcastInDim S1x1x32 ![2] bcast_S32_S1x1x32_2 : (⟨S32, .f32⟩ : BufTy).Contents (Elt F) → (⟨S1x1x32, .f32⟩ : BufTy).Contents (Elt F)),
    StableHlo.unary main_v21 main_v22 (broadcastInDim S2x1024x32 ![0, 1, 2] bcast_S1x1x32_S2x1024x32_0_1_2 : (⟨S1x1x32, .f32⟩ : BufTy).Contents (Elt F) → (⟨S2x1024x32, .f32⟩ : BufTy).Contents (Elt F)),
    StableHlo.binary main_v22 main_v18 main_v23 (mulf : (⟨S2x1024x32, .f32⟩ : BufTy).Contents (Elt F) → (⟨S2x1024x32, .f32⟩ : BufTy).Contents (Elt F) → (⟨S2x1024x32, .f32⟩ : BufTy).Contents (Elt F)),
    StableHlo.nullary main_cst_1 (constant  S_ .f32 0x40E00000#32),
    StableHlo.unary main_cst_1 main_v24 (broadcastInDim S2x1024x32 ![] bcast_S_S2x1024x32 : (⟨S_, .f32⟩ : BufTy).Contents (Elt F) → (⟨S2x1024x32, .f32⟩ : BufTy).Contents (Elt F)),
    StableHlo.binary main_v23 main_v24 main_v25 (Host.divf : (⟨S2x1024x32, .f32⟩ : BufTy).Contents (Elt F) → (⟨S2x1024x32, .f32⟩ : BufTy).Contents (Elt F) → (⟨S2x1024x32, .f32⟩ : BufTy).Contents (Elt F)),
    StableHlo.nullary main_cst_2 (constant  S_ .f32 0x3F800000#32) ]
end

theorem V_cut (c : Dev nD) (r : Ref sig .tc) :
    V m c r = StableHlo.after (List.flatten [(opsB (F := Ideal)), hostOps0_1 (F := Ideal), hostOps0_2]) (StableHlo.after (opsA (F := Ideal)) (fun b => m (c, b))) (Proc.devRef .tc r) := by
  unfold V
  show StableHlo.after ((opsA (F := Ideal)) ++ List.flatten [(opsB (F := Ideal)), hostOps0_1 (F := Ideal), hostOps0_2]) _ _ = _
  rw [StableHlo.after_append]

theorem a16 (b : Fin 2) (t : Fin 1024) (h : Fin 32) (j : Fin 128) :
    StableHlo.after (opsA (F := Ideal)) (fun b => m (c, b)) (Proc.devRef .tc main_v16) (ix4 b t h j) = Kr (xr m c b t) (cr m c b t) (sr m c b t) h j := by
  have hh : h.val * 128 = 128 * h.val := Nat.mul_comm _ _
  after_reads_at
  unfold Kr rotA rotB xr cr sr
  simp only [hh]

theorem a18 (b : Fin 2) (t : Fin 1024) (h : Fin 32) :
    StableHlo.after (opsA (F := Ideal)) (fun b => m (c, b)) (Proc.devRef .tc main_v18) (ix3 b t h) = Am (xr m c b t) (cr m c b t) (sr m c b t) h := by
  have hh : h.val * 128 = 128 * h.val := Nat.mul_comm _ _
  after_reads_at
  refine am_fold _ _ _ _ _ fun j => absf_eq _ _ ?_
  after_reads_at
  unfold Kr rotA rotB xr cr sr
  simp only [hh]

theorem a0 (b : Fin 2) (t : Fin 1024) (j : Fin 64) :
    StableHlo.after (opsA (F := Ideal)) (fun b => m (c, b)) (Proc.devRef .tc main_v0) (ix4 b t 0 j) = cr m c b t j := by
  unfold cr
  after_reads_at
theorem a1 (b : Fin 2) (t : Fin 1024) (j : Fin 64) :
    StableHlo.after (opsA (F := Ideal)) (fun b => m (c, b)) (Proc.devRef .tc main_v1) (ix4 b t 0 j) = sr m c b t j := by
  unfold sr
  after_reads_at
theorem a3 (h : Fin 32) :
    StableHlo.after (opsA (F := Ideal)) (fun b => m (c, b)) (Proc.devRef .tc main_arg3) (ix1 h) = ar m c h := by
  unfold ar
  after_reads_at

theorem ho1 : id (constant (F := Ideal) S_ .f32 1065353216#32) ix0 = (1 : EReal) := Ideal.ofBits_one_f32

theorem st_if (x : Fin 4096 → EReal) (c s : Fin 64 → EReal) (al : Fin 32 → EReal) (h : Fin 32) (o : EReal) (ho : o = 1) :
    (if Am x c s h = 0 then o else al h * Am x c s h * ((1 / 7 : ℝ) : EReal)) = St x c s al h := by
  subst ho; rfl

section
variable (W : Valuation τ sig (Elt Ideal)) (X : Fin 2 → Fin 1024 → Fin 4096 → EReal) (C S : Fin 2 → Fin 1024 → Fin 64 → EReal) (A : Fin 32 → EReal)
  (h16 : ∀ b t h j, W (Proc.devRef .tc main_v16) (ix4 b t h j) = Kr (X b t) (C b t) (S b t) h j)
  (h18 : ∀ b t h, W (Proc.devRef .tc main_v18) (ix3 b t h) = Am (X b t) (C b t) (S b t) h)
  (h3 : ∀ h, W (Proc.devRef .tc main_arg3) (ix1 h) = A h)
include h18 h3

theorem w26_at (b : Fin 2) (t : Fin 1024) (h : Fin 32) (R : EReal) (hR : R = St (X b t) (C b t) (S b t) A h) :
    StableHlo.after (List.flatten [(opsB (F := Ideal)), hostOps0_1 (F := Ideal), hostOps0_2]) W (Proc.devRef .tc main_v26) (ix3 b t h) = R := by
  after_reads_at
  simp only [h18, h3, ho1, div7]
  rw [hR]
  exact st_if _ _ _ _ _ _ ho1

include h16
theorem w29_at (b : Fin 2) (t : Fin 1024) (h : Fin 32) (j : Fin 128) (R : EReal) (hR : R = Ideal.div (Kr (X b t) (C b t) (S b t) h j) (St (X b t) (C b t) (S b t) A h)) :
    StableHlo.after (List.flatten [(opsB (F := Ideal)), hostOps0_1 (F := Ideal), hostOps0_2]) W (Proc.devRef .tc main_v29) (ix4 b t h j) = R := by
  after_reads_at
  simp only [h16, h18, h3, ho1, div7]
  rw [hR]
  exact congrArg (Ideal.div _) (st_if _ _ _ _ _ _ ho1)
omit h16 h18 h3

theorem w_keep (r : Ref sig .tc) (hr : r = main_v18 ∨ r = main_v0 ∨ r = main_v1) :
    StableHlo.after (List.flatten [(opsB (F := Ideal)), hostOps0_1 (F := Ideal), hostOps0_2]) W (Proc.devRef .tc r) = W (Proc.devRef .tc r) := by
  rcases hr with rfl | rfl | rfl <;> after_reads_simp
end

theorem v26_at (b : Fin 2) (t : Fin 1024) (h : Fin 32) :
    V m c main_v26 (ix3 b t h) = St (xr m c b t) (cr m c b t) (sr m c b t) (ar m c) h := by
  rw [V_cut]
  exact w26_at _ (xr m c) (cr m c) (sr m c) (ar m c) (a18 m c) (a3 m c) b t h _ rfl
theorem v29_at (b : Fin 2) (t : Fin 1024) (h : Fin 32) (j : Fin 128) :
    V m c main_v29 (ix4 b t h j) = Ideal.div (Kr (xr m c b t) (cr m c b t) (sr m c b t) h j) (St (xr m c b t) (cr m c b t) (sr m c b t) (ar m c) h) := by
  rw [V_cut]
  exact w29_at _ (xr m c) (cr m c) (sr m c) (ar m c) (a16 m c) (a18 m c) (a3 m c) b t h j _ rfl
theorem v18_at (b : Fin 2) (t : Fin 1024) (h : Fin 32) :
    V m c main_v18 (ix3 b t h) = Am (xr m c b t) (cr m c b t) (sr m c b t) h := by
  rw [V_cut, w_keep _ _ (.inl rfl)]; exact a18 m c b t h
theorem v0_at (b : Fin 2) (t : Fin 1024) (j : Fin 64) : V m c main_v0 (ix4 b t 0 j) = cr m c b t j := by
  rw [V_cut, w_keep _ _ (.inr (.inl rfl))]; exact a0 m c b t j
theorem v1_at (b : Fin 2) (t : Fin 1024) (j : Fin 64) : V m c main_v1 (ix4 b t 0 j) = sr m c b t j := by
  rw [V_cut, w_keep _ _ (.inr (.inr rfl))]; exact a1 m c b t j

end Cert.RefIdeal.Val

end
-- ==== Proof.RefB.lean ====
/- The reference's host operations after its codes are taken, at an index, over what the arrays hold before them. -/
module

public import proofs.«01_k».proof.Proof.Row
public import proofs.«01_k».proof.Proof.Gen.RefIdeal
public import proofs.«01_k».proof.Proof.Gen.RefIdeal.Frame
public import Idealize.ShloMosaic.Lib.Pointwise
public import Idealize.ShloMosaic.Lib.StableHlo.ReadAt
public import Idealize.ShloMosaic.Lib.Pipeline.ValueKit
@[expose] public section

set_option maxRecDepth 16384

noncomputable section

namespace Cert.RefIdeal.Val

open Cert.RefIdeal Cert.RefIdeal.Gen Cert.Rot
open Idealize.ShloMosaic Idealize.ShloMosaic.TcCoe Idealize.ShloMosaic.Tactic
open Idealize.SL Idealize.SL.Sem

theorem tm_eq (r : EReal) : (if FloatOps.absf (F := Ideal) (φ := .f32) r ≤ Ideal.ofBits .f32 1088421888#32 then qq r - r else qq r) = tm r := by
  unfold tm
  by_cases h : cl r = r
  · exact (if_pos (show FloatOps.absf (F := Ideal) (φ := .f32) r ≤ _ from (cl_eq_iff r).1 h)).trans (if_pos h).symm
  · exact (if_neg fun h' => h ((cl_eq_iff r).2 h')).trans (if_neg h).symm
theorem dd_eq (r g z : EReal) (hz : z = 0) : (if FloatOps.absf (F := Ideal) (φ := .f32) r ≤ Ideal.ofBits .f32 1088421888#32 then g else z) = dd r g := by
  unfold dd
  by_cases h : cl r = r
  · exact (if_pos (show FloatOps.absf (F := Ideal) (φ := .f32) r ≤ _ from (cl_eq_iff r).1 h)).trans (if_pos h).symm
  · exact ((if_neg fun h' => h ((cl_eq_iff r).2 h')).trans hz).trans (if_neg h).symm

theorem dd_eq' (r g : EReal) : (if FloatOps.absf (F := Ideal) (φ := .f32) r ≤ Ideal.ofBits .f32 1088421888#32 then g else 0) = dd r g := dd_eq r g 0 rfl

/-- A sum over the two leading axes. -/
theorem sum_lead (f : S2x1024x32.Idx → EReal) (hr : S2x1024x32.ReducesTo [0, 1] S32) (h : Fin 32) :
    Ideal.hostReduceAdd hr f 0 (ix1 h) = ∑ b : Fin 2, ∑ t : Fin 1024, f (ix3 b t h) := by
  have hf (i : S2x1024x32.Idx) : hr.drop i = ix1 h ↔ ∃ k : Fin 2 × Fin 1024, ix3 k.1 k.2 h = i := by
    have e : (hr.drop i 0).val = (i 2).val := rfl
    constructor
    · intro q
      refine ⟨(i 0, i 1), ?_⟩
      funext a; apply Fin.ext
      match a with
      | ⟨0, _⟩ => rfl
      | ⟨1, _⟩ => rfl
      | ⟨2, _⟩ => rw [q] at e; exact e
    · rintro ⟨k, rfl⟩
      funext b
      match b with
      | ⟨0, _⟩ => exact Fin.ext e
  refine (zero_add _).trans ((Finset.sum_filter_eq_sum_of_fiber _ (fun k : Fin 2 × Fin 1024 => ix3 k.1 k.2 h)
    (fun _ _ e => Prod.ext (congrFun e 0) (congrFun e 1)) hf f).trans ?_)
  simp only [Fintype.sum_prod_type]

variable (W : Valuation τ sig (Elt Ideal))
variable (X : Fin 2 → Fin 1024 → Fin 4096 → EReal) (C S : Fin 2 → Fin 1024 → Fin 64 → EReal) (A : Fin 32 → EReal)
  (G : Fin 2 → Fin 1024 → Fin 32 → Fin 128 → BitVec 8) (GS : Fin 2 → Fin 1024 → Fin 32 → EReal)
  (h29 : ∀ b t h j, W (Proc.devRef .tc main_v29) (ix4 b t h j) = Rq (X b t) (C b t) (S b t) A h j)
  (h0 : ∀ b t h j, W (Proc.devRef .tc main_v30_0) (ix4 b t h j) = FloatOps.fptosi (F := Ideal) (φ := .f32) 8 (qq (Rq (X b t) (C b t) (S b t) A h j)))
  (hq : ∀ b t h j, W (Proc.devRef .tc main_v30_1) (ix4 b t h j) = qq (Rq (X b t) (C b t) (S b t) A h j))
  (hg : ∀ b t h j, W (Proc.devRef .tc main_v30_2) (ix4 b t h j) = Ideal.ofBits .fp8e5m2 (G b t h j))
  (h18 : ∀ b t h, W (Proc.devRef .tc main_v18) (ix3 b t h) = Am (X b t) (C b t) (S b t) h)
  (hc : ∀ b t j, W (Proc.devRef .tc main_v0) (ix4 b t 0 j) = C b t j)
  (hs : ∀ b t j, W (Proc.devRef .tc main_v1) (ix4 b t 0 j) = S b t j)
  (h5 : ∀ b t h, W (Proc.devRef .tc main_arg5) (ix3 b t h) = GS b t h)

include h29 hq hg h18 h5
theorem t44 (b : Fin 2) (t : Fin 1024) (h : Fin 32) :
    StableHlo.after (List.flatten [hostOps1 (F := Ideal), hostOps1_1, hostOps1_2, hostOps1_3, hostOps1_4]) W (Proc.devRef .tc main_v44) (ix3 b t h) = Tk (X b t) (C b t) (S b t) A (G b t) (GS b t) h := by
  after_reads_at
  simp only [h29, hq, hg, h18, h5, tm_eq, div7]
  rfl

theorem t45 (h : Fin 32) :
    StableHlo.after (List.flatten [hostOps1 (F := Ideal), hostOps1_1, hostOps1_2, hostOps1_3, hostOps1_4]) W (Proc.devRef .tc main_v45) (ix1 h) = ∑ b, ∑ t, Tk (X b t) (C b t) (S b t) A (G b t) (GS b t) h := by
  after_reads_at
  refine (sum_lead _ _ h).trans (Finset.sum_congr rfl fun b _ => Finset.sum_congr rfl fun t _ => ?_)
  pointwise
  simp only [h29, hq, hg, h18, h5, tm_eq, div7]
  rfl

omit hq h18
include hc hs
theorem t60 (b : Fin 2) (t : Fin 1024) (n : Fin 4096) :
    StableHlo.after (List.flatten [hostOps1 (F := Ideal), hostOps1_1, hostOps1_2, hostOps1_3, hostOps1_4]) W (Proc.devRef .tc main_v60) (ix3 b t n)
      = Dk (X b t) (C b t) (S b t) A (G b t) (GS b t) ⟨n.val / 128, by omega⟩ ⟨n.val % 128, by omega⟩ := by
  have hz : id (constant (F := Ideal) S_ .f32 0#32) ix0 = (0 : EReal) := Ideal.ofBits_zero_f32
  have hk (hn : ¬ n.val % 128 < 64) (p) : (⟨64 + (n.val % 128 - 64), p⟩ : Fin 128) = ⟨n.val % 128, by omega⟩ := Fin.ext (by show 64 + (n.val % 128 - 64) = n.val % 128; omega)
  after_reads_at
  unfold Dk backA backB
  by_cases hn : n.val % 128 < 64
  · rw [dif_pos hn, dif_pos hn]
    after_reads_at
    simp only [h29, hg, hc, hs, h5, hz, dd_eq']
    rfl
  · rw [dif_neg hn, dif_neg hn]
    after_reads_at
    simp only [h29, hg, hc, hs, h5, hz, dd_eq', hk hn]
    rfl

omit h29 hg h5 hc hs
include h0
theorem t71 (b : Fin 2) (t : Fin 1024) (h : Fin 32) (i : Fin 64) :
    StableHlo.after (List.flatten [hostOps1 (F := Ideal), hostOps1_1, hostOps1_2, hostOps1_3, hostOps1_4]) W (Proc.devRef .tc main_v71) (ix4 b t h i) = Kc (X b t) (C b t) (S b t) A h i := by
  have e : ∀ p, (⟨1 + 2 * i.val, p⟩ : Fin 128) = ⟨2 * i.val + 1, by omega⟩ := fun p => Fin.ext (Nat.add_comm _ _)
  after_reads_at
  simp only [h0, e]
  rfl

end Cert.RefIdeal.Val

end
-- ==== Proof.RFa.lean ====
/- The reference's codes, at an index. -/
module

public import proofs.«01_k».proof.Proof.RefA
public import proofs.«01_k».proof.Proof.RefB
@[expose] public section

set_option maxRecDepth 16384

noncomputable section

namespace Cert.RefIdeal.Val

open Cert.RefIdeal Cert.RefIdeal.Gen Cert.Rot
open Idealize.ShloMosaic Idealize.ShloMosaic.TcCoe Idealize.ShloMosaic.Tactic
open Idealize.SL Idealize.SL.Sem

theorem ridx : ∀ t : Fin cfg0.N, win0_0.index t = ![0, 0, 0, 0] ∧ win0_1.index t = ![0, 0, 0, 0] ∧ win0_2.index t = ![0, 0, 0, 0] ∧ win0_3.index t = ![0, 0, 0, 0] ∧ win0_4.index t = ![0, 0, 0, 0] := by decide +kernel
theorem re2 (t : Fin cfg0.N) (y : S2x1024x32x128.Idx) : (win0_2.blk t).view.emb y = y := by blk_ext [ridx t]
theorem re3 (t : Fin cfg0.N) (y : S2x1024x32x128.Idx) : (win0_3.blk t).view.emb y = y := by blk_ext [ridx t]
theorem re4 (t : Fin cfg0.N) (y : S2x1024x32x128.Idx) : (win0_4.blk t).view.emb y = y := by blk_ext [ridx t]
theorem re0 (t : Fin cfg0.N) (y : S2x1024x32x128.Idx) : (win0_0.blk t).view.emb y = y := by blk_ext [ridx t]
theorem re1 (t : Fin cfg0.N) (y : S2x1024x32x128.Idx) : (win0_1.blk t).view.emb y = y := by blk_ext [ridx t]

theorem pay1_at (x : S2x1024x32x128.Idx → EReal) (y : S2x1024x32x128.Idx) :
    k0_pay1 (F := Ideal) x y = FloatOps.fptosi (F := Ideal) (φ := .f32) 8 (qq (x y)) := by
  rw [← cl_round]
  unfold k0_pay1
  rw [shapeCast_self]
  rfl

theorem sitofp_qq (r : EReal) : FloatOps.sitofp (F := Ideal) .f32 (FloatOps.fptosi (F := Ideal) (φ := .f32) 8 (qq r)) = qq r := by
  obtain ⟨n, h1, h2, e⟩ := qq_int r
  rw [e]
  show (((BitVec.ofInt 8 (Ideal.toIntClamped _ _ ((n : ℝ) : EReal))).toInt : ℝ) : EReal) = _
  rw [Ideal.toIntClamped_coe, Int.floor_intCast, Int.ceil_intCast, ite_self, min_eq_right (by norm_num; omega), max_eq_right (by norm_num; omega)]
  have : (BitVec.ofInt 8 n).toInt = n := by
    interval_cases n <;> decide
  rw [this]

variable (m : (ℓ : Loc nD τ sig) → Buf (Elt Ideal) ℓ) (c : Dev nD)

/-- A window's array, under its name. -/
theorem nm0 (f : (b : Ref sig .tc) → Buf (Elt Ideal) ((c : Thread nD τ).loc b)) (y : S2x1024x32x128.Idx) : f (Pipeline.arrRef spec0 0) y = f main_v29 y := rfl
theorem nm1 (f : (b : Ref sig .tc) → Buf (Elt Ideal) ((c : Thread nD τ).loc b)) (y : S2x1024x32x128.Idx) : f (Pipeline.arrRef spec0 1) y = f main_arg4 y := rfl

/-- A window's only block is its array. -/
theorem bk0 (f : (b : Ref sig .tc) → Buf (Elt Ideal) ((c : Thread nD τ).loc b)) (t : Fin cfg0.N) (y : S2x1024x32x128.Idx) :
    ((cfg0.win 0).blk t).view.read (Elt Ideal) (f (Pipeline.arrRef spec0 0)) y = f (Pipeline.arrRef spec0 0) y := congrArg (f (Pipeline.arrRef spec0 0)) (re0 t y)
theorem bk1 (f : (b : Ref sig .tc) → Buf (Elt Ideal) ((c : Thread nD τ).loc b)) (t : Fin cfg0.N) (y : S2x1024x32x128.Idx) :
    ((cfg0.win 1).blk t).view.read (Elt Ideal) (f (Pipeline.arrRef spec0 1)) y = f (Pipeline.arrRef spec0 1) y := congrArg (f (Pipeline.arrRef spec0 1)) (re1 t y)

theorem blk0 (t : Fin cfg0.N) (y : S2x1024x32x128.Idx) : iblk m c 0 t y = V m c main_v29 y :=
  (bk0 c (V m c) t y).trans (nm0 c (V m c) y)
theorem blk1 (t : Fin cfg0.N) (y : S2x1024x32x128.Idx) : iblk m c 1 t y = m (c, Proc.tc.devRef main_arg4) y :=
  ((bk1 c (V m c) t y).trans (nm1 c (V m c) y)).trans (congrFun (V_main_arg4 m c) y)

theorem out2_at (x : S2x1024x32x128.Idx → EReal) (g : S2x1024x32x128.Idx → BitVec 8) : out0_2 (F := Ideal) x g = k0_pay1 (F := Ideal) x := by
  unfold out0_2 r0_0
  rw [View.canon_cons_unit_lit, View.ld_unit_lit] <;> decide
theorem out3_at (x : S2x1024x32x128.Idx → EReal) (g : S2x1024x32x128.Idx → BitVec 8) : out0_3 (F := Ideal) x g = k0_pay2 (F := Ideal) x := by
  unfold out0_3 r0_0
  rw [View.canon_cons_unit_lit, View.ld_unit_lit] <;> decide
theorem out4_at (x : S2x1024x32x128.Idx → EReal) (g : S2x1024x32x128.Idx → BitVec 8) : out0_4 (F := Ideal) x g = k0_pay3 (F := Ideal) g := by
  unfold out0_4 r0_0
  rw [View.canon_cons_unit_lit, View.ld_unit_lit] <;> decide

end Cert.RefIdeal.Val

end
-- ==== Proof.RFb.lean ====
/- The reference's code arrays. -/
module

public import proofs.«01_k».proof.Proof.RefA
public import proofs.«01_k».proof.Proof.RFa
@[expose] public section

set_option maxRecDepth 16384

noncomputable section

namespace Cert.RefIdeal.Val

open Cert.RefIdeal Cert.RefIdeal.Gen Cert.Rot
open Idealize.ShloMosaic Idealize.ShloMosaic.TcCoe Idealize.ShloMosaic.Tactic
open Idealize.SL Idealize.SL.Sem

variable (m : (ℓ : Loc nD τ sig) → Buf (Elt Ideal) ℓ) (c : Dev nD)

/-- A window's array as a function of the quotients' array, and of the gradient's bytes. -/
def G2 (X : S2x1024x32x128.Idx → EReal) (y : S2x1024x32x128.Idx) : BitVec 8 := FloatOps.fptosi (F := Ideal) (φ := .f32) 8 (qq (X y))
def G3 (X : S2x1024x32x128.Idx → EReal) (y : S2x1024x32x128.Idx) : EReal := qq (X y)
def G4 (X : S2x1024x32x128.Idx → BitVec 8) (y : S2x1024x32x128.Idx) : EReal := Ideal.ofBits .fp8e5m2 (X y)

theorem p2 (x : S2x1024x32x128.Idx → EReal) (y : S2x1024x32x128.Idx) : k0_pay1 (F := Ideal) x y = G2 x y := pay1_at x y
theorem p3 (x : S2x1024x32x128.Idx → EReal) (y : S2x1024x32x128.Idx) : k0_pay2 (F := Ideal) x y = G3 x y :=
  (congrArg (FloatOps.sitofp (F := Ideal) .f32) (pay1_at x y)).trans (sitofp_qq _)
theorem p4 (x : S2x1024x32x128.Idx → BitVec 8) (y : S2x1024x32x128.Idx) : k0_pay3 (F := Ideal) x y = G4 x y := rfl
theorem g2_congr (X X' : S2x1024x32x128.Idx → EReal) (y : S2x1024x32x128.Idx) (h : X y = X' y) : G2 X y = G2 X' y := by unfold G2; rw [h]
theorem g3_congr (X X' : S2x1024x32x128.Idx → EReal) (y : S2x1024x32x128.Idx) (h : X y = X' y) : G3 X y = G3 X' y := by unfold G3; rw [h]
theorem g4_congr (X X' : S2x1024x32x128.Idx → BitVec 8) (y : S2x1024x32x128.Idx) (h : X y = X' y) : G4 X y = G4 X' y := by unfold G4; rw [h]

theorem A2 : (dats m 0 c).arrAt 2 cfg0.N = G2 (V m c main_v29) :=
  (dats m 0 c).arrAt_eq_of_covers 2 _ (by decide +kernel) fun t hf y =>
    (congrFun ((after0_2 m c t).trans (out2_at _ _)) y).trans ((p2 _ y).trans ((g2_congr _ _ y (blk0 m c t y)).trans (congrArg (G2 (V m c main_v29)) (re2 t y)).symm))
theorem A3 : (dats m 0 c).arrAt 3 cfg0.N = G3 (V m c main_v29) :=
  (dats m 0 c).arrAt_eq_of_covers 3 _ (by decide +kernel) fun t hf y =>
    (congrFun ((after0_3 m c t).trans (out3_at _ _)) y).trans ((p3 _ y).trans ((g3_congr _ _ y (blk0 m c t y)).trans (congrArg (G3 (V m c main_v29)) (re3 t y)).symm))
theorem A4 : (dats m 0 c).arrAt 4 cfg0.N = G4 (m (c, Proc.tc.devRef main_arg4)) :=
  (dats m 0 c).arrAt_eq_of_covers 4 _ (by decide +kernel) fun t hf y =>
    (congrFun ((after0_4 m c t).trans (out4_at _ _)) y).trans ((p4 _ y).trans ((g4_congr _ _ y (blk1 m c t y)).trans (congrArg (G4 (m (c, Proc.tc.devRef main_arg4))) (re4 t y)).symm))

end Cert.RefIdeal.Val

end
-- ==== Proof.RFin.lean ====
/- The reference's results, at an index. -/
module

public import proofs.«01_k».proof.Proof.RefA
public import proofs.«01_k».proof.Proof.RefB
public import proofs.«01_k».proof.Proof.RFb
@[expose] public section

set_option maxRecDepth 16384

noncomputable section

namespace Cert.RefIdeal.Val

open Cert.RefIdeal Cert.RefIdeal.Gen Cert.Rot
open Idealize.ShloMosaic Idealize.ShloMosaic.TcCoe Idealize.ShloMosaic.Tactic
open Idealize.SL Idealize.SL.Sem

variable (m : (ℓ : Loc nD τ sig) → Buf (Elt Ideal) ℓ) (c : Dev nD)

/-- The memory the operations after the codes start from. -/
def WW : Valuation τ sig (Elt Ideal) := Pipeline.withArrays spec0 c (V0 m c) (fun w => (dats m 0 c).arrAt w cfg0.N)

theorem inj0 : Function.Injective (Pipeline.arrRef spec0) := by decide

theorem WW_keep (r : Ref sig .tc) (h : ∀ w, Pipeline.arrRef spec0 w ≠ r) : WW m c (Proc.devRef .tc r) = V m c r :=
  Pipeline.withArrays_of_ne spec0 c (V0 m c) _ r h

variable (hA : ∀ h, ar m c h ≠ 0)
include hA

theorem q29 (b : Fin 2) (t : Fin 1024) (h : Fin 32) (j : Fin 128) : V m c main_v29 (ix4 b t h j) = Rq (xr m c b t) (cr m c b t) (sr m c b t) (ar m c) h j := by
  rw [v29_at, div_st _ _ _ _ _ _ (hA h)]; rfl

theorem w29 (b : Fin 2) (t : Fin 1024) (h : Fin 32) (j : Fin 128) : WW m c (Proc.devRef .tc main_v29) (ix4 b t h j) = Rq (xr m c b t) (cr m c b t) (sr m c b t) (ar m c) h j := by
  refine (congrFun (Pipeline.withArrays_arr spec0 inj0 c (V0 m c) (fun w => (dats m 0 c).arrAt w cfg0.N) 0) _).trans ?_
  refine (congrFun ((dats m 0 c).arrAt_in 0 rfl _) _).trans ?_
  exact q29 m c hA b t h j

theorem w0 (b : Fin 2) (t : Fin 1024) (h : Fin 32) (j : Fin 128) :
    WW m c (Proc.devRef .tc main_v30_0) (ix4 b t h j) = FloatOps.fptosi (F := Ideal) (φ := .f32) 8 (qq (Rq (xr m c b t) (cr m c b t) (sr m c b t) (ar m c) h j)) := by
  refine (congrFun ((Pipeline.withArrays_arr spec0 inj0 c (V0 m c) (fun w => (dats m 0 c).arrAt w cfg0.N) 2).trans (A2 m c)) _).trans ?_
  exact congrArg (fun z => FloatOps.fptosi (F := Ideal) (φ := .f32) 8 (qq z)) (q29 m c hA b t h j)

theorem wq (b : Fin 2) (t : Fin 1024) (h : Fin 32) (j : Fin 128) :
    WW m c (Proc.devRef .tc main_v30_1) (ix4 b t h j) = qq (Rq (xr m c b t) (cr m c b t) (sr m c b t) (ar m c) h j) := by
  refine (congrFun ((Pipeline.withArrays_arr spec0 inj0 c (V0 m c) (fun w => (dats m 0 c).arrAt w cfg0.N) 3).trans (A3 m c)) _).trans ?_
  exact congrArg qq (q29 m c hA b t h j)

omit hA
theorem wg (b : Fin 2) (t : Fin 1024) (h : Fin 32) (j : Fin 128) :
    WW m c (Proc.devRef .tc main_v30_2) (ix4 b t h j) = Ideal.ofBits .fp8e5m2 (gr m c b t h j) :=
  congrFun ((Pipeline.withArrays_arr spec0 inj0 c (V0 m c) (fun w => (dats m 0 c).arrAt w cfg0.N) 4).trans (A4 m c)) _

theorem w18 (b : Fin 2) (t : Fin 1024) (h : Fin 32) : WW m c (Proc.devRef .tc main_v18) (ix3 b t h) = Am (xr m c b t) (cr m c b t) (sr m c b t) h := by
  rw [WW_keep m c main_v18 (by decide)]; exact v18_at m c b t h
theorem wc (b : Fin 2) (t : Fin 1024) (j : Fin 64) : WW m c (Proc.devRef .tc main_v0) (ix4 b t 0 j) = cr m c b t j := by
  rw [WW_keep m c main_v0 (by decide)]; exact v0_at m c b t j
theorem ws (b : Fin 2) (t : Fin 1024) (j : Fin 64) : WW m c (Proc.devRef .tc main_v1) (ix4 b t 0 j) = sr m c b t j := by
  rw [WW_keep m c main_v1 (by decide)]; exact v1_at m c b t j
theorem w5 (b : Fin 2) (t : Fin 1024) (h : Fin 32) : WW m c (Proc.devRef .tc main_arg5) (ix3 b t h) = gsr m c b t h := by
  rw [WW_keep m c main_arg5 (by decide), V_main_arg5]; rfl

theorem keep26 (W : Valuation τ sig (Elt Ideal)) :
    StableHlo.after (List.flatten [hostOps1 (F := Ideal), hostOps1_1, hostOps1_2, hostOps1_3, hostOps1_4]) W (Proc.devRef .tc main_v26) = W (Proc.devRef .tc main_v26) := by
  exact StableHlo.after_of_forall_not_mem (b := Proc.devRef .tc main_v26) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem r26 : Pipeline.afterTail₀ cfgs (dats m) 0 (V0 m) [hostOps1, hostOps1_1, hostOps1_2, hostOps1_3, hostOps1_4] c main_v26
    = fun y : S2x1024x32.Idx => St (xr m c (y 0) (y 1)) (cr m c (y 0) (y 1)) (sr m c (y 0) (y 1)) (ar m c) (y 2) := by
  funext y
  have hy : y = ix3 (y 0) (y 1) (y 2) := by blk_ext
  unfold Pipeline.afterTail₀
  refine (congrFun (keep26 (WW m c)) y).trans ?_
  rw [WW_keep m c main_v26 (by decide)]
  conv_lhs => rw [hy]
  exact v26_at m c (y 0) (y 1) (y 2)

include hA
theorem r44 : Pipeline.afterTail₀ cfgs (dats m) 0 (V0 m) [hostOps1, hostOps1_1, hostOps1_2, hostOps1_3, hostOps1_4] c main_v44
    = fun y : S2x1024x32.Idx => Tk (xr m c (y 0) (y 1)) (cr m c (y 0) (y 1)) (sr m c (y 0) (y 1)) (ar m c) (gr m c (y 0) (y 1)) (gsr m c (y 0) (y 1)) (y 2) := by
  funext y
  have hy : y = ix3 (y 0) (y 1) (y 2) := by blk_ext
  unfold Pipeline.afterTail₀
  conv_lhs => rw [hy]
  exact t44 (WW m c) _ _ _ _ _ _ (w29 m c hA) (wq m c hA) (wg m c) (w18 m c) (w5 m c) (y 0) (y 1) (y 2)

theorem r45 : Pipeline.afterTail₀ cfgs (dats m) 0 (V0 m) [hostOps1, hostOps1_1, hostOps1_2, hostOps1_3, hostOps1_4] c main_v45
    = fun y : S32.Idx => ∑ b, ∑ t, Tk (xr m c b t) (cr m c b t) (sr m c b t) (ar m c) (gr m c b t) (gsr m c b t) (y 0) := by
  funext y
  have hy : y = ix1 (y 0) := by blk_ext
  unfold Pipeline.afterTail₀
  conv_lhs => rw [hy]
  exact t45 (WW m c) _ _ _ _ _ _ (w29 m c hA) (wq m c hA) (wg m c) (w18 m c) (w5 m c) (y 0)

theorem r60 : Pipeline.afterTail₀ cfgs (dats m) 0 (V0 m) [hostOps1, hostOps1_1, hostOps1_2, hostOps1_3, hostOps1_4] c main_v60
    = fun y : S2x1024x4096.Idx => Dk (xr m c (y 0) (y 1)) (cr m c (y 0) (y 1)) (sr m c (y 0) (y 1)) (ar m c) (gr m c (y 0) (y 1)) (gsr m c (y 0) (y 1))
        ⟨(y 2).val / 128, by have : (y 2).val < 4096 := (y 2).isLt; omega⟩ ⟨(y 2).val % 128, by omega⟩ := by
  funext y
  have hy : y = ix3 (y 0) (y 1) (y 2) := by blk_ext
  unfold Pipeline.afterTail₀
  conv_lhs => rw [hy]
  exact t60 (WW m c) _ _ _ _ _ _ (h29 := w29 m c hA) (hg := wg m c) (h5 := w5 m c) (hc := wc m c) (hs := ws m c) (y 0) (y 1) (y 2)

theorem r71 : Pipeline.afterTail₀ cfgs (dats m) 0 (V0 m) [hostOps1, hostOps1_1, hostOps1_2, hostOps1_3, hostOps1_4] c main_v71
    = fun y : S2x1024x32x64.Idx => Kc (xr m c (y 0) (y 1)) (cr m c (y 0) (y 1)) (sr m c (y 0) (y 1)) (ar m c) (y 2) (y 3) := by
  funext y
  have hy : y = ix4 (y 0) (y 1) (y 2) (y 3) := by blk_ext
  unfold Pipeline.afterTail₀
  conv_lhs => rw [hy]
  exact t71 (WW m c) _ _ _ _ (h0 := w0 m c hA) (y 0) (y 1) (y 2) (y 3)

end Cert.RefIdeal.Val

end
-- ==== Proof.lean ====
module

public import proofs.«01_k».proof.Defs
public import proofs.«01_k».proof.Proof.WeakRunKernel
public import proofs.«01_k».proof.Proof.WeakRunKernelIdeal
public import proofs.«01_k».proof.Proof.KFin
public import proofs.«01_k».proof.Proof.Alpha
public import proofs.«01_k».proof.Proof.RFin
public import Idealize.ShloMosaic.Adequacy
public import Idealize.ShloMosaic.Init

@[expose] public section

set_option maxRecDepth 16384

noncomputable section

namespace Cert.Proof

open Idealize.ShloMosaic Idealize.ShloMosaic.TcCoe Idealize.SL Idealize.SL.Sem
open Cert.Rot

theorem frame_kernel : Cert.quiescent_Kernel (hKernel := Cert.Kernel.Gen.facts) :=
  fun m g _ => Cert.Kernel.Weak.run (F := Bits) m g

theorem frame_kernelIdeal : Cert.quiescent_KernelIdeal (hKernelIdeal := Cert.KernelIdeal.Gen.facts) :=
  fun m g _ => Cert.KernelIdeal.Weak.run (F := Ideal) m g

theorem frame_refIdeal : Cert.quiescent_RefIdeal (hRefIdeal := Cert.RefIdeal.Gen.facts) :=
  fun m g _ => Cert.RefIdeal.Gen.frame m g

theorem preserves : Cert.preserves_Kernel_KernelIdeal :=
  IdealRules.named_const.statement Cert.KernelIdeal.κ "inv7" .f32 0x3E124925#32 ((1 / 7 : ℝ) : EReal) rfl

/-! ## The results -/

section
open Cert.KernelIdeal Cert.KernelIdeal.Gen Cert.KernelIdeal.Val

/-- What the ideal kernel returns. -/
theorem kernel_run (m : (ℓ : Loc nD τ sig) → Buf (Elt Ideal) ℓ) (g : Dev nD → PrngReg) (hA : ∀ c h, ar m c h ≠ 0) :
    θ_run (defs (F := Ideal)) (onTc (τ := τ) (main (F := Ideal))) ⟨m, fun _ => 0, g⟩ (fun r => ∀ c : Dev nD,
      r.2.mem ((c.tc : Thread nD τ).loc main_v3_0) = G6f m c
      ∧ r.2.mem ((c.tc : Thread nD τ).loc main_v4) = (fun y : S32.Idx => ∑ b, ∑ t, TK m c b t (y 0))
      ∧ r.2.mem ((c.tc : Thread nD τ).loc main_v5) = (fun y : S2x1024x32.Idx => TK m c (y 0) (y 1) (y 2))
      ∧ r.2.mem ((c.tc : Thread nD τ).loc main_v6) = (fun y : S2x1024x32x64.Idx => Kc (xr m c (y 0) (y 1)) (cr m c (y 0) (y 1)) (sr m c (y 0) (y 1)) (ar m c) (y 2) (y 3))
      ∧ r.2.mem ((c.tc : Thread nD τ).loc main_v7) = (fun y : S2x1024x32.Idx => St (xr m c (y 0) (y 1)) (cr m c (y 0) (y 1)) (sr m c (y 0) (y 1)) (ar m c) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun r h c => ⟨
      ((h c).1 6).trans (G6 m c (hA c)),
      ((h c).2 main_v4 (Pipeline.mem_restRefs_of main_v4 (by decide) (by decide))).trans (r4 m c (hA c)),
      ((h c).2 main_v5 (Pipeline.mem_restRefs_of main_v5 (by decide) (by decide))).trans (r5 m c (hA c)),
      ((h c).2 main_v6 (Pipeline.mem_restRefs_of main_v6 (by decide) (by decide))).trans (r6 m c (hA c)),
      ((h c).2 main_v7 (Pipeline.mem_restRefs_of main_v7 (by decide) (by decide))).trans (r7 m c),
      ((h c).1 1).trans (((dats m 0 c).arrAt_in 1 rfl _).trans ((A_eq m c 1).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 0).trans (((dats m 0 c).arrAt_in 0 rfl _).trans ((A_eq m c 0).trans (V_main_arg3 m c))),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c))⟩) (runV m g)
end

section
open Cert.RefIdeal Cert.RefIdeal.Gen Cert.RefIdeal.Val

/-- What the reference returns. -/
theorem ref_run (m : (ℓ : Loc nD τ sig) → Buf (Elt Ideal) ℓ) (g : Dev nD → PrngReg) (hA : ∀ c h, ar m c h ≠ 0) :
    θ_run (defs (F := Ideal)) (onTc (τ := τ) (main (F := Ideal))) ⟨m, fun _ => 0, g⟩ (fun r => ∀ c : Dev nD,
      r.2.mem ((c.tc : Thread nD τ).loc main_v60) = (fun y : S2x1024x4096.Idx => Dk (xr m c (y 0) (y 1)) (cr m c (y 0) (y 1)) (sr m c (y 0) (y 1)) (ar m c) (gr m c (y 0) (y 1)) (gsr m c (y 0) (y 1))
        ⟨(y 2).val / 128, by have : (y 2).val < 4096 := (y 2).isLt; omega⟩ ⟨(y 2).val % 128, by omega⟩)
      ∧ r.2.mem ((c.tc : Thread nD τ).loc main_v45) = (fun y : S32.Idx => ∑ b, ∑ t, Tk (xr m c b t) (cr m c b t) (sr m c b t) (ar m c) (gr m c b t) (gsr m c b t) (y 0))
      ∧ r.2.mem ((c.tc : Thread nD τ).loc main_v44) = (fun y : S2x1024x32.Idx => Tk (xr m c (y 0) (y 1)) (cr m c (y 0) (y 1)) (sr m c (y 0) (y 1)) (ar m c) (gr m c (y 0) (y 1)) (gsr m c (y 0) (y 1)) (y 2))
      ∧ r.2.mem ((c.tc : Thread nD τ).loc main_v71) = (fun y : S2x1024x32x64.Idx => Kc (xr m c (y 0) (y 1)) (cr m c (y 0) (y 1)) (sr m c (y 0) (y 1)) (ar m c) (y 2) (y 3))
      ∧ r.2.mem ((c.tc : Thread nD τ).loc main_v26) = (fun y : S2x1024x32.Idx => St (xr m c (y 0) (y 1)) (cr m c (y 0) (y 1)) (sr m c (y 0) (y 1)) (ar m c) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun r h c => ⟨
      ((h c).2 main_v60 (Pipeline.mem_restRefs_of main_v60 (by decide) (by decide))).trans (r60 m c (hA c)),
      ((h c).2 main_v45 (Pipeline.mem_restRefs_of main_v45 (by decide) (by decide))).trans (r45 m c (hA c)),
      ((h c).2 main_v44 (Pipeline.mem_restRefs_of main_v44 (by decide) (by decide))).trans (r44 m c (hA c)),
      ((h c).2 main_v71 (Pipeline.mem_restRefs_of main_v71 (by decide) (by decide))).trans (r71 m c (hA c)),
      ((h c).2 main_v26 (Pipeline.mem_restRefs_of main_v26 (by decide) (by decide))).trans (r26 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 1).trans (((dats m 0 c).arrAt_in 1 rfl _).trans (V_main_arg4 m c)),
      (((h c).2 main_arg5 (Pipeline.mem_restRefs_of main_arg5 (by decide) (by decide))).trans (W_main_arg5 m (dats m) c))⟩) (run_main m g)
end

theorem algebraic : Cert.algebraic_KernelIdeal_RefIdeal_pre_alpha_nonzero (hKernelIdeal := Cert.KernelIdeal.Gen.facts) (hRefIdeal := Cert.RefIdeal.Gen.facts)
    (hPre_alpha_nonzero := preFacts) := by
  intro m g m' g' hpre hargs
  have hA : ∀ c h, Cert.KernelIdeal.Val.ar m c h ≠ 0 := fun c h => alpha_ne m hpre c h
  have ex : ∀ c, Cert.RefIdeal.Val.xr m' c = Cert.KernelIdeal.Val.xr m c := fun c => funext fun b => funext fun t => funext fun n => congrFun (hargs c).1 (ix3 b t n)
  have ec : ∀ c, Cert.RefIdeal.Val.cr m' c = Cert.KernelIdeal.Val.cr m c := fun c => funext fun b => funext fun t => funext fun n => congrFun (hargs c).2.1 (ix3 b t n)
  have es : ∀ c, Cert.RefIdeal.Val.sr m' c = Cert.KernelIdeal.Val.sr m c := fun c => funext fun b => funext fun t => funext fun n => congrFun (hargs c).2.2.1 (ix3 b t n)
  have ea : ∀ c, Cert.RefIdeal.Val.ar m' c = Cert.KernelIdeal.Val.ar m c := fun c => funext fun h => congrFun (hargs c).2.2.2.1 (ix1 h)
  have eg : ∀ c, Cert.RefIdeal.Val.gr m' c = Cert.KernelIdeal.Val.gr m c := fun c => funext fun b => funext fun t => funext fun h => funext fun j => congrFun (hargs c).2.2.2.2.1 (ix4 b t h j)
  have egs : ∀ c, Cert.RefIdeal.Val.gsr m' c = Cert.KernelIdeal.Val.gsr m c := fun c => funext fun b => funext fun t => funext fun h => congrFun (hargs c).2.2.2.2.2 (ix3 b t h)
  refine ⟨_, _, _, _, _, kernel_run m g hA, ?_⟩
  have hr := ref_run m' g' (fun c h => by rw [ea c]; exact hA c h)
  simp only [ex, ec, es, ea, eg, egs] at hr
  exact hr

theorem claim : Cert.Claim :=
  ⟨Cert.Kernel.Gen.facts, Cert.KernelIdeal.Gen.facts, Cert.RefIdeal.Gen.facts, preFacts, frame_kernel, frame_kernelIdeal,
    fun m g _ => frame_kernelIdeal m g trivial, frame_refIdeal, fun m g _ => frame_refIdeal m g trivial, preserves, algebraic⟩

end Cert.Proof

end
